-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x38AAAAAB#32 ((1 / 12288 : ℝ) : EReal)

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_affine : Cert.Pre_finite_affine.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ preserves_Kernel_KernelIdeal
    ∧ algebraic_KernelIdeal_ReferenceIdeal_pre_finite_affine (hKernelIdeal := hKernelIdeal) (hReferenceIdeal := hReferenceIdeal) (hPre_finite_affine := hPre_finite_affine)
-- ==== Pre_finite_affine.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn {F : FTy → Type} [FloatOps F] (main_arg0 : FVec F S4x2x128x12288 .fp8e4m3) (main_arg1 : FVec F S4x2x128 .f32) (main_arg2 : FVec F S12288 .f32) (main_arg3 : FVec F S2x128x12288 .bf16) (main_arg4 : FVec F S12288 .f32) (main_arg5 : FVec F S12288 .f32) : IVec S_ 1 :=
  let main_v0 : FVec F S12288 .f32 := Host.absf main_arg4
  let main_cst : FVec F S_ .f32 := constant S_ .f32 0x7F7FFFFF#32
  let main_v1 : FVec F S12288 .f32 := broadcastInDim S12288 ![] bcast_S_S12288 main_cst
  let main_v2 : IVec S12288 1 := cmpf .ole main_v0 main_v1
  let main_c : IVec S_ 1 := constantI S_ 1 1#1
  let main_v3 : IVec S_ 1 := (fun x v => Host.reduce IntOp.andi x v reducesTo_S12288_S_d0 h_S_) main_v2 main_c
  let main_v4 : FVec F S12288 .f32 := Host.absf main_arg5
  let main_cst_0 : FVec F S_ .f32 := constant S_ .f32 0x7F7FFFFF#32
  let main_v5 : FVec F S12288 .f32 := broadcastInDim S12288 ![] bcast_S_S12288 main_cst_0
  let main_v6 : IVec S12288 1 := cmpf .ole main_v4 main_v5
  let main_c_1 : IVec S_ 1 := constantI S_ 1 1#1
  let main_v7 : IVec S_ 1 := (fun x v => Host.reduce IntOp.andi x v reducesTo_S12288_S_d0 h_S_) main_v6 main_c_1
  let main_v8 : IVec S_ 1 := andi main_v3 main_v7
  main_v8
-- ==== Kernel.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S4x256x12288 : Shape := ⟨3, ![4, 256, 12288]⟩
abbrev S1x12288 : Shape := ⟨2, ![1, 12288]⟩
abbrev S256x12288 : Shape := ⟨2, ![256, 12288]⟩
abbrev S2x128 : Shape := ⟨2, ![2, 128]⟩
abbrev S8x4x32x12288 : Shape := ⟨4, ![8, 4, 32, 12288]⟩
abbrev S8x32x12288 : Shape := ⟨3, ![8, 32, 12288]⟩
abbrev S32x12288 : Shape := ⟨2, ![32, 12288]⟩
abbrev S8x32x128 : Shape := ⟨3, ![8, 32, 128]⟩
abbrev S2x8 : Shape := ⟨2, ![2, 8]⟩
abbrev S4 : Shape := ⟨1, ![4]⟩
abbrev S8 : Shape := ⟨1, ![8]⟩
abbrev S1 : Shape := ⟨1, ![1]⟩
abbrev S_ : Shape := ⟨0, ![]⟩
abbrev S1x1 : Shape := ⟨2, ![1, 1]⟩
abbrev S1x4x32x12288 : Shape := ⟨4, ![1, 4, 32, 12288]⟩
abbrev S4x32x12288 : Shape := ⟨3, ![4, 32, 12288]⟩
abbrev S1x32x12288 : Shape := ⟨3, ![1, 32, 12288]⟩
abbrev S32x128 : Shape := ⟨2, ![32, 128]⟩
abbrev S1x1x128 : Shape := ⟨3, ![1, 1, 128]⟩
abbrev S1x128 : Shape := ⟨2, ![1, 128]⟩
abbrev S1x32x128 : Shape := ⟨3, ![1, 32, 128]⟩
abbrev S1x4x32x512 : Shape := ⟨4, ![1, 4, 32, 512]⟩
abbrev S4x32x512 : Shape := ⟨3, ![4, 32, 512]⟩
abbrev S128x512 : Shape := ⟨2, ![128, 512]⟩
abbrev S32x512 : Shape := ⟨2, ![32, 512]⟩
abbrev S1x512 : Shape := ⟨2, ![1, 512]⟩
abbrev S1x32x512 : Shape := ⟨3, ![1, 32, 512]⟩
abbrev S32 : Shape := ⟨1, ![32]⟩
abbrev S32x1 : Shape := ⟨2, ![32, 1]⟩
abbrev S128 : Shape := ⟨1, ![128]⟩

abbrev nBuf : Space → Nat
  | .hbm => 16
  | .vmem => 11
  | .smem => 0
  | _ => 0

abbrev bufTy : (tb : Table) → Fin (tcTables nBuf tb) → BufTy
  | .hbm, ⟨0, _⟩ => ⟨S4x2x128x12288, .fp8e4m3⟩
  | .hbm, ⟨1, _⟩ => ⟨S4x2x128, .f32⟩
  | .hbm, ⟨2, _⟩ => ⟨S12288, .f32⟩
  | .hbm, ⟨3, _⟩ => ⟨S2x128x12288, .bf16⟩
  | .hbm, ⟨4, _⟩ => ⟨S12288, .f32⟩
  | .hbm, ⟨5, _⟩ => ⟨S12288, .f32⟩
  | .hbm, ⟨6, _⟩ => ⟨S4x256x12288, .fp8e4m3⟩
  | .hbm, ⟨7, _⟩ => ⟨S1x12288, .f32⟩
  | .hbm, ⟨8, _⟩ => ⟨S256x12288, .bf16⟩
  | .hbm, ⟨9, _⟩ => ⟨S1x12288, .f32⟩
  | .hbm, ⟨10, _⟩ => ⟨S1x12288, .f32⟩
  | .hbm, ⟨11, _⟩ => ⟨S256x12288, .bf16⟩
  | .hbm, ⟨12, _⟩ => ⟨S256x12288, .fp8e4m3⟩
  | .hbm, ⟨13, _⟩ => ⟨S2x128, .f32⟩
  | .hbm, ⟨14, _⟩ => ⟨S2x128x12288, .bf16⟩
  | .hbm, ⟨15, _⟩ => ⟨S2x128x12288, .fp8e4m3⟩
  | .local _ .vmem, ⟨0, _⟩ => ⟨S2x128, .f32⟩
  | .local _ .vmem, ⟨1, _⟩ => ⟨S8x4x32x12288, .fp8e4m3⟩
  | .local _ .vmem, ⟨2, _⟩ => ⟨S8x32x12288, .bf16⟩
  | .local _ .vmem, ⟨3, _⟩ => ⟨S8x32x12288, .bf16⟩
  | .local _ .vmem, ⟨4, _⟩ => ⟨S8x32x12288, .fp8e4m3⟩
  | .local _ .vmem, ⟨5, _⟩ => ⟨S32x12288, .f32⟩
  | .local _ .vmem, ⟨6, _⟩ => ⟨S8x32x128, .bf16⟩
  | .local _ .vmem, ⟨7, _⟩ => ⟨S4x2x128, .f32⟩
  | .local _ .vmem, ⟨8, _⟩ => ⟨S1x12288, .f32⟩
  | .local _ .vmem, ⟨9, _⟩ => ⟨S1x12288, .f32⟩
  | .local _ .vmem, ⟨10, _⟩ => ⟨S1x12288, .f32⟩
  | _, _ => ⟨S4x2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c32_i32 : BitVec 32 := 32#32
  c32_i32
def k0_mult3 : BitVec 32 :=
  let c64_i32 : BitVec 32 := 64#32
  c64_i32
def k0_mult4 : BitVec 32 :=
  let c96_i32 : BitVec 32 := 96#32
  c96_i32
def k0_mult5 : BitVec 32 :=
  let c128_i32 : BitVec 32 := 128#32
  c128_i32
def k0_mult6 : BitVec 32 :=
  let c160_i32 : BitVec 32 := 160#32
  c160_i32
def k0_mult7 : BitVec 32 :=
  let c192_i32 : BitVec 32 := 192#32
  c192_i32
def k0_mult8 : BitVec 32 :=
  let c224_i32 : BitVec 32 := 224#32
  c224_i32
@[reducible] def k0_t1_loop : Scf.Loop 32 :=
  let c0_i32_304 : BitVec 32 := 0#32
  let c8_i32 : BitVec 32 := 8#32
  let v471 : BitVec 32 := Scalar.addi c0_i32_304 c8_i32
  let c1_i32_305 : BitVec 32 := 1#32
  ⟨c0_i32_304, v471, c1_i32_305⟩
def k0_mult9 (k0_t1 : Fin k0_t1_loop.trips) : BitVec 32 :=
  let c0_i32_304 : BitVec 32 := 0#32
  let c1_i32_305 : BitVec 32 := 1#32
  let arg23 : BitVec 32 := Scf.iv c0_i32_304 c1_i32_305 k0_t1
  let c32_i32_403 : BitVec 32 := 32#32
  let v568 : BitVec 32 := Scalar.muli arg23 c32_i32_403
  v568
def k0_off1 (k0_t1 : Fin k0_t1_loop.trips) : Fin 2 → Nat :=
  let c0_i32_404 : BitVec 32 := 0#32
  let c0_i32_304 : BitVec 32 := 0#32
  let c1_i32_305 : BitVec 32 := 1#32
  let arg23 : BitVec 32 := Scf.iv c0_i32_304 c1_i32_305 k0_t1
  ![0, arg23.toNat]
def k0_off2 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let c0_i32_405 : BitVec 32 := 0#32
  let c0_i32_406 : BitVec 32 := 0#32
  let c0_i32_407 : BitVec 32 := 0#32
  ![arg23.toNat, 0, 0, 0]
def k0_off3 (k0_t1 : Fin k0_t1_loop.trips) : Fin 3 → Nat :=
  let c0_i32_408 : BitVec 32 := 0#32
  let c0_i32_304 : BitVec 32 := 0#32
  let c1_i32_305 : BitVec 32 := 1#32
  let arg23 : BitVec 32 := Scf.iv c0_i32_304 c1_i32_305 k0_t1
  let c32_i32_403 : BitVec 32 := 32#32
  let v568 : BitVec 32 := Scalar.muli arg23 c32_i32_403
  let v569 : BitVec 32 := v568
  let c0_i32_409 : BitVec 32 := 0#32
  ![0, v569.toNat, 0]
def k0_off4 (k0_t1 : Fin k0_t1_loop.trips) : Fin 2 → Nat :=
  let c1_i32_410 : BitVec 32 := 1#32
  let c0_i32_304 : BitVec 32 := 0#32
  let c1_i32_305 : BitVec 32 := 1#32
  let arg23 : BitVec 32 := Scf.iv c0_i32_304 c1_i32_305 k0_t1
  ![1, arg23.toNat]
def k0_off5 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let c0_i32_411 : BitVec 32 := 0#32
  let c0_i32_412 : BitVec 32 := 0#32
  ![arg23.toNat, 0, 0]
def k0_off6 (k0_t1 : Fin k0_t1_loop.trips) : Fin 2 → Nat :=
  let c0_i32_304 : BitVec 32 := 0#32
  let c1_i32_305 : BitVec 32 := 1#32
  let arg23 : BitVec 32 := Scf.iv c0_i32_304 c1_i32_305 k0_t1
  let c32_i32_403 : BitVec 32 := 32#32
  let v568 : BitVec 32 := Scalar.muli arg23 c32_i32_403
  let v569 : BitVec 32 := v568
  let c0_i32_413 : BitVec 32 := 0#32
  ![v569.toNat, 0]
def k0_off7 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v580 : Index := Scalar.indexCast arg23
  let c0_414 : Index := 0#32
  let c0_415 : Index := 0#32
  ![v580.toNat, 0, 0]
def k0_off8 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v584 : Index := Scalar.indexCast arg23
  let c0_417 : Index := 0#32
  let c0_418 : Index := 0#32
  let c0_419 : Index := 0#32
  ![v584.toNat, 0, 0, 0]
def k0_off9 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v592 : Index := Scalar.indexCast arg23
  let c0_423 : Index := 0#32
  let c0_424 : Index := 0#32
  ![v592.toNat, 0, 0]
def k0_off10 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v611 : Index := Scalar.indexCast arg23
  let c0_427 : Index := 0#32
  let c0_428 : Index := 0#32
  let c512 : Index := 512#32
  ![v611.toNat, 0, 0, 512]
def k0_off11 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v619 : Index := Scalar.indexCast arg23
  let c0_432 : Index := 0#32
  let c512_433 : Index := 512#32
  ![v619.toNat, 0, 512]
def k0_off12 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v638 : Index := Scalar.indexCast arg23
  let c0_436 : Index := 0#32
  let c0_437 : Index := 0#32
  let c1024 : Index := 1024#32
  ![v638.toNat, 0, 0, 1024]
def k0_off13 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v646 : Index := Scalar.indexCast arg23
  let c0_441 : Index := 0#32
  let c1024_442 : Index := 1024#32
  ![v646.toNat, 0, 1024]
def k0_off14 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v665 : Index := Scalar.indexCast arg23
  let c0_445 : Index := 0#32
  let c0_446 : Index := 0#32
  let c1536 : Index := 1536#32
  ![v665.toNat, 0, 0, 1536]
def k0_off15 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v673 : Index := Scalar.indexCast arg23
  let c0_450 : Index := 0#32
  let c1536_451 : Index := 1536#32
  ![v673.toNat, 0, 1536]
def k0_off16 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v692 : Index := Scalar.indexCast arg23
  let c0_454 : Index := 0#32
  let c0_455 : Index := 0#32
  let c2048 : Index := 2048#32
  ![v692.toNat, 0, 0, 2048]
def k0_off17 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v700 : Index := Scalar.indexCast arg23
  let c0_459 : Index := 0#32
  let c2048_460 : Index := 2048#32
  ![v700.toNat, 0, 2048]
def k0_off18 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v719 : Index := Scalar.indexCast arg23
  let c0_463 : Index := 0#32
  let c0_464 : Index := 0#32
  let c2560 : Index := 2560#32
  ![v719.toNat, 0, 0, 2560]
def k0_off19 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v727 : Index := Scalar.indexCast arg23
  let c0_468 : Index := 0#32
  let c2560_469 : Index := 2560#32
  ![v727.toNat, 0, 2560]
def k0_off20 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v746 : Index := Scalar.indexCast arg23
  let c0_472 : Index := 0#32
  let c0_473 : Index := 0#32
  let c3072 : Index := 3072#32
  ![v746.toNat, 0, 0, 3072]
def k0_off21 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v754 : Index := Scalar.indexCast arg23
  let c0_477 : Index := 0#32
  let c3072_478 : Index := 3072#32
  ![v754.toNat, 0, 3072]
def k0_off22 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v773 : Index := Scalar.indexCast arg23
  let c0_481 : Index := 0#32
  let c0_482 : Index := 0#32
  let c3584 : Index := 3584#32
  ![v773.toNat, 0, 0, 3584]
def k0_off23 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v781 : Index := Scalar.indexCast arg23
  let c0_486 : Index := 0#32
  let c3584_487 : Index := 3584#32
  ![v781.toNat, 0, 3584]
def k0_off24 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v800 : Index := Scalar.indexCast arg23
  let c0_490 : Index := 0#32
  let c0_491 : Index := 0#32
  let c4096 : Index := 4096#32
  ![v800.toNat, 0, 0, 4096]
def k0_off25 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v808 : Index := Scalar.indexCast arg23
  let c0_495 : Index := 0#32
  let c4096_496 : Index := 4096#32
  ![v808.toNat, 0, 4096]
def k0_off26 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v827 : Index := Scalar.indexCast arg23
  let c0_499 : Index := 0#32
  let c0_500 : Index := 0#32
  let c4608 : Index := 4608#32
  ![v827.toNat, 0, 0, 4608]
def k0_off27 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v835 : Index := Scalar.indexCast arg23
  let c0_504 : Index := 0#32
  let c4608_505 : Index := 4608#32
  ![v835.toNat, 0, 4608]
def k0_off28 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v854 : Index := Scalar.indexCast arg23
  let c0_508 : Index := 0#32
  let c0_509 : Index := 0#32
  let c5120 : Index := 5120#32
  ![v854.toNat, 0, 0, 5120]
def k0_off29 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v862 : Index := Scalar.indexCast arg23
  let c0_513 : Index := 0#32
  let c5120_514 : Index := 5120#32
  ![v862.toNat, 0, 5120]
def k0_off30 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v881 : Index := Scalar.indexCast arg23
  let c0_517 : Index := 0#32
  let c0_518 : Index := 0#32
  let c5632 : Index := 5632#32
  ![v881.toNat, 0, 0, 5632]
def k0_off31 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v889 : Index := Scalar.indexCast arg23
  let c0_522 : Index := 0#32
  let c5632_523 : Index := 5632#32
  ![v889.toNat, 0, 5632]
def k0_off32 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v908 : Index := Scalar.indexCast arg23
  let c0_526 : Index := 0#32
  let c0_527 : Index := 0#32
  let c6144 : Index := 6144#32
  ![v908.toNat, 0, 0, 6144]
def k0_off33 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v916 : Index := Scalar.indexCast arg23
  let c0_531 : Index := 0#32
  let c6144_532 : Index := 6144#32
  ![v916.toNat, 0, 6144]
def k0_off34 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v935 : Index := Scalar.indexCast arg23
  let c0_535 : Index := 0#32
  let c0_536 : Index := 0#32
  let c6656 : Index := 6656#32
  ![v935.toNat, 0, 0, 6656]
def k0_off35 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v943 : Index := Scalar.indexCast arg23
  let c0_540 : Index := 0#32
  let c6656_541 : Index := 6656#32
  ![v943.toNat, 0, 6656]
def k0_off36 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v962 : Index := Scalar.indexCast arg23
  let c0_544 : Index := 0#32
  let c0_545 : Index := 0#32
  let c7168 : Index := 7168#32
  ![v962.toNat, 0, 0, 7168]
def k0_off37 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v970 : Index := Scalar.indexCast arg23
  let c0_549 : Index := 0#32
  let c7168_550 : Index := 7168#32
  ![v970.toNat, 0, 7168]
def k0_off38 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v989 : Index := Scalar.indexCast arg23
  let c0_553 : Index := 0#32
  let c0_554 : Index := 0#32
  let c7680 : Index := 7680#32
  ![v989.toNat, 0, 0, 7680]
def k0_off39 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v997 : Index := Scalar.indexCast arg23
  let c0_558 : Index := 0#32
  let c7680_559 : Index := 7680#32
  ![v997.toNat, 0, 7680]
def k0_off40 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1016 : Index := Scalar.indexCast arg23
  let c0_562 : Index := 0#32
  let c0_563 : Index := 0#32
  let c8192 : Index := 8192#32
  ![v1016.toNat, 0, 0, 8192]
def k0_off41 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1024 : Index := Scalar.indexCast arg23
  let c0_567 : Index := 0#32
  let c8192_568 : Index := 8192#32
  ![v1024.toNat, 0, 8192]
def k0_off42 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1043 : Index := Scalar.indexCast arg23
  let c0_571 : Index := 0#32
  let c0_572 : Index := 0#32
  let c8704 : Index := 8704#32
  ![v1043.toNat, 0, 0, 8704]
def k0_off43 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1051 : Index := Scalar.indexCast arg23
  let c0_576 : Index := 0#32
  let c8704_577 : Index := 8704#32
  ![v1051.toNat, 0, 8704]
def k0_off44 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1070 : Index := Scalar.indexCast arg23
  let c0_580 : Index := 0#32
  let c0_581 : Index := 0#32
  let c9216 : Index := 9216#32
  ![v1070.toNat, 0, 0, 9216]
def k0_off45 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1078 : Index := Scalar.indexCast arg23
  let c0_585 : Index := 0#32
  let c9216_586 : Index := 9216#32
  ![v1078.toNat, 0, 9216]
def k0_off46 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1097 : Index := Scalar.indexCast arg23
  let c0_589 : Index := 0#32
  let c0_590 : Index := 0#32
  let c9728 : Index := 9728#32
  ![v1097.toNat, 0, 0, 9728]
def k0_off47 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1105 : Index := Scalar.indexCast arg23
  let c0_594 : Index := 0#32
  let c9728_595 : Index := 9728#32
  ![v1105.toNat, 0, 9728]
def k0_off48 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1124 : Index := Scalar.indexCast arg23
  let c0_598 : Index := 0#32
  let c0_599 : Index := 0#32
  let c10240 : Index := 10240#32
  ![v1124.toNat, 0, 0, 10240]
def k0_off49 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1132 : Index := Scalar.indexCast arg23
  let c0_603 : Index := 0#32
  let c10240_604 : Index := 10240#32
  ![v1132.toNat, 0, 10240]
def k0_off50 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1151 : Index := Scalar.indexCast arg23
  let c0_607 : Index := 0#32
  let c0_608 : Index := 0#32
  let c10752 : Index := 10752#32
  ![v1151.toNat, 0, 0, 10752]
def k0_off51 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1159 : Index := Scalar.indexCast arg23
  let c0_612 : Index := 0#32
  let c10752_613 : Index := 10752#32
  ![v1159.toNat, 0, 10752]
def k0_off52 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1178 : Index := Scalar.indexCast arg23
  let c0_616 : Index := 0#32
  let c0_617 : Index := 0#32
  let c11264 : Index := 11264#32
  ![v1178.toNat, 0, 0, 11264]
def k0_off53 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1186 : Index := Scalar.indexCast arg23
  let c0_621 : Index := 0#32
  let c11264_622 : Index := 11264#32
  ![v1186.toNat, 0, 11264]
def k0_off54 (k0_t1 : Fin k0_t1_loop.trips) : Fin 4 → Nat :=
  let c0_i32_304 : BitVec 32 := 0#32
  let c1_i32_305 : BitVec 32 := 1#32
  let arg23 : BitVec 32 := Scf.iv c0_i32_304 c1_i32_305 k0_t1
  let v1205 : Index := Scalar.indexCast arg23
  let c0_625 : Index := 0#32
  let c0_626 : Index := 0#32
  let c11776 : Index := 11776#32
  ![v1205.toNat, 0, 0, 11776]
def k0_off55 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v1213 : Index := Scalar.indexCast arg23
  let c0_630 : Index := 0#32
  let c11776_631 : Index := 11776#32
  ![v1213.toNat, 0, 11776]
def k0_mult10 (k0_t1 : Fin k0_t1_loop.trips) : BitVec 32 :=
  let c0_i32_304 : BitVec 32 := 0#32
  let c1_i32_305 : BitVec 32 := 1#32
  let arg23 : BitVec 32 := Scf.iv c0_i32_304 c1_i32_305 k0_t1
  let c32_i32_636 : BitVec 32 := 32#32
  let v1236 : BitVec 32 := Scalar.muli arg23 c32_i32_636
  v1236
def k0_off56 (k0_t1 : Fin k0_t1_loop.trips) : Fin 1 → Nat :=
  let c0_i32_304 : BitVec 32 := 0#32
  let c1_i32_305 : BitVec 32 := 1#32
  let arg23 : BitVec 32 := Scf.iv c0_i32_304 c1_i32_305 k0_t1
  ![arg23.toNat]
def k0_off57 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2341 : Index := Scalar.indexCast arg23
  let c0_919 : Index := 0#32
  let c0_920 : Index := 0#32
  ![v2341.toNat, 0, 0]
def k0_off58 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2352 : Index := Scalar.indexCast arg23
  let c0_924 : Index := 0#32
  let c128_925 : Index := 128#32
  ![v2352.toNat, 0, 128]
def k0_off59 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2363 : Index := Scalar.indexCast arg23
  let c0_929 : Index := 0#32
  let c256_930 : Index := 256#32
  ![v2363.toNat, 0, 256]
def k0_off60 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2374 : Index := Scalar.indexCast arg23
  let c0_934 : Index := 0#32
  let c384_935 : Index := 384#32
  ![v2374.toNat, 0, 384]
def k0_off61 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2385 : Index := Scalar.indexCast arg23
  let c0_940 : Index := 0#32
  let c512_941 : Index := 512#32
  ![v2385.toNat, 0, 512]
def k0_off62 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2396 : Index := Scalar.indexCast arg23
  let c0_945 : Index := 0#32
  let c640_946 : Index := 640#32
  ![v2396.toNat, 0, 640]
def k0_off63 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2407 : Index := Scalar.indexCast arg23
  let c0_950 : Index := 0#32
  let c768_951 : Index := 768#32
  ![v2407.toNat, 0, 768]
def k0_off64 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2418 : Index := Scalar.indexCast arg23
  let c0_955 : Index := 0#32
  let c896_956 : Index := 896#32
  ![v2418.toNat, 0, 896]
def k0_off65 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2429 : Index := Scalar.indexCast arg23
  let c0_961 : Index := 0#32
  let c1024_962 : Index := 1024#32
  ![v2429.toNat, 0, 1024]
def k0_off66 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2440 : Index := Scalar.indexCast arg23
  let c0_966 : Index := 0#32
  let c1152_967 : Index := 1152#32
  ![v2440.toNat, 0, 1152]
def k0_off67 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2451 : Index := Scalar.indexCast arg23
  let c0_971 : Index := 0#32
  let c1280_972 : Index := 1280#32
  ![v2451.toNat, 0, 1280]
def k0_off68 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2462 : Index := Scalar.indexCast arg23
  let c0_976 : Index := 0#32
  let c1408_977 : Index := 1408#32
  ![v2462.toNat, 0, 1408]
def k0_off69 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2473 : Index := Scalar.indexCast arg23
  let c0_982 : Index := 0#32
  let c1536_983 : Index := 1536#32
  ![v2473.toNat, 0, 1536]
def k0_off70 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2484 : Index := Scalar.indexCast arg23
  let c0_987 : Index := 0#32
  let c1664_988 : Index := 1664#32
  ![v2484.toNat, 0, 1664]
def k0_off71 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2495 : Index := Scalar.indexCast arg23
  let c0_992 : Index := 0#32
  let c1792_993 : Index := 1792#32
  ![v2495.toNat, 0, 1792]
def k0_off72 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2506 : Index := Scalar.indexCast arg23
  let c0_997 : Index := 0#32
  let c1920_998 : Index := 1920#32
  ![v2506.toNat, 0, 1920]
def k0_off73 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2517 : Index := Scalar.indexCast arg23
  let c0_1003 : Index := 0#32
  let c2048_1004 : Index := 2048#32
  ![v2517.toNat, 0, 2048]
def k0_off74 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2528 : Index := Scalar.indexCast arg23
  let c0_1008 : Index := 0#32
  let c2176_1009 : Index := 2176#32
  ![v2528.toNat, 0, 2176]
def k0_off75 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2539 : Index := Scalar.indexCast arg23
  let c0_1013 : Index := 0#32
  let c2304_1014 : Index := 2304#32
  ![v2539.toNat, 0, 2304]
def k0_off76 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2550 : Index := Scalar.indexCast arg23
  let c0_1018 : Index := 0#32
  let c2432_1019 : Index := 2432#32
  ![v2550.toNat, 0, 2432]
def k0_off77 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2561 : Index := Scalar.indexCast arg23
  let c0_1024 : Index := 0#32
  let c2560_1025 : Index := 2560#32
  ![v2561.toNat, 0, 2560]
def k0_off78 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2572 : Index := Scalar.indexCast arg23
  let c0_1029 : Index := 0#32
  let c2688_1030 : Index := 2688#32
  ![v2572.toNat, 0, 2688]
def k0_off79 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2583 : Index := Scalar.indexCast arg23
  let c0_1034 : Index := 0#32
  let c2816_1035 : Index := 2816#32
  ![v2583.toNat, 0, 2816]
def k0_off80 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2594 : Index := Scalar.indexCast arg23
  let c0_1039 : Index := 0#32
  let c2944_1040 : Index := 2944#32
  ![v2594.toNat, 0, 2944]
def k0_off81 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2605 : Index := Scalar.indexCast arg23
  let c0_1045 : Index := 0#32
  let c3072_1046 : Index := 3072#32
  ![v2605.toNat, 0, 3072]
def k0_off82 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2616 : Index := Scalar.indexCast arg23
  let c0_1050 : Index := 0#32
  let c3200_1051 : Index := 3200#32
  ![v2616.toNat, 0, 3200]
def k0_off83 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2627 : Index := Scalar.indexCast arg23
  let c0_1055 : Index := 0#32
  let c3328_1056 : Index := 3328#32
  ![v2627.toNat, 0, 3328]
def k0_off84 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2638 : Index := Scalar.indexCast arg23
  let c0_1060 : Index := 0#32
  let c3456_1061 : Index := 3456#32
  ![v2638.toNat, 0, 3456]
def k0_off85 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2649 : Index := Scalar.indexCast arg23
  let c0_1066 : Index := 0#32
  let c3584_1067 : Index := 3584#32
  ![v2649.toNat, 0, 3584]
def k0_off86 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2660 : Index := Scalar.indexCast arg23
  let c0_1071 : Index := 0#32
  let c3712_1072 : Index := 3712#32
  ![v2660.toNat, 0, 3712]
def k0_off87 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2671 : Index := Scalar.indexCast arg23
  let c0_1076 : Index := 0#32
  let c3840_1077 : Index := 3840#32
  ![v2671.toNat, 0, 3840]
def k0_off88 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2682 : Index := Scalar.indexCast arg23
  let c0_1081 : Index := 0#32
  let c3968_1082 : Index := 3968#32
  ![v2682.toNat, 0, 3968]
def k0_off89 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2693 : Index := Scalar.indexCast arg23
  let c0_1087 : Index := 0#32
  let c4096_1088 : Index := 4096#32
  ![v2693.toNat, 0, 4096]
def k0_off90 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2704 : Index := Scalar.indexCast arg23
  let c0_1092 : Index := 0#32
  let c4224_1093 : Index := 4224#32
  ![v2704.toNat, 0, 4224]
def k0_off91 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2715 : Index := Scalar.indexCast arg23
  let c0_1097 : Index := 0#32
  let c4352_1098 : Index := 4352#32
  ![v2715.toNat, 0, 4352]
def k0_off92 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2726 : Index := Scalar.indexCast arg23
  let c0_1102 : Index := 0#32
  let c4480_1103 : Index := 4480#32
  ![v2726.toNat, 0, 4480]
def k0_off93 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2737 : Index := Scalar.indexCast arg23
  let c0_1108 : Index := 0#32
  let c4608_1109 : Index := 4608#32
  ![v2737.toNat, 0, 4608]
def k0_off94 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2748 : Index := Scalar.indexCast arg23
  let c0_1113 : Index := 0#32
  let c4736_1114 : Index := 4736#32
  ![v2748.toNat, 0, 4736]
def k0_off95 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2759 : Index := Scalar.indexCast arg23
  let c0_1118 : Index := 0#32
  let c4864_1119 : Index := 4864#32
  ![v2759.toNat, 0, 4864]
def k0_off96 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2770 : Index := Scalar.indexCast arg23
  let c0_1123 : Index := 0#32
  let c4992_1124 : Index := 4992#32
  ![v2770.toNat, 0, 4992]
def k0_off97 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2781 : Index := Scalar.indexCast arg23
  let c0_1129 : Index := 0#32
  let c5120_1130 : Index := 5120#32
  ![v2781.toNat, 0, 5120]
def k0_off98 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2792 : Index := Scalar.indexCast arg23
  let c0_1134 : Index := 0#32
  let c5248_1135 : Index := 5248#32
  ![v2792.toNat, 0, 5248]
def k0_off99 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2803 : Index := Scalar.indexCast arg23
  let c0_1139 : Index := 0#32
  let c5376_1140 : Index := 5376#32
  ![v2803.toNat, 0, 5376]
def k0_off100 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2814 : Index := Scalar.indexCast arg23
  let c0_1144 : Index := 0#32
  let c5504_1145 : Index := 5504#32
  ![v2814.toNat, 0, 5504]
def k0_off101 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2825 : Index := Scalar.indexCast arg23
  let c0_1150 : Index := 0#32
  let c5632_1151 : Index := 5632#32
  ![v2825.toNat, 0, 5632]
def k0_off102 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2836 : Index := Scalar.indexCast arg23
  let c0_1155 : Index := 0#32
  let c5760_1156 : Index := 5760#32
  ![v2836.toNat, 0, 5760]
def k0_off103 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2847 : Index := Scalar.indexCast arg23
  let c0_1160 : Index := 0#32
  let c5888_1161 : Index := 5888#32
  ![v2847.toNat, 0, 5888]
def k0_off104 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2858 : Index := Scalar.indexCast arg23
  let c0_1165 : Index := 0#32
  let c6016_1166 : Index := 6016#32
  ![v2858.toNat, 0, 6016]
def k0_off105 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2869 : Index := Scalar.indexCast arg23
  let c0_1171 : Index := 0#32
  let c6144_1172 : Index := 6144#32
  ![v2869.toNat, 0, 6144]
def k0_off106 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2880 : Index := Scalar.indexCast arg23
  let c0_1176 : Index := 0#32
  let c6272_1177 : Index := 6272#32
  ![v2880.toNat, 0, 6272]
def k0_off107 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2891 : Index := Scalar.indexCast arg23
  let c0_1181 : Index := 0#32
  let c6400_1182 : Index := 6400#32
  ![v2891.toNat, 0, 6400]
def k0_off108 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2902 : Index := Scalar.indexCast arg23
  let c0_1186 : Index := 0#32
  let c6528_1187 : Index := 6528#32
  ![v2902.toNat, 0, 6528]
def k0_off109 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2913 : Index := Scalar.indexCast arg23
  let c0_1192 : Index := 0#32
  let c6656_1193 : Index := 6656#32
  ![v2913.toNat, 0, 6656]
def k0_off110 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2924 : Index := Scalar.indexCast arg23
  let c0_1197 : Index := 0#32
  let c6784_1198 : Index := 6784#32
  ![v2924.toNat, 0, 6784]
def k0_off111 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2935 : Index := Scalar.indexCast arg23
  let c0_1202 : Index := 0#32
  let c6912_1203 : Index := 6912#32
  ![v2935.toNat, 0, 6912]
def k0_off112 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2946 : Index := Scalar.indexCast arg23
  let c0_1207 : Index := 0#32
  let c7040_1208 : Index := 7040#32
  ![v2946.toNat, 0, 7040]
def k0_off113 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2957 : Index := Scalar.indexCast arg23
  let c0_1213 : Index := 0#32
  let c7168_1214 : Index := 7168#32
  ![v2957.toNat, 0, 7168]
def k0_off114 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2968 : Index := Scalar.indexCast arg23
  let c0_1218 : Index := 0#32
  let c7296_1219 : Index := 7296#32
  ![v2968.toNat, 0, 7296]
def k0_off115 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2979 : Index := Scalar.indexCast arg23
  let c0_1223 : Index := 0#32
  let c7424_1224 : Index := 7424#32
  ![v2979.toNat, 0, 7424]
def k0_off116 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v2990 : Index := Scalar.indexCast arg23
  let c0_1228 : Index := 0#32
  let c7552_1229 : Index := 7552#32
  ![v2990.toNat, 0, 7552]
def k0_off117 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3001 : Index := Scalar.indexCast arg23
  let c0_1234 : Index := 0#32
  let c7680_1235 : Index := 7680#32
  ![v3001.toNat, 0, 7680]
def k0_off118 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3012 : Index := Scalar.indexCast arg23
  let c0_1239 : Index := 0#32
  let c7808_1240 : Index := 7808#32
  ![v3012.toNat, 0, 7808]
def k0_off119 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3023 : Index := Scalar.indexCast arg23
  let c0_1244 : Index := 0#32
  let c7936_1245 : Index := 7936#32
  ![v3023.toNat, 0, 7936]
def k0_off120 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3034 : Index := Scalar.indexCast arg23
  let c0_1249 : Index := 0#32
  let c8064_1250 : Index := 8064#32
  ![v3034.toNat, 0, 8064]
def k0_off121 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3045 : Index := Scalar.indexCast arg23
  let c0_1255 : Index := 0#32
  let c8192_1256 : Index := 8192#32
  ![v3045.toNat, 0, 8192]
def k0_off122 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3056 : Index := Scalar.indexCast arg23
  let c0_1260 : Index := 0#32
  let c8320_1261 : Index := 8320#32
  ![v3056.toNat, 0, 8320]
def k0_off123 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3067 : Index := Scalar.indexCast arg23
  let c0_1265 : Index := 0#32
  let c8448_1266 : Index := 8448#32
  ![v3067.toNat, 0, 8448]
def k0_off124 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3078 : Index := Scalar.indexCast arg23
  let c0_1270 : Index := 0#32
  let c8576_1271 : Index := 8576#32
  ![v3078.toNat, 0, 8576]
def k0_off125 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3089 : Index := Scalar.indexCast arg23
  let c0_1276 : Index := 0#32
  let c8704_1277 : Index := 8704#32
  ![v3089.toNat, 0, 8704]
def k0_off126 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3100 : Index := Scalar.indexCast arg23
  let c0_1281 : Index := 0#32
  let c8832_1282 : Index := 8832#32
  ![v3100.toNat, 0, 8832]
def k0_off127 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3111 : Index := Scalar.indexCast arg23
  let c0_1286 : Index := 0#32
  let c8960_1287 : Index := 8960#32
  ![v3111.toNat, 0, 8960]
def k0_off128 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3122 : Index := Scalar.indexCast arg23
  let c0_1291 : Index := 0#32
  let c9088_1292 : Index := 9088#32
  ![v3122.toNat, 0, 9088]
def k0_off129 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3133 : Index := Scalar.indexCast arg23
  let c0_1297 : Index := 0#32
  let c9216_1298 : Index := 9216#32
  ![v3133.toNat, 0, 9216]
def k0_off130 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3144 : Index := Scalar.indexCast arg23
  let c0_1302 : Index := 0#32
  let c9344_1303 : Index := 9344#32
  ![v3144.toNat, 0, 9344]
def k0_off131 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3155 : Index := Scalar.indexCast arg23
  let c0_1307 : Index := 0#32
  let c9472_1308 : Index := 9472#32
  ![v3155.toNat, 0, 9472]
def k0_off132 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3166 : Index := Scalar.indexCast arg23
  let c0_1312 : Index := 0#32
  let c9600_1313 : Index := 9600#32
  ![v3166.toNat, 0, 9600]
def k0_off133 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3177 : Index := Scalar.indexCast arg23
  let c0_1318 : Index := 0#32
  let c9728_1319 : Index := 9728#32
  ![v3177.toNat, 0, 9728]
def k0_off134 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3188 : Index := Scalar.indexCast arg23
  let c0_1323 : Index := 0#32
  let c9856_1324 : Index := 9856#32
  ![v3188.toNat, 0, 9856]
def k0_off135 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3199 : Index := Scalar.indexCast arg23
  let c0_1328 : Index := 0#32
  let c9984_1329 : Index := 9984#32
  ![v3199.toNat, 0, 9984]
def k0_off136 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3210 : Index := Scalar.indexCast arg23
  let c0_1333 : Index := 0#32
  let c10112_1334 : Index := 10112#32
  ![v3210.toNat, 0, 10112]
def k0_off137 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3221 : Index := Scalar.indexCast arg23
  let c0_1339 : Index := 0#32
  let c10240_1340 : Index := 10240#32
  ![v3221.toNat, 0, 10240]
def k0_off138 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3232 : Index := Scalar.indexCast arg23
  let c0_1344 : Index := 0#32
  let c10368_1345 : Index := 10368#32
  ![v3232.toNat, 0, 10368]
def k0_off139 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3243 : Index := Scalar.indexCast arg23
  let c0_1349 : Index := 0#32
  let c10496_1350 : Index := 10496#32
  ![v3243.toNat, 0, 10496]
def k0_off140 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3254 : Index := Scalar.indexCast arg23
  let c0_1354 : Index := 0#32
  let c10624_1355 : Index := 10624#32
  ![v3254.toNat, 0, 10624]
def k0_off141 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3265 : Index := Scalar.indexCast arg23
  let c0_1360 : Index := 0#32
  let c10752_1361 : Index := 10752#32
  ![v3265.toNat, 0, 10752]
def k0_off142 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3276 : Index := Scalar.indexCast arg23
  let c0_1365 : Index := 0#32
  let c10880_1366 : Index := 10880#32
  ![v3276.toNat, 0, 10880]
def k0_off143 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3287 : Index := Scalar.indexCast arg23
  let c0_1370 : Index := 0#32
  let c11008_1371 : Index := 11008#32
  ![v3287.toNat, 0, 11008]
def k0_off144 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3298 : Index := Scalar.indexCast arg23
  let c0_1375 : Index := 0#32
  let c11136_1376 : Index := 11136#32
  ![v3298.toNat, 0, 11136]
def k0_off145 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3309 : Index := Scalar.indexCast arg23
  let c0_1381 : Index := 0#32
  let c11264_1382 : Index := 11264#32
  ![v3309.toNat, 0, 11264]
def k0_off146 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3320 : Index := Scalar.indexCast arg23
  let c0_1386 : Index := 0#32
  let c11392_1387 : Index := 11392#32
  ![v3320.toNat, 0, 11392]
def k0_off147 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3331 : Index := Scalar.indexCast arg23
  let c0_1391 : Index := 0#32
  let c11520_1392 : Index := 11520#32
  ![v3331.toNat, 0, 11520]
def k0_off148 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3342 : Index := Scalar.indexCast arg23
  let c0_1396 : Index := 0#32
  let c11648_1397 : Index := 11648#32
  ![v3342.toNat, 0, 11648]
def k0_off149 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3353 : Index := Scalar.indexCast arg23
  let c0_1402 : Index := 0#32
  let c11776_1403 : Index := 11776#32
  ![v3353.toNat, 0, 11776]
def k0_off150 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3364 : Index := Scalar.indexCast arg23
  let c0_1407 : Index := 0#32
  let c11904_1408 : Index := 11904#32
  ![v3364.toNat, 0, 11904]
def k0_off151 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3375 : Index := Scalar.indexCast arg23
  let c0_1412 : Index := 0#32
  let c12032_1413 : Index := 12032#32
  ![v3375.toNat, 0, 12032]
def k0_off152 (k0_t1 : Fin k0_t1_loop.trips) : Fin 3 → Nat :=
  let c0_i32_304 : BitVec 32 := 0#32
  let c1_i32_305 : BitVec 32 := 1#32
  let arg23 : BitVec 32 := Scf.iv c0_i32_304 c1_i32_305 k0_t1
  let v3386 : Index := Scalar.indexCast arg23
  let c0_1417 : Index := 0#32
  let c12160_1418 : Index := 12160#32
  ![v3386.toNat, 0, 12160]
def k0_mult11 (k0_t1 : Fin k0_t1_loop.trips) : BitVec 32 :=
  let c0_i32_304 : BitVec 32 := 0#32
  let c1_i32_305 : BitVec 32 := 1#32
  let arg23 : BitVec 32 := Scf.iv c0_i32_304 c1_i32_305 k0_t1
  let c32_i32_1440 : BitVec 32 := 32#32
  let v3436 : BitVec 32 := Scalar.muli arg23 c32_i32_1440
  v3436
def k0_mult12 : BitVec 32 :=
  let c0_i32_307 : BitVec 32 := 0#32
  c0_i32_307
def k0_mult13 : BitVec 32 :=
  let c0_i32_313 : BitVec 32 := 0#32
  c0_i32_313
def k0_mult14 : BitVec 32 :=
  let c32_i32_319 : BitVec 32 := 32#32
  c32_i32_319
def k0_mult15 : BitVec 32 :=
  let c32_i32_325 : BitVec 32 := 32#32
  c32_i32_325
def k0_mult16 : BitVec 32 :=
  let c64_i32_331 : BitVec 32 := 64#32
  c64_i32_331
def k0_mult17 : BitVec 32 :=
  let c64_i32_337 : BitVec 32 := 64#32
  c64_i32_337
def k0_mult18 : BitVec 32 :=
  let c96_i32_343 : BitVec 32 := 96#32
  c96_i32_343
def k0_mult19 : BitVec 32 :=
  let c96_i32_349 : BitVec 32 := 96#32
  c96_i32_349
def k0_mult20 : BitVec 32 :=
  let c128_i32_355 : BitVec 32 := 128#32
  c128_i32_355
def k0_mult21 : BitVec 32 :=
  let c128_i32_361 : BitVec 32 := 128#32
  c128_i32_361
def k0_mult22 : BitVec 32 :=
  let c160_i32_367 : BitVec 32 := 160#32
  c160_i32_367
def k0_mult23 : BitVec 32 :=
  let c160_i32_373 : BitVec 32 := 160#32
  c160_i32_373
def k0_mult24 : BitVec 32 :=
  let c192_i32_379 : BitVec 32 := 192#32
  c192_i32_379
def k0_mult25 : BitVec 32 :=
  let c192_i32_385 : BitVec 32 := 192#32
  c192_i32_385
def k0_mult26 : BitVec 32 :=
  let c224_i32_391 : BitVec 32 := 224#32
  c224_i32_391
def k0_mult27 : BitVec 32 :=
  let c224_i32_397 : BitVec 32 := 224#32
  c224_i32_397
abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "inv_d" => some ((1 / 12288 : ℝ) : EReal)
  | _ => none
-- ==== ReferenceIdeal.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S2x128 : Shape := ⟨2, ![2, 128]⟩
abbrev S1x2x128x12288 : Shape := ⟨4, ![1, 2, 128, 12288]⟩
abbrev S1x2x128 : Shape := ⟨3, ![1, 2, 128]⟩
abbrev S2x128x1 : Shape := ⟨3, ![2, 128, 1]⟩
abbrev S1x1x12288 : Shape := ⟨3, ![1, 1, 12288]⟩

abbrev nBuf : Space → Nat
  | .hbm => 9
  | .vmem => 9
  | .smem => 0
  | _ => 0

abbrev bufTy : (tb : Table) → Fin (tcTables nBuf tb) → BufTy
  | .hbm, ⟨0, _⟩ => ⟨S4x2x128x12288, .fp8e4m3⟩
  | .hbm, ⟨1, _⟩ => ⟨S4x2x128, .f32⟩
  | .hbm, ⟨2, _⟩ => ⟨S12288, .f32⟩
  | .hbm, ⟨3, _⟩ => ⟨S2x128x12288, .bf16⟩
  | .hbm, ⟨4, _⟩ => ⟨S12288, .f32⟩
  | .hbm, ⟨5, _⟩ => ⟨S12288, .f32⟩
  | .hbm, ⟨6, _⟩ => ⟨S2x128x12288, .bf16⟩
  | .hbm, ⟨7, _⟩ => ⟨S2x128x12288, .fp8e4m3⟩
  | .hbm, ⟨8, _⟩ => ⟨S2x128, .f32⟩
  | .local _ .vmem, ⟨0, _⟩ => ⟨S4x2x128x12288, .fp8e4m3⟩
  | .local _ .vmem, ⟨1, _⟩ => ⟨S4x2x128, .f32⟩
  | .local _ .vmem, ⟨2, _⟩ => ⟨S12288, .f32⟩
  | .local _ .vmem, ⟨3, _⟩ => ⟨S2x128x12288, .bf16⟩
  | .local _ .vmem, ⟨4, _⟩ => ⟨S12288, .f32⟩
  | .local _ .vmem, ⟨5, _⟩ => ⟨S12288, .f32⟩
  | .local _ .vmem, ⟨6, _⟩ => ⟨S2x128x12288, .bf16⟩
  | .local _ .vmem, ⟨7, _⟩ => ⟨S2x128x12288, .fp8e4m3⟩
  | .local _ .vmem, ⟨8, _⟩ => ⟨S2x128, .f32⟩
  | _, _ => ⟨S4x2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S4x2x128x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x12288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x12288 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x12288 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Rules.lean ====
/-
  Rules for a core that runs its own copies, over the elements of a buffer it holds: a `part` of a memref is a set of
  its elements at contents stated on the memref's whole index range, so that a load, a store, a copy, a split and a
  join each say what they do by one function of the whole buffer.
-/
module

public import Idealize.ShloMosaic.Lib.Transfers
public import Idealize.ShloMosaic.Lib.Memref
public import Idealize.ShloMosaic.Lib.MemrefSat
public import Idealize.ShloMosaic.Lib.Scf
public import Idealize.ShloMosaic.Lib.Tactic

@[expose] public section

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

/-- Run `f` at `i`, `i + 1`, …, `n - 1`, threading a value. -/
def walk {E : Type → Type} {α : Type} (n : ℕ) (f : Fin n → α → Prog E α) : (m i : ℕ) → i + m = n → α → Prog E α
  | 0, _, _, a => pure a
  | m + 1, i, h, a => f ⟨i, by omega⟩ a >>= fun a' => walk n f m (i + 1) (by omega) a'

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ## A part of a memref -/

section Part

variable (c : Thread nD τ) {sp : Space} {sh : Shape} {e : EltTy} (m : Memref sig c.2.kind sp sh e)

/-- The elements `S` of the memref at share `q`, holding `X` there. -/
def part (S : Finset sh.Idx) (q : PosShare TreeShare) (X : sh.Idx → Val e) : sProp 𝕄 :=
  iprop(∃ f, ⌜∀ i ∈ S, m.view.read Val f i = X i⌝ ∗ (m.view.loc c ↦[m.view.setOn S]{q} f))

variable {c m}

theorem part_congr {S : Finset sh.Idx} {q : PosShare TreeShare} {X Y : sh.Idx → Val e} (h : ∀ i ∈ S, X i = Y i) :
    (part c m S q X : sProp 𝕄) ⊢ part c m S q Y := by
  unfold part
  iintro ⟨%f, %hf, H⟩
  iexists f; isplitr
  · ipureintro; exact fun i hi => (hf i hi).trans (h i hi)
  · iexact H

theorem part_of_owns {q : PosShare TreeShare} {X : sh.Idx → Val e} : (owns c m q X : sProp 𝕄) ⊢ part c m Finset.univ q X := by
  unfold part owns
  iintro ⟨%f, %hf, H⟩
  iexists f; isplitr
  · ipureintro; exact fun i _ => congrFun hf i
  · iexact H

theorem owns_of_part {q : PosShare TreeShare} {X : sh.Idx → Val e} : (part c m Finset.univ q X : sProp 𝕄) ⊢ owns c m q X := by
  unfold part owns
  iintro ⟨%f, %hf, H⟩
  iexists f; isplitr
  · ipureintro; exact funext fun i => hf i (Finset.mem_univ i)
  · iexact H

/-- A rectangle's part is the slice owned. -/
theorem owns_slice_of_part {r : Rect sh} {hr : ∀ a, r.stride a = 1} {q : PosShare TreeShare} {X : sh.Idx → Val e} :
    (part c m r.set q X : sProp 𝕄) ⊢ owns c (m.slice r hr) q (fun j => X (r.emb j)) := by
  unfold part owns
  iintro ⟨%f, %hf, H⟩
  iexists f; isplitr
  · ipureintro; exact funext fun j => hf _ (by rw [← Rect.map_emb_univ]; exact Finset.mem_map_of_mem _ (Finset.mem_univ j))
  · rw [show (m.slice r hr).view.set = m.view.setOn r.set from View.set_slice _ _]; iexact H

theorem part_of_owns_slice {r : Rect sh} {hr : ∀ a, r.stride a = 1} {q : PosShare TreeShare} {X : sh.Idx → Val e}
    {Y : r.shape.Idx → Val e} (h : ∀ j, Y j = X (r.emb j)) :
    (owns c (m.slice r hr) q Y : sProp 𝕄) ⊢ part c m r.set q X := by
  unfold part owns
  iintro ⟨%f, %hf, H⟩
  iexists f; isplitr
  · ipureintro
    intro i hi
    rw [← Rect.map_emb_univ, Finset.mem_map] at hi
    obtain ⟨j, -, rfl⟩ := hi
    exact (congrFun hf j).trans (h j)
  · rw [show (m.slice r hr).view.set = m.view.setOn r.set from View.set_slice _ _]; iexact H

/-- A squeezed memref owned is the memref owned at the same contents, re-indexed. -/
theorem owns_squeeze {s' : Shape} {h : sh.Squeezes s'} {q : PosShare TreeShare} {X : sh.Idx → Val e} :
    (owns c m q X : sProp 𝕄) ⊢ owns c (m.squeeze s' h) q (fun j => X (Shape.reshapeEquiv h.numel_eq j)) := by
  unfold owns
  iintro ⟨%f, %hf, H⟩
  iexists f; isplitr
  · ipureintro; exact funext fun j => congrFun hf _
  · rw [show (m.squeeze s' h).view.set = m.view.set from View.set_reshape _ _]; iexact H

theorem owns_of_squeeze {s' : Shape} {h : sh.Squeezes s'} {q : PosShare TreeShare} {X : s'.Idx → Val e} :
    (owns c (m.squeeze s' h) q X : sProp 𝕄) ⊢ owns c m q (fun j => X ((Shape.reshapeEquiv h.numel_eq).symm j)) := by
  unfold owns
  iintro ⟨%f, %hf, H⟩
  iexists f; isplitr
  · ipureintro
    funext j
    have := congrFun hf ((Shape.reshapeEquiv h.numel_eq).symm j)
    rw [← this]
    change _ = m.view.read Val f (Shape.reshapeEquiv h.numel_eq ((Shape.reshapeEquiv h.numel_eq).symm j))
    rw [Equiv.apply_symm_apply]
  · rw [show (m.squeeze s' h).view.set = m.view.set from View.set_reshape _ _]; iexact H

/-- A share of a part is its two halves. -/
theorem part_halves {S : Finset sh.Idx} {q : PosShare TreeShare} {X : sh.Idx → Val e} :
    (part c m S q X : sProp 𝕄) ⊢ iprop(part c m S q.left X ∗ part c m S q.right X) := by
  unfold part
  iintro ⟨%f, %hf, H⟩
  ihave H2 := (pointsTo_share (PosShare.mem_left_op_right q)).1 $$ H
  icases H2 with ⟨Hl, Hr⟩
  isplitl [Hl]
  · iexists f; isplitr; · ipureintro; exact hf
    iexact Hl
  · iexists f; isplitr; · ipureintro; exact hf
    iexact Hr

theorem part_of_halves {S : Finset sh.Idx} {q : PosShare TreeShare} {X : sh.Idx → Val e} :
    iprop(part c m S q.left X ∗ part c m S q.right X) ⊢ (part c m S q X : sProp 𝕄) := by
  unfold part
  iintro ⟨⟨%f, %hf, Hl⟩, ⟨%g, -, Hr⟩⟩
  iapply (show iprop((m.view.loc c ↦[m.view.setOn S]{q.left} f) ∗ (m.view.loc c ↦[m.view.setOn S]{q.right} g))
      ⊢ (iprop(∃ f, ⌜∀ i ∈ S, m.view.read Val f i = X i⌝ ∗ (m.view.loc c ↦[m.view.setOn S]{q} f)) : sProp 𝕄) from
    pure_elim _ pointsTo_agree fun hv => by
      rw [pointsTo_congr (f := g) (g := f) (fun i hi => ((hv i (Finset.mem_inter.mpr ⟨hi, hi⟩)).1).symm)]
      iintro H
      iexists f; isplitr; · ipureintro; exact hf
      iapply (pointsTo_share (PosShare.mem_left_op_right q)).2; iexact H)
  isplitl [Hl]; · iexact Hl
  iexact Hr

/-- A family of disjoint parts is the part of their union. -/
theorem part_split {T : Type} [Fintype T] [DecidableEq T] {K : T → Finset sh.Idx} (hd : ∀ t t', t ≠ t' → Disjoint (K t) (K t'))
    (hu : ∀ i, ∃ t, i ∈ K t) {q : PosShare TreeShare} {X : sh.Idx → Val e} :
    (part c m Finset.univ q X : sProp 𝕄) ⊢ bigSep Finset.univ fun t => part c m (K t) q X := by
  classical
  have hset : m.view.setOn Finset.univ = Finset.univ.biUnion fun t => m.view.setOn (K t) := by
    ext i
    simp only [View.setOn, Finset.mem_map, Finset.mem_univ, true_and, Finset.mem_biUnion]
    constructor
    · rintro ⟨j, rfl⟩
      obtain ⟨t, ht⟩ := hu j
      exact ⟨t, j, ht, rfl⟩
    · rintro ⟨t, j, -, rfl⟩
      exact ⟨j, rfl⟩
  unfold part
  iintro ⟨%f, %hf, H⟩
  have hsplit : (m.view.loc c ↦[m.view.setOn Finset.univ]{q} f : sProp 𝕄)
      ⊢ bigSep Finset.univ fun t => (m.view.loc c ↦[m.view.setOn (K t)]{q} f) := by
    rw [hset]
    exact Entails.of_eq (pointsTo_biUnion Finset.univ _ fun t _ t' _ hne => (Finset.disjoint_map _).mpr (hd t t' hne))
  ihave H := hsplit $$ H
  have hmono : (bigSep Finset.univ fun t => (m.view.loc c ↦[m.view.setOn (K t)]{q} f) : sProp 𝕄)
      ⊢ bigSep Finset.univ fun t => iprop(∃ f, ⌜∀ i ∈ K t, m.view.read Val f i = X i⌝ ∗ (m.view.loc c ↦[m.view.setOn (K t)]{q} f)) := by
    refine bigSep_mono fun t _ => ?_
    have h : (m.view.loc c ↦[m.view.setOn (K t)]{q} f : sProp 𝕄)
        ⊢ iprop(∃ f, ⌜∀ i ∈ K t, m.view.read Val f i = X i⌝ ∗ (m.view.loc c ↦[m.view.setOn (K t)]{q} f)) := by
      iintro H
      iexists f; isplitr
      · ipureintro; exact fun i _ => hf i (Finset.mem_univ i)
      · iexact H
    exact h
  iapply hmono $$ H

theorem part_join {T : Type} [Fintype T] [DecidableEq T] [Nonempty T] {K : T → Finset sh.Idx} (hd : ∀ t t', t ≠ t' → Disjoint (K t) (K t'))
    (hu : ∀ i, ∃ t, i ∈ K t) {q : PosShare TreeShare} {X : sh.Idx → Val e} :
    (bigSep Finset.univ fun t => part c m (K t) q X : sProp 𝕄) ⊢ part c m Finset.univ q X := by
  classical
  have hset : m.view.setOn Finset.univ = Finset.univ.biUnion fun t => m.view.setOn (K t) := by
    ext i
    simp only [View.setOn, Finset.mem_map, Finset.mem_univ, true_and, Finset.mem_biUnion]
    constructor
    · rintro ⟨j, rfl⟩
      obtain ⟨t, ht⟩ := hu j
      exact ⟨t, j, ht, rfl⟩
    · rintro ⟨t, j, -, rfl⟩
      exact ⟨j, rfl⟩
  suffices h : ∀ S : Finset T, S.Nonempty → (bigSep S fun t => part c m (K t) q X : sProp 𝕄)
      ⊢ iprop(∃ f, ⌜∀ t ∈ S, ∀ i ∈ K t, m.view.read Val f i = X i⌝ ∗ (m.view.loc c ↦[S.biUnion fun t => m.view.setOn (K t)]{q} f)) by
    refine (h Finset.univ Finset.univ_nonempty).trans ?_
    unfold part
    iintro ⟨%f, %hf, H⟩
    iexists f; isplitr
    · ipureintro
      intro i _
      obtain ⟨t, ht⟩ := hu i
      exact hf t (Finset.mem_univ t) i ht
    · rw [hset]; iexact H
  intro S hS
  induction hS using Finset.Nonempty.cons_induction with
  | singleton t =>
    rw [bigSep_singleton, Finset.singleton_biUnion]
    unfold part
    iintro ⟨%f, %hf, H⟩
    iexists f; isplitr
    · ipureintro
      intro t' ht' i hi
      rw [Finset.mem_singleton] at ht'; subst ht'; exact hf i hi
    · iexact H
  | cons t S ht hS ih =>
    rw [Finset.cons_eq_insert, bigSep_insert ht, Finset.biUnion_insert]
    have hdj : Disjoint (m.view.setOn (K t)) (S.biUnion fun t => m.view.setOn (K t)) :=
      (Finset.disjoint_biUnion_right _ _ _).mpr fun t' ht' =>
        (Finset.disjoint_map _).mpr (hd t t' fun e => ht (e ▸ ht'))
    refine (sep_mono_right ih).trans ?_
    unfold part
    iintro ⟨⟨%f, %hf, H⟩, ⟨%g, %hg, HS⟩⟩
    iexists (S.biUnion fun t => m.view.setOn (K t)).piecewise g f
    isplitr
    · ipureintro
      intro t' ht' i hi
      rcases Finset.mem_insert.mp ht' with rfl | ht'
      · rw [← hf i hi, View.read_apply, View.read_apply, Finset.piecewise_eq_of_notMem _ _ _
          (Finset.disjoint_left.mp hdj (Finset.mem_map_of_mem _ hi))]
      · rw [← hg t' ht' i hi, View.read_apply, View.read_apply, Finset.piecewise_eq_of_mem _ _ _
          (Finset.mem_biUnion.mpr ⟨t', ht', Finset.mem_map_of_mem _ hi⟩)]
    · iapply (pointsTo_join hdj)
      isplitl [H]; · iexact H
      iexact HS

theorem part_split_any {T : Type} [Fintype T] [DecidableEq T] {K : T → Finset sh.Idx} (hd : ∀ t t', t ≠ t' → Disjoint (K t) (K t'))
    (hu : ∀ i, ∃ t, i ∈ K t) {q : PosShare TreeShare} :
    (iprop(∃ d, part c m Finset.univ q d) : sProp 𝕄) ⊢ bigSep Finset.univ fun t => iprop(∃ d, part c m (K t) q d) := by
  iintro ⟨%d, H⟩
  have h : (part c m Finset.univ q d : sProp 𝕄) ⊢ bigSep Finset.univ fun t => iprop(∃ d, part c m (K t) q d) := by
    refine (part_split hd hu).trans (bigSep_mono fun t _ => ?_)
    have h : (part c m (K t) q d : sProp 𝕄) ⊢ iprop(∃ d, part c m (K t) q d) := by
      iintro H
      iexists d; iexact H
    exact h
  iapply h $$ H

end Part

/-! ## Steps of a program -/

section Steps

variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

theorem wp_loadPart {cs : CoreSpace} {m : Memref sig c.2.kind cs s e} {r : Rect s} {hl : m.view.LoadsAt r.toLoadRect}
    {k : (r.shape.Idx → Val e) → Prog (TpuEff nD τ sig Val Λ c.2) α} {S : Finset s.Idx} {q : PosShare TreeShare}
    {X : s.Idx → Val e} (hS : r.set ⊆ S) :
    (part c m S q X : sProp 𝕄) ⊢ iprop((part c m S q X -∗ wp frame (wpE defs 𝒱 c bd) Set.univ (k fun j => X (r.emb j)) Q)
      -∗ wp frame (wpE defs 𝒱 c bd) Set.univ (.op (.load m r.toLoadRect hl) k) Q) := by
  unfold part
  iintro ⟨%f, %hf, H⟩ Hk
  have hread : m.view.readAt Val r.toLoadRect f = fun j => X (r.emb j) := funext fun j => by
    rw [View.readAt_rect]
    exact hf _ (hS (by rw [← Rect.map_emb_univ]; exact Finset.mem_map_of_mem _ (Finset.mem_univ j)))
  iapply (wp_load 𝒱 c bd Set.univ (S := m.view.setOn S) (Finset.map_subset_map.mpr hS)) $$ H
  rw [hread]
  iintro H
  iapply Hk
  iexists f; isplitr
  · ipureintro; exact hf
  · iexact H

theorem read_stored {m : Memref sig c.2.kind sp s e} {r : Rect s} {w : r.shape.Idx → Val e} {S : Finset s.Idx} {X Y : s.Idx → Val e}
    (hon : ∀ j, Y (r.emb j) = w j) (hoff : ∀ i ∈ S, i ∉ r.set → Y i = X i) {f : m.view.ty.Contents Val}
    (hf : ∀ i ∈ S, m.view.read Val f i = X i) (i : s.Idx) (hi : i ∈ S) :
    m.view.read Val ((m.view.slice r).write Val f w Finset.univ) i = Y i := by
  by_cases hr : i ∈ r.set
  · rw [← Rect.map_emb_univ, Finset.mem_map] at hr
    obtain ⟨j, -, rfl⟩ := hr
    rw [hon]
    exact View.read_slice_write_emb r f w (Finset.mem_univ j)
  · rw [hoff i hi hr, ← hf i hi]
    exact View.read_slice_write_of_not_mem r f w Finset.univ (by rw [Rect.map_emb_univ]; exact hr)

theorem wp_storePart {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {S : Finset s.Idx} {X Y : s.Idx → Val e} (hS : r.set ⊆ S)
    (hon : ∀ j, Y (r.emb j) = w j) (hoff : ∀ i ∈ S, i ∉ r.set → Y i = X i) :
    (part c m S fullShare X : sProp 𝕄) ⊢ iprop((part c m S fullShare Y -∗ wp frame (wpE defs 𝒱 c bd) Set.univ (k ⟨⟩) Q)
      -∗ wp frame (wpE defs 𝒱 c bd) Set.univ (.op (.store m r w Finset.univ hx hm) k) Q) := by
  have hsub : (m.access r).setOn Finset.univ ⊆ m.view.setOn S := by
    rw [View.setOn_univ, View.set_slice]; exact Finset.map_subset_map.mpr hS
  have key (f : m.view.ty.Contents Val) := wp_store (m := m) (r := r) (w := w) (Mk := Finset.univ) (hx := hx) (hm := hm) (k := k) (f := f)
    (Q := Q) (defs := defs) (Γ := PendingWaitsCtx.empty) (Name := Name) (U := U) (Lvl := Lvl) (Ix := Ix) 𝒱 c bd Set.univ hsub
  unfold part
  iintro ⟨%f, %hf, H⟩ Hk
  iapply (key f) $$ H
  iintro H
  iapply Hk
  iexists (m.view.slice r).write Val f w Finset.univ
  isplitr
  · ipureintro; exact read_stored c hon hoff hf
  · iexact H

variable [Infinite Name] (EC : UEmb Counters (MT nD τ sig Ix Val Name U Lvl)) [EC.LandsIn (upEmb : UEmb _ (MT nD τ sig Ix Val Name U Lvl))]

/-- Start a copy between two memrefs the core holds. -/
theorem wp_startCopy {src : Memref sig c.2.kind sp s e} {dst : Memref sig c.2.kind sp' s e} {sm : DmaSem sig}
    {hsrc : src.view.WordExact} {hdst : dst.view.WordExact} {hsem : DmaTarget.Typed (nD := nD) sp (.dma sm) (.here dst)}
    {k : PUnit → Prog (TpuEff nD τ sig Val Λ c.2) α} {q : PosShare TreeShare} {X Y : s.Idx → Val e} (ι : Ix) (hs : 0 < s.numel) :
    iprop(owns c src q X ∗ owns c dst fullShare Y ∗ semVal (c, .dma sm) 0)
      ⊢ iprop((Flight EC c (.dma sm) ι dst.view.dmaCredit iprop(owns c dst fullShare X ∗ owns c src q X)
              -∗ wp frame (wpE defs 𝒱 c bd) Set.univ (k ⟨⟩) Q)
          -∗ wp frame (wpE defs 𝒱 c bd) Set.univ (.op (.enqueueDma src (.here dst) (.dma sm) hsrc hdst hsem) k) Q) := by
  unfold owns
  iintro ⟨⟨%fs, %hfs, Hs⟩, ⟨%fd, -, Hd⟩, Hv⟩ Hk
  iapply (wp_dmaLocal EC 𝒱 c bd ι dst.view.dmaCredit rfl (dst.view.dmaCredit_pos hs) (Finset.Subset.refl _)) $$ [Hs Hd Hv]
  · isplitl [Hs]; · iexact Hs
    isplitl [Hd] <;> iassumption
  iintro HF
  iapply Hk
  iapply (Flight_mono EC c ?_) $$ HF
  iintro ⟨Hd, Hs⟩
  isplitl [Hd]
  · iexists _; isplitr; swap; · iexact Hd
    ipureintro
    rw [View.read_write_univ]
    exact hfs
  · iexists fs; isplitr; · ipureintro; exact hfs
    iexact Hs

end Steps

/-! ## Walks and loops -/

section Walks

variable {M : Type} [URA M]

/-- One more member of a family turned from `A` to `B`. -/
theorem relay_step {n : ℕ} (A B : Fin n → sProp M) (t : Fin n) :
    (bigSep Finset.univ fun j : Fin n => if j.val < t.val then B j else A j)
      ⊢ (iprop(A t ∗ (B t -∗ bigSep Finset.univ fun j : Fin n => if j.val < t.val + 1 then B j else A j)) : sProp M) := by
  classical
  have hrest : (bigSep (Finset.univ.erase t) fun j : Fin n => if j.val < t.val then B j else A j)
      = (bigSep (Finset.univ.erase t) fun j : Fin n => if j.val < t.val + 1 then B j else A j) := by
    refine bigSep_congr fun j hj => ?_
    have hne : j.val ≠ t.val := fun h => Finset.ne_of_mem_erase hj (Fin.ext h)
    by_cases h : j.val < t.val
    · rw [if_pos h, if_pos (by omega)]
    · rw [if_neg h, if_neg (by omega)]
  rw [bigSep_univ_split t, bigSep_univ_split (Φ := fun j : Fin n => if j.val < t.val + 1 then B j else A j) t, hrest,
    if_neg (lt_irrefl _), if_pos (Nat.lt_succ_self _)]
  have h (X : sProp M) : iprop(A t ∗ X) ⊢ iprop(A t ∗ (B t -∗ (B t ∗ X))) := by
    iintro ⟨HA, HX⟩
    isplitl [HA]; · iexact HA
    iintro HB
    isplitl [HB]; · iexact HB
    iexact HX
  exact h _

theorem relay_start {n : ℕ} (A B : Fin n → sProp M) :
    bigSep Finset.univ A ⊢ (bigSep Finset.univ fun j : Fin n => if j.val < 0 then B j else A j) :=
  Entails.of_eq (bigSep_congr fun j _ => (if_neg (Nat.not_lt_zero _)).symm)

theorem relay_end {n : ℕ} (A B : Fin n → sProp M) :
    (bigSep Finset.univ fun j : Fin n => if j.val < n then B j else A j) ⊢ bigSep Finset.univ B :=
  Entails.of_eq (bigSep_congr fun j _ => if_pos j.isLt)

variable {E : Type → Type} {Mask : Sort*} (Fr : Mask → sProp M) (wpE : Mask → ∀ ⦃β : Type⦄, E β → sWPT M β) (Es : Mask)
variable [∀ ⦃β : Type⦄ (e : E β), sWPT.Frameable (wpE Es e)]

/-- A walk by an invariant. -/
theorem wp_walk {α : Type} {n : ℕ} (f : Fin n → α → Prog E α) (I : ℕ → α → sProp M)
    (hf : ∀ (k : Fin n) (a : α), I k a ⊢ wp Fr wpE Es (f k a) (I (k.val + 1))) :
    ∀ (m i : ℕ) (h : i + m = n) (a : α), I i a ⊢ wp Fr wpE Es (walk n f m i h a) (I n)
  | 0, i, h, a => by
    have hi : i = n := by omega
    subst hi
    exact le_wp_ret Fr wpE Es a _
  | m + 1, i, h, a => by
    change _ ⊢ wp Fr wpE Es (f ⟨i, by omega⟩ a >>= fun a' => walk n f m (i + 1) (by omega) a') _
    rw [wp_bind]
    exact (hf ⟨i, by omega⟩ a).trans (wp_mono Fr wpE Es fun a' => wp_walk f I hf m (i + 1) (by omega) a')

/-- A walk at the head of a program. -/
theorem wp_walk_bind {α β : Type} {n : ℕ} {f : Fin n → α → Prog E α} (I : ℕ → α → sProp M)
    (hf : ∀ (k : Fin n) (a : α), I k a ⊢ wp Fr wpE Es (f k a) (I (k.val + 1)))
    {m : ℕ} {h : 0 + m = n} {a : α} {kk : α → Prog E β} {Q : β → sProp M} :
    I 0 a ⊢ iprop((∀ a', I n a' -∗ wp Fr wpE Es (kk a') Q) -∗ wp Fr wpE Es (walk n f m 0 h a >>= kk) Q) := by
  rw [wp_bind]
  iintro HI HK
  iapply (wp_wand_r Fr wpE Es (Q := I n))
  isplitl [HI]
  · iapply (wp_walk Fr wpE Es f I hf m 0 h a) $$ HI
  · iexact HK

/-- A family handed over one member at each step, with what every step uses. -/
def relay {n : ℕ} (A B : Fin n → sProp M) (J : ℕ → sProp M) (k : ℕ) : sProp M :=
  iprop((bigSep Finset.univ fun j : Fin n => if j.val < k then B j else A j) ∗ J k)

theorem relay_run {α : Type} {n : ℕ} {A B : Fin n → sProp M} {J : ℕ → sProp M} {t : Fin n} {p : Prog E α}
    (hf : iprop(A t ∗ J t.val) ⊢ wp Fr wpE Es p (fun _ => iprop(B t ∗ J (t.val + 1)))) :
    relay A B J t.val ⊢ wp Fr wpE Es p (fun _ => relay A B J (t.val + 1)) := by
  unfold relay
  iintro ⟨H, HJ⟩
  ihave H := (relay_step A B t) $$ H
  icases H with ⟨HA, HB⟩
  iapply (wp_wand_r Fr wpE Es (Q := fun _ => iprop(B t ∗ J (t.val + 1))))
  isplitl [HA HJ]
  · iapply hf $$ [HA HJ]
    isplitl [HA]; · iexact HA
    iexact HJ
  iintro %_ ⟨HBt, HJ⟩
  isplitl [HB HBt]
  · iapply HB $$ HBt
  iexact HJ

theorem relay_of {n : ℕ} {A B : Fin n → sProp M} {J : ℕ → sProp M} : iprop(bigSep Finset.univ A ∗ J 0) ⊢ relay A B J 0 :=
  BIClass.sep_mono (relay_start A B) .rfl
theorem of_relay {n : ℕ} {A B : Fin n → sProp M} {J : ℕ → sProp M} : relay A B J n ⊢ iprop(bigSep Finset.univ B ∗ J n) :=
  BIClass.sep_mono (relay_end A B) .rfl

end Walks

end Cert.Hand
-- ==== Proof.Trip.lean ====
/-
  One trip of the kernel's loop, written with its four column walks folded back: the printed trip is the same
  program with every walk unrolled and cut every sixty statements, so the two are one program by unfolding
  (`trip_eq`). What each operation stores is named here once for every chunk of columns.
-/
module

public import proofs.«01_k».proof.Proof.Gen.Kernel.Skeleton
public import proofs.«01_k».proof.Proof.Rules
public import Idealize.ShloMosaic.Lib.Pipeline.Regions

@[expose] public section

noncomputable section

namespace Cert.Kernel.Hand

open Cert.Kernel Cert.Kernel.Gen Cert.Hand
open Idealize.ShloMosaic Idealize.SL.Sem
open Idealize.ShloMosaic.Tactic Idealize.ShloMosaic.Pipeline

variable {F : FTy → Type} [FloatOps F]

/-! ## What one chunk computes -/

/-- The reciprocal of the row length, as the kernel holds it. -/
def invD : F .f32 := Scalar.ofBits .f32 0x38AAAAAB#32

/-- The running value of each lane after the four 128-lane tiles of a 512-column chunk. -/
def fold4 (op : FVec F S32x128 .f32 → FVec F S32x128 .f32 → FVec F S32x128 .f32) (acc : FVec F S32x128 .f32)
    (v : FVec F S32x512 .f32) : FVec F S32x128 .f32 :=
  op (op (op (op acc (extractStridedSlice S32x128 ![0, 0] v slices_S32x512_o0_0_S32x128))
    (extractStridedSlice S32x128 ![0, 128] v slices_S32x512_o0_128_S32x128))
    (extractStridedSlice S32x128 ![0, 256] v slices_S32x512_o0_256_S32x128))
    (extractStridedSlice S32x128 ![0, 384] v slices_S32x512_o0_384_S32x128)

/-- The residual rows of a chunk: the scaled sum of the shards, the bias and the input, rounded to bf16. -/
def resid (lhs : Vec F S1x32x128 .bf16) (p : Vec F S1x4x32x512 .fp8e4m3) (b : Vec F S1x512 .f32) (x : Vec F S1x32x512 .bf16) :
    FVec F S32x512 .bf16 :=
  truncf .bf16 (addf (addf (matmul dot_S32x128_S128x512_S32x512_1_0_0_1_n_n none
      (shapeCast S32x128 lhs shapeCasts_S1x32x128_S32x128)
      (shapeCast S128x512 (shapeCast S4x32x512 p shapeCasts_S1x4x32x512_S4x32x512) shapeCasts_S4x32x512_S128x512)
      (constant S32x512 .f32 0x00000000#32)) (broadcastTo S32x512 b broadcasts_S1x512_S32x512))
    (extf .f32 (shapeCast S32x512 x shapeCasts_S1x32x512_S32x512) bitsLt_bf16_f32)) bitsLt_bf16_f32

def zeros : FVec F S32x128 .f32 := broadcast S32x128 (Scalar.ofBits .f32 0x00000000#32)

/-- A lane sum times the reciprocal of the row length. -/
def meanOf (acc : FVec F S32x128 .f32) : FVec F S32x1 .f32 :=
  mulf (shapeCast S32x1 (multiReduction .add [1] S32 acc 0x00000000#32 reduces_S32x128_S32 (.inl rfl) rfl) shapeCasts_S32_S32x1)
    (broadcast S32x1 invD)

/-- The deviations of a chunk from its rows' means. -/
def devOf (mu : FVec F S32x1 .f32) (r : Vec F S1x32x512 .bf16) : FVec F S32x512 .f32 :=
  subf (extf .f32 (shapeCast S32x512 r shapeCasts_S1x32x512_S32x512) bitsLt_bf16_f32) (broadcastTo S32x512 mu broadcasts_S32x1_S32x512)

def sqOf (mu : FVec F S32x1 .f32) (r : Vec F S1x32x512 .bf16) : FVec F S32x512 .f32 := mulf (devOf mu r) (devOf mu r)

def rsOf (acc : FVec F S32x128 .f32) : FVec F S32x1 .f32 :=
  rsqrt (addf (meanOf acc) (broadcast S32x1 (Scalar.ofBits .f32 0x358637BD#32)))

/-- The normalised rows of a chunk. -/
def normOf (mu rs : FVec F S32x1 .f32) (r : Vec F S1x32x512 .bf16) (g b : Vec F S1x512 .f32) : FVec F S32x512 .f32 :=
  addf (mulf (mulf (devOf mu r) (broadcastTo S32x512 rs broadcasts_S32x1_S32x512)) (broadcastTo S32x512 g broadcasts_S1x512_S32x512))
    (broadcastTo S32x512 b broadcasts_S1x512_S32x512)

/-- A row's largest lane times the reciprocal of 448, on every lane. -/
def amaxOf (acc : FVec F S32x128 .f32) : FVec F S32x128 .f32 :=
  mulf (broadcastTo S32x128 (shapeCast S32x1 (shapeCast S32x1
      (multiReduction .maximumf [1] S32 acc 0xFF800000#32 reduces_S32x128_S32 (.inl rfl) rfl) shapeCasts_S32_S32x1) shapeCasts_S32x1_S32x1)
      broadcasts_S32x1_S32x128)
    (broadcast S32x128 (Scalar.ofBits .f32 0x3B124925#32))

/-- One step of the search for the exponent field: take the bit `k` when `2 ^ (n + k - 127) ≤ v`. -/
def takeBit (v : FVec F S32x128 .f32) (k : BitVec 32) (n : IVec S32x128 32) : IVec S32x128 32 :=
  select (cmpf .oge v (bitcastToFloat .f32 (shli (addi n (broadcast S32x128 k)) (broadcast S32x128 23#32))))
    (addi n (broadcast S32x128 k)) n

/-- The exponent field of `v`. -/
def expField (v : FVec F S32x128 .f32) : IVec S32x128 32 :=
  takeBit v 1#32 (takeBit v 2#32 (takeBit v 4#32 (takeBit v 8#32 (takeBit v 16#32 (takeBit v 32#32
    (takeBit v 64#32 (takeBit v 128#32 (broadcast S32x128 0#32))))))))

/-- The power of two's exponent: that of the least power above `v`, zero where `v` has exponent field 0 or 255. -/
def expOf (v : FVec F S32x128 .f32) : IVec S32x128 32 :=
  select (ori (cmpi .eq (expField v) (broadcast S32x128 0#32)) (cmpi .eq (expField v) (broadcast S32x128 255#32)))
    (broadcast S32x128 0#32) (subi (expField v) (broadcast S32x128 126#32))

def scaleOf (v : FVec F S32x128 .f32) : FVec F S32x128 .f32 :=
  bitcastToFloat .f32 (shli (addi (broadcast S32x128 127#32) (expOf v)) (broadcast S32x128 23#32))

def invOf (v : FVec F S32x128 .f32) : FVec F S32x128 .f32 :=
  bitcastToFloat .f32 (shli (subi (broadcast S32x128 127#32) (expOf v)) (broadcast S32x128 23#32))

/-- The codes of a tile of 128 columns. -/
def codeOf (inv : FVec F S32x128 .f32) (y : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf y inv))) bitsLt_fp8e4m3_f32

/-! ## The slabs' scales placed in the scale result -/

/-- A slab's number as the kernel counts it. -/
def wd (t : Fin k0_t1_loop.trips) : BitVec 32 := Scf.iv 0#32 1#32 t

/-- `t // 4`: the slab's batch row. -/
def batchW (a : BitVec 32) : BitVec 32 :=
  Scalar.select (Scalar.andi (Scalar.cmpi .ne
      (Scalar.subi (Scalar.extui (Scalar.cmpi .sgt a 0#32)) (Scalar.extui (Scalar.cmpi .slt a 0#32)))
      (Scalar.subi (Scalar.extui (Scalar.cmpi .sgt 4#32 0#32)) (Scalar.extui (Scalar.cmpi .slt 4#32 0#32))))
      (Scalar.cmpi .ne (Scalar.remsi a 4#32) 0#32))
    (Scalar.subi (Scalar.divsi a 4#32) 1#32) (Scalar.divsi a 4#32)

/-- `(t % 4) * 32`: the slab's first token. -/
def tokenW (a : BitVec 32) : BitVec 32 :=
  let d : BitVec 32 := Scalar.select (Scalar.cmpi .eq 4#32 0#32) 1#32 4#32
  Scalar.muli (Scalar.select (Scalar.andi (Scalar.xori (Scalar.cmpi .slt (Scalar.remsi a d) 0#32) (Scalar.cmpi .slt d 0#32))
      (Scalar.cmpi .ne (Scalar.remsi a d) 0#32))
    (Scalar.addi (Scalar.remsi a d) d) (Scalar.remsi a d)) 32#32

/-- The slab's scales, each on the lane of its token. -/
def placed (lane row : IVec S32x128 32) (t : Fin k0_t1_loop.trips) (scale : FVec F S32x128 .f32) : FVec F S1x128 .f32 :=
  shapeCast S1x128 (multiReduction .add [0] S128
    (select (cmpi .eq lane (addi row (broadcast S32x128 (tokenW (wd t))))) scale (broadcast S32x128 (Scalar.ofBits .f32 0x00000000#32)))
    0x00000000#32 reduces_S32x128_S128 (.inl rfl) rfl) shapeCasts_S128_S1x128

/-! ## Where each chunk lies -/

theorem wd_lt (t : Fin k0_t1_loop.trips) : (wd t).toNat < 8 := by
  have h := k0_off5_inb t 0
  change (wd t).toNat + 1 ≤ 8 at h
  omega

abbrev offP (t : Fin k0_t1_loop.trips) (k : Fin 24) : Fin 4 → ℕ := ![(wd t).toNat, 0, 0, 512 * k.val]
abbrev offR (t : Fin k0_t1_loop.trips) (k : Fin 24) : Fin 3 → ℕ := ![(wd t).toNat, 0, 512 * k.val]
abbrev offC (t : Fin k0_t1_loop.trips) (k : Fin 96) : Fin 3 → ℕ := ![(wd t).toNat, 0, 128 * k.val]
abbrev offY (k : Fin 24) : Fin 2 → ℕ := ![0, 512 * k.val]
abbrev offL (k : Fin 96) : Fin 2 → ℕ := ![0, 128 * k.val]

theorem offP_inb (t : Fin k0_t1_loop.trips) (k : Fin 24) (a : Fin 4) : offP t k a + S1x4x32x512.size a ≤ S8x4x32x12288.size a := by
  have := wd_lt t; have := k.isLt
  match a with
  | 0 => change (wd t).toNat + 1 ≤ 8; omega
  | 1 => exact le_of_eq (Nat.zero_add _)
  | 2 => exact le_of_eq (Nat.zero_add _)
  | 3 => change 512 * k.val + 512 ≤ 12288; omega
theorem offR_inb (t : Fin k0_t1_loop.trips) (k : Fin 24) (a : Fin 3) : offR t k a + S1x32x512.size a ≤ S8x32x12288.size a := by
  have := wd_lt t; have := k.isLt
  match a with
  | 0 => change (wd t).toNat + 1 ≤ 8; omega
  | 1 => exact le_of_eq (Nat.zero_add _)
  | 2 => change 512 * k.val + 512 ≤ 12288; omega
theorem offC_inb (t : Fin k0_t1_loop.trips) (k : Fin 96) (a : Fin 3) : offC t k a + S1x32x128.size a ≤ S8x32x12288.size a := by
  have := wd_lt t; have := k.isLt
  match a with
  | 0 => change (wd t).toNat + 1 ≤ 8; omega
  | 1 => exact le_of_eq (Nat.zero_add _)
  | 2 => change 128 * k.val + 128 ≤ 12288; omega
theorem offY_inb (k : Fin 24) (a : Fin 2) : offY k a + S32x512.size a ≤ S32x12288.size a := by
  have := k.isLt
  match a with
  | 0 => exact le_of_eq (Nat.zero_add _)
  | 1 => change 512 * k.val + 512 ≤ 12288; omega
theorem offB_inb (k : Fin 24) (a : Fin 2) : offY k a + S1x512.size a ≤ S1x12288.size a := by
  have := k.isLt
  match a with
  | 0 => exact le_of_eq (Nat.zero_add _)
  | 1 => change 512 * k.val + 512 ≤ 12288; omega
theorem offL_inb (k : Fin 96) (a : Fin 2) : offL k a + S32x128.size a ≤ S32x12288.size a := by
  have := k.isLt
  match a with
  | 0 => exact le_of_eq (Nat.zero_add _)
  | 1 => change 128 * k.val + 128 ≤ 12288; omega

abbrev rP (t : Fin k0_t1_loop.trips) (k : Fin 24) : Rect S8x4x32x12288 := Rect.unit (s := S8x4x32x12288) (offP t k) S1x4x32x512.size (offP_inb t k)
abbrev rR (t : Fin k0_t1_loop.trips) (k : Fin 24) : Rect S8x32x12288 := Rect.unit (s := S8x32x12288) (offR t k) S1x32x512.size (offR_inb t k)
abbrev rC (t : Fin k0_t1_loop.trips) (k : Fin 96) : Rect S8x32x12288 := Rect.unit (s := S8x32x12288) (offC t k) S1x32x128.size (offC_inb t k)
abbrev rY (k : Fin 24) : Rect S32x12288 := Rect.unit (s := S32x12288) (offY k) S32x512.size (offY_inb k)
abbrev rB (k : Fin 24) : Rect S1x12288 := Rect.unit (s := S1x12288) (offY k) S1x512.size (offB_inb k)
abbrev rL (k : Fin 96) : Rect S32x12288 := Rect.unit (s := S32x12288) (offL k) S32x128.size (offL_inb k)

theorem rR_packed (t : Fin k0_t1_loop.trips) (k : Fin 24) : (rR t k).PackedRows (EltTy.packing .bf16) :=
  .inr ⟨by decide, rfl, .inl ⟨⟨0, rfl⟩, ⟨16, rfl⟩⟩⟩
theorem rC_packed (t : Fin k0_t1_loop.trips) (k : Fin 96) : (rC t k).PackedRows (EltTy.packing .fp8e4m3) :=
  .inr ⟨by decide, rfl, .inl ⟨⟨0, rfl⟩, ⟨8, rfl⟩⟩⟩

/-! ## The trip -/

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)

/-- The trip's two ends of each of its four copies: the slab of the kernel's own buffer, the rows of the array. -/
abbrev cellP (t : Fin k0_t1_loop.trips) : DmaSem sig :=
  ((arg19.slice (Rect.unit (s := S2x8) (k0_off1 t) S1x1.size (k0_off1_inb t))).squeeze S_ squeezes_S1x1_S_).sem
abbrev cellX (t : Fin k0_t1_loop.trips) : DmaSem sig :=
  ((arg19.slice (Rect.unit (s := S2x8) (k0_off4 t) S1x1.size (k0_off4_inb t))).squeeze S_ squeezes_S1x1_S_).sem
abbrev cellR (t : Fin k0_t1_loop.trips) : DmaSem sig :=
  ((arg21.slice (Rect.unit (s := S8) (k0_off56 t) S1.size (k0_off56_inb t))).squeeze S_ squeezes_S1_S_).sem
abbrev cellC (t : Fin k0_t1_loop.trips) : DmaSem sig :=
  ((arg22.slice (Rect.unit (s := S8) (k0_off56 t) S1.size (k0_off56_inb t))).squeeze S_ squeezes_S1_S_).sem
abbrev slabP (t : Fin k0_t1_loop.trips) : Memref sig .tc .vmem S4x32x12288 .fp8e4m3 :=
  (arg9.slice (Rect.unit (s := S8x4x32x12288) (k0_off2 t) S1x4x32x12288.size (k0_off2_inb t)) (fun _ => rfl)).squeeze S4x32x12288 squeezes_S1x4x32x12288_S4x32x12288
abbrev slabX (t : Fin k0_t1_loop.trips) : Memref sig .tc .vmem S32x12288 .bf16 :=
  (arg10.slice (Rect.unit (s := S8x32x12288) (k0_off5 t) S1x32x12288.size (k0_off5_inb t)) (fun _ => rfl)).squeeze S32x12288 squeezes_S1x32x12288_S32x12288
abbrev slabR (t : Fin k0_t1_loop.trips) : Memref sig .tc .vmem S32x12288 .bf16 :=
  (arg11.slice (Rect.unit (s := S8x32x12288) (k0_off5 t) S1x32x12288.size (k0_off5_inb t)) (fun _ => rfl)).squeeze S32x12288 squeezes_S1x32x12288_S32x12288
abbrev slabC (t : Fin k0_t1_loop.trips) : Memref sig .tc .vmem S32x12288 .fp8e4m3 :=
  (arg12.slice (Rect.unit (s := S8x32x12288) (k0_off5 t) S1x32x12288.size (k0_off5_inb t)) (fun _ => rfl)).squeeze S32x12288 squeezes_S1x32x12288_S32x12288
abbrev rowsP (t : Fin k0_t1_loop.trips) : Memref sig .tc .hbm S4x32x12288 .fp8e4m3 :=
  arg0.slice (Rect.unit (s := S4x256x12288) (k0_off3 t) S4x32x12288.size (k0_off3_inb t)) (fun _ => rfl)
abbrev rowsX (t : Fin k0_t1_loop.trips) : Memref sig .tc .hbm S32x12288 .bf16 :=
  arg3.slice (Rect.unit (s := S256x12288) (k0_off6 t) S32x12288.size (k0_off6_inb t)) (fun _ => rfl)
abbrev rowsR (t : Fin k0_t1_loop.trips) : Memref sig .tc .hbm S32x12288 .bf16 :=
  arg6.slice (Rect.unit (s := S256x12288) (k0_off6 t) S32x12288.size (k0_off6_inb t)) (fun _ => rfl)
abbrev rowsC (t : Fin k0_t1_loop.trips) : Memref sig .tc .hbm S32x12288 .fp8e4m3 :=
  arg7.slice (Rect.unit (s := S256x12288) (k0_off6 t) S32x12288.size (k0_off6_inb t)) (fun _ => rfl)

/-- Chunk `k` of the first walk: the residual rows, stored, and their lane sums. -/
def sumChunk (t : Fin k0_t1_loop.trips) (lhs : Vec F S1x32x128 .bf16) (k : Fin 24) (acc : FVec F S32x128 .f32) :
    Prog (TpuEff nD τ sig (Elt F) Λ₀ .tc) (FVec F S32x128 .f32) := do
  let p : Vec F S1x4x32x512 .fp8e4m3 ← Prog.lift (.load arg9 (rP t k).toLoadRect (View.loadsAt_vmem h_S1x4x32x512))
  let b : Vec F S1x512 .f32 ← Prog.lift (.load arg16 (rB k).toLoadRect (View.loadsAt_vmem h_S1x512))
  let x : Vec F S1x32x512 .bf16 ← Prog.lift (.load arg10 (rR t k).toLoadRect (View.loadsAt_vmem h_S1x32x512))
  let _ : Vec F S1x32x512 .bf16 ← Prog.lift (.load arg11 (rR t k).toLoadRect (View.loadsAt_vmem h_S1x32x512))
  Prog.lift (.store arg11 (rR t k) (shapeCast S1x32x512 (resid lhs p b x) shapeCasts_S32x512_S1x32x512) Finset.univ
    (View.stores_vmem h_S1x32x512 (harg11.storeExact_slice rfl _ (rR_packed t k)) (fun _ => rfl)) (.inl rfl))
  pure (fold4 addf acc (extf .f32 (resid lhs p b x) bitsLt_bf16_f32))

/-- Chunk `k` of the second walk: the lane sums of the squared deviations. -/
def sqChunk (t : Fin k0_t1_loop.trips) (mu : FVec F S32x1 .f32) (k : Fin 24) (acc : FVec F S32x128 .f32) :
    Prog (TpuEff nD τ sig (Elt F) Λ₀ .tc) (FVec F S32x128 .f32) := do
  let r : Vec F S1x32x512 .bf16 ← Prog.lift (.load arg11 (rR t k).toLoadRect (View.loadsAt_vmem h_S1x32x512))
  pure (fold4 addf acc (sqOf mu r))

/-- Chunk `k` of the third walk: the normalised rows, stored, and the lane maxima of their absolute values. -/
def normChunk (t : Fin k0_t1_loop.trips) (mu rs : FVec F S32x1 .f32) (k : Fin 24) (acc : FVec F S32x128 .f32) :
    Prog (TpuEff nD τ sig (Elt F) Λ₀ .tc) (FVec F S32x128 .f32) := do
  let r : Vec F S1x32x512 .bf16 ← Prog.lift (.load arg11 (rR t k).toLoadRect (View.loadsAt_vmem h_S1x32x512))
  let g : Vec F S1x512 .f32 ← Prog.lift (.load arg17 (rB k).toLoadRect (View.loadsAt_vmem h_S1x512))
  let b : Vec F S1x512 .f32 ← Prog.lift (.load arg18 (rB k).toLoadRect (View.loadsAt_vmem h_S1x512))
  let _ : Vec F S32x512 .f32 ← Prog.lift (.load arg13 (rY k).toLoadRect (View.loadsAt_vmem h_S32x512))
  Prog.lift (.store arg13 (rY k) (shapeCast S32x512 (normOf mu rs r g b) shapeCasts_S32x512_S32x512) Finset.univ
    (View.stores_vmem_bits_univ h_S32x512 rfl) (.inl rfl))
  pure (fold4 maximumf acc (absf (normOf mu rs r g b)))

/-- Tile `k` of the last walk: the codes, stored. -/
def codeTile (t : Fin k0_t1_loop.trips) (inv : FVec F S32x128 .f32) (k : Fin 96) (_ : PUnit.{1}) :
    Prog (TpuEff nD τ sig (Elt F) Λ₀ .tc) PUnit.{1} := do
  let y : Vec F S32x128 .f32 ← Prog.lift (.load arg13 (rL k).toLoadRect (View.loadsAt_vmem h_S32x128))
  let _ : Vec F S1x32x128 .fp8e4m3 ← Prog.lift (.load arg12 (rC t k).toLoadRect (View.loadsAt_vmem h_S1x32x128))
  Prog.lift (.store arg12 (rC t k) (shapeCast S1x32x128 (codeOf inv y) shapeCasts_S32x128_S1x32x128) Finset.univ
    (View.stores_vmem h_S1x32x128 (harg12.storeExact_slice rfl _ (rC_packed t k)) (fun _ => rfl)) (.inl rfl))

abbrev walk24 {α : Type} (f : Fin 24 → α → Prog (TpuEff nD τ sig (Elt F) Λ₀ .tc) α) (a : α) := walk 24 f 24 0 rfl a

/-- The trip. -/
def trip (lane row : IVec S32x128 32) (t : Fin k0_t1_loop.trips) : Prog (TpuEff nD τ sig (Elt F) Λ₀ .tc) Unit := do
  Prog.lift (.waitDma2 (cellP arg19 t) (rowsP arg0 t) (slabP arg9 t) (harg0.wordExact_slice rfl _ (k0_off3_wordsfp8e4m3 t))
    ((harg9.wordExact_slice rfl _ (k0_off2_wordsfp8e4m3 t)).reshape _ _))
  Prog.lift (.waitDma2 (cellX arg19 t) (rowsX arg3 t) (slabX arg10 t) (harg3.wordExact_slice rfl _ (k0_off6_wordsbf16 t))
    ((harg10.wordExact_slice rfl _ (k0_off5_wordsbf16 t)).reshape _ _))
  let lhs : Vec F S1x32x128 .bf16 ← Prog.lift (.load arg14 (Rect.unit (s := S8x32x128) (k0_off7 t) S1x32x128.size (k0_off7_inb t)).toLoadRect (View.loadsAt_vmem h_S1x32x128))
  let acc : FVec F S32x128 .f32 ← walk24 (sumChunk arg9 arg10 arg11 harg11 arg16 t lhs) zeros
  Prog.lift (.enqueueDma (slabR arg11 t) (.here (rowsR arg6 t)) (.dma (cellR arg21 t))
    ((harg11.wordExact_slice rfl _ (k0_off5_wordsbf16 t)).reshape _ _) (harg6.wordExact_slice rfl _ (k0_off6_wordsbf16 t)) ⟨Or.inl rfl, trivial⟩)
  let sq : FVec F S32x128 .f32 ← walk24 (sqChunk arg11 t (meanOf acc)) zeros
  let am : FVec F S32x128 .f32 ← walk24 (normChunk arg11 arg13 arg17 arg18 t (meanOf acc) (rsOf sq)) zeros
  walk 96 (codeTile arg12 harg12 arg13 t (invOf (amaxOf am))) 96 0 rfl ⟨⟩
  let o : Vec F S2x128 .f32 ← Prog.lift (.load arg8 (Rect.unit (s := S2x128) ![0, 0] S2x128.size inb_S2x128_S2x128_0_0).toLoadRect (View.loadsAt_vmem h_S2x128))
  let _ : Vec F S2x128 .f32 ← Prog.lift (.load arg8 (Rect.unit (s := S2x128) ![0, 0] S2x128.size inb_S2x128_S2x128_0_0).toLoadRect (View.loadsAt_vmem h_S2x128))
  Prog.lift (.store arg8 (Rect.unit (s := S2x128) ![0, 0] S2x128.size inb_S2x128_S2x128_0_0)
    (k0_pay333 (batchW (wd t)) (placed lane row t (scaleOf (amaxOf am))) (iota .tc S2x128 32 [0] iota_S2x128_d0_w32) o) Finset.univ
    (View.stores_vmem_bits_univ h_S2x128 rfl) (.inl rfl))
  Prog.lift (.enqueueDma (slabC arg12 t) (.here (rowsC arg7 t)) (.dma (cellC arg22 t))
    ((harg12.wordExact_slice rfl _ (k0_off5_wordsfp8e4m3 t)).reshape _ _) (harg7.wordExact_slice rfl _ (k0_off6_wordsfp8e4m3 t)) ⟨Or.inl rfl, trivial⟩)
  pure ⟨⟩

variable (v116 : IVec S32x128 1) (v140 : IVec S32x128 32) (v439 : FVec F S32x128 .f32)

set_option maxRecDepth 100000 in
set_option maxHeartbeats 0 in
/-- The printed trip is this one. -/
theorem trip_eq (lane row : IVec S32x128 32) (t : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v116 v140 v439 lane row t u
      = trip (F := F) arg0 harg0 arg3 harg3 arg6 harg6 arg7 harg7 arg8 arg9 harg9 arg10 harg10 arg11 harg11 arg12 harg12 arg13 arg14 arg16 arg17 arg18 arg19 arg21 arg22 lane row t := by
  chain_rfl

end

end Cert.Kernel.Hand

end
-- ==== Proof.Body.lean ====
/-
  The kernel's body, written with its unrolled walks over the eight slabs folded back around the loop: the copies
  in, the scale operand, the loop, the waits for the copies out. The printed body is this one by unfolding (`body_eq`).
-/
module

public import proofs.«01_k».proof.Proof.Trip

@[expose] public section

noncomputable section

namespace Cert.Kernel.Hand

open Cert.Kernel Cert.Kernel.Gen Cert.Hand
open Idealize.ShloMosaic Idealize.SL.Sem
open Idealize.ShloMosaic.Tactic Idealize.ShloMosaic.Pipeline

variable {F : FTy → Type} [FloatOps F]

/-! ## The scale operand -/

/-- The scales of shard `p` for a slab: its 128 lanes rotated by 32 lanes for each step from the slab's place in its row to
    the shard's. -/
def rolled (n : Fin 4) (p : Fin 4) (v : FVec F S1x128 .f32) : FVec F S1x128 .f32 :=
  match (p.val + 4 - n.val) % 4 with
  | 0 => v
  | k + 1 => dynamicRotate 1 (BitVec.ofNat 32 (32 * (k + 1))) none v rotates_S1x128_d1

/-- Shard `p`'s scales on the diagonal of its 32 lanes, over what the other shards put there. -/
def onDiag (n p : Fin 4) (v : Vec F S1x1x128 .f32) (acc : FVec F S32x128 .f32) : FVec F S32x128 .f32 :=
  select (andi k0_pay309 (cmpi .eq k0_pay310 (broadcast S32x128 (BitVec.ofNat 32 p.val))))
    (broadcastTo S32x128 (shapeCast S1x128 (rolled n p (shapeCast S1x128 v shapeCasts_S1x1x128_S1x128)) shapeCasts_S1x128_S1x128)
      broadcasts_S1x128_S32x128) acc

/-- The left operand of a slab. -/
def lhsOf (n : Fin 4) (v0 v1 v2 v3 : Vec F S1x1x128 .f32) : FVec F S32x128 .bf16 :=
  truncf .bf16 (onDiag n 3 v3 (onDiag n 2 v2 (onDiag n 1 v1 (onDiag n 0 v0 zeros)))) bitsLt_bf16_f32

theorem trips_eq : k0_t1_loop.trips = 8 := by decide

/-- A slab's row of the batch and its place in the row. -/
def slabB (t : Fin k0_t1_loop.trips) : Fin 2 := ⟨t.val / 4, by have h : t.val < 8 := lt_of_lt_of_eq t.isLt trips_eq; exact Nat.div_lt_of_lt_mul h⟩
def slabN (t : Fin k0_t1_loop.trips) : Fin 4 := ⟨t.val % 4, Nat.mod_lt _ (by decide)⟩

theorem offS_inb (b : Fin 2) (p : Fin 4) (a : Fin 3) : (![p.val, b.val, 0] : Fin 3 → ℕ) a + S1x1x128.size a ≤ S4x2x128.size a := by
  have := b.isLt; have := p.isLt
  match a with
  | 0 => change p.val + 1 ≤ 4; omega
  | 1 => change b.val + 1 ≤ 2; omega
  | 2 => exact le_of_eq (Nat.zero_add _)
abbrev rS (b : Fin 2) (p : Fin 4) : Rect S4x2x128 := Rect.unit (s := S4x2x128) ![p.val, b.val, 0] S1x1x128.size (offS_inb b p)
abbrev rLhs (t : Fin k0_t1_loop.trips) : Rect S8x32x128 := Rect.unit (s := S8x32x128) (k0_off7 t) S1x32x128.size (k0_off7_inb t)
theorem rLhs_packed (t : Fin k0_t1_loop.trips) : (rLhs t).PackedRows (EltTy.packing .bf16) :=
  .inr ⟨by decide, rfl, .inl ⟨⟨0, rfl⟩, ⟨16, rfl⟩⟩⟩
abbrev rYs : Rect S2x128 := Rect.unit (s := S2x128) ![0, 0] S2x128.size inb_S2x128_S2x128_0_0

theorem small_inb (i : Fin 4) (a : Fin 1) : (![i.val] : Fin 1 → ℕ) a + S1.size a ≤ S4.size a := by
  have := i.isLt
  match a with
  | 0 => change i.val + 1 ≤ 4; omega

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)

abbrev cellS (i : Fin 4) : DmaSem sig :=
  ((arg20.slice (Rect.unit (s := S4) ![i.val] S1.size (small_inb i))).squeeze S_ squeezes_S1_S_).sem

abbrev walk8 (f : Fin k0_t1_loop.trips → Prog (TpuEff nD τ sig (Elt F) Λ₀ .tc) PUnit.{1}) : Prog (TpuEff nD τ sig (Elt F) Λ₀ .tc) PUnit.{1} :=
  walk k0_t1_loop.trips (fun t _ => f t) 8 0 trips_eq.symm ⟨⟩

/-- Start a slab's copies in. -/
def startIn (t : Fin k0_t1_loop.trips) : Prog (TpuEff nD τ sig (Elt F) Λ₀ .tc) PUnit.{1} := do
  Prog.lift (.enqueueDma (rowsP arg0 t) (.here (slabP arg9 t)) (.dma (cellP arg19 t)) (harg0.wordExact_slice rfl _ (k0_off3_wordsfp8e4m3 t))
    ((harg9.wordExact_slice rfl _ (k0_off2_wordsfp8e4m3 t)).reshape _ _) ⟨Or.inl rfl, trivial⟩)
  Prog.lift (.enqueueDma (rowsX arg3 t) (.here (slabX arg10 t)) (.dma (cellX arg19 t)) (harg3.wordExact_slice rfl _ (k0_off6_wordsbf16 t))
    ((harg10.wordExact_slice rfl _ (k0_off5_wordsbf16 t)).reshape _ _) ⟨Or.inl rfl, trivial⟩)

/-- Put a slab's scales on the diagonals of its left operand. -/
def buildLhs (t : Fin k0_t1_loop.trips) : Prog (TpuEff nD τ sig (Elt F) Λ₀ .tc) PUnit.{1} := do
  let v0 : Vec F S1x1x128 .f32 ← Prog.lift (.load arg15 (rS (slabB t) 0).toLoadRect (View.loadsAt_vmem h_S1x1x128))
  let v1 : Vec F S1x1x128 .f32 ← Prog.lift (.load arg15 (rS (slabB t) 1).toLoadRect (View.loadsAt_vmem h_S1x1x128))
  let v2 : Vec F S1x1x128 .f32 ← Prog.lift (.load arg15 (rS (slabB t) 2).toLoadRect (View.loadsAt_vmem h_S1x1x128))
  let v3 : Vec F S1x1x128 .f32 ← Prog.lift (.load arg15 (rS (slabB t) 3).toLoadRect (View.loadsAt_vmem h_S1x1x128))
  let _ : Vec F S1x32x128 .bf16 ← Prog.lift (.load arg14 (rLhs t).toLoadRect (View.loadsAt_vmem h_S1x32x128))
  Prog.lift (.store arg14 (rLhs t) (shapeCast S1x32x128 (lhsOf (slabN t) v0 v1 v2 v3) shapeCasts_S32x128_S1x32x128) Finset.univ
    (View.stores_vmem h_S1x32x128 (harg14.storeExact_slice rfl _ (rLhs_packed t)) (fun _ => rfl)) (.inl rfl))

/-- Wait for a slab's copies out. -/
def awaitOut (t : Fin k0_t1_loop.trips) : Prog (TpuEff nD τ sig (Elt F) Λ₀ .tc) PUnit.{1} := do
  Prog.lift (.waitDma2 (cellR arg21 t) (slabR arg11 t) (rowsR arg6 t) ((harg11.wordExact_slice rfl _ (k0_off5_wordsbf16 t)).reshape _ _)
    (harg6.wordExact_slice rfl _ (k0_off6_wordsbf16 t)))
  Prog.lift (.waitDma2 (cellC arg22 t) (slabC arg12 t) (rowsC arg7 t) ((harg12.wordExact_slice rfl _ (k0_off5_wordsfp8e4m3 t)).reshape _ _)
    (harg7.wordExact_slice rfl _ (k0_off6_wordsfp8e4m3 t)))

abbrev laneV : IVec S32x128 32 := iota .tc S32x128 32 [1] iota_S32x128_d1_w32
abbrev rowV : IVec S32x128 32 := iota .tc S32x128 32 [0] iota_S32x128_d0_w32

/-- The body. -/
def body : Prog (TpuEff nD τ sig (Elt F) Λ₀ .tc) PUnit.{1} := do
  Prog.lift (.enqueueDma arg1 (.here arg15) (.dma (cellS arg20 0)) harg1.wordExact harg15.wordExact ⟨Or.inl rfl, trivial⟩)
  Prog.lift (.enqueueDma arg2 (.here arg16) (.dma (cellS arg20 1)) harg2.wordExact harg16.wordExact ⟨Or.inl rfl, trivial⟩)
  Prog.lift (.enqueueDma arg4 (.here arg17) (.dma (cellS arg20 2)) harg4.wordExact harg17.wordExact ⟨Or.inl rfl, trivial⟩)
  Prog.lift (.enqueueDma arg5 (.here arg18) (.dma (cellS arg20 3)) harg5.wordExact harg18.wordExact ⟨Or.inl rfl, trivial⟩)
  walk8 (startIn arg0 harg0 arg3 harg3 arg9 harg9 arg10 harg10 arg19)
  Prog.lift (.waitDma2 (cellS arg20 0) arg1 arg15 harg1.wordExact harg15.wordExact)
  walk8 (buildLhs arg14 harg14 arg15)
  let _ : Vec F S2x128 .f32 ← Prog.lift (.load arg8 rYs.toLoadRect (View.loadsAt_vmem h_S2x128))
  Prog.lift (.store arg8 rYs (k0_pay332 (F := F)) Finset.univ (View.stores_vmem_bits_univ h_S2x128 rfl) (.inl rfl))
  Prog.lift (.waitDma2 (cellS arg20 1) arg2 arg16 harg2.wordExact harg16.wordExact)
  Prog.lift (.waitDma2 (cellS arg20 2) arg4 arg17 harg4.wordExact harg17.wordExact)
  Prog.lift (.waitDma2 (cellS arg20 3) arg5 arg18 harg5.wordExact harg18.wordExact)
  (Scf.Loop.for k0_t1_loop k0_t1_ok () (fun t _ => trip arg0 harg0 arg3 harg3 arg6 harg6 arg7 harg7 arg8 arg9 harg9 arg10 harg10 arg11 harg11 arg12 harg12 arg13 arg14 arg16 arg17 arg18 arg19 arg21 arg22 laneV rowV t) >>= fun _ => pure ⟨⟩)
  walk8 (awaitOut arg6 harg6 arg7 harg7 arg11 harg11 arg12 harg12 arg21 arg22)

set_option maxRecDepth 100000 in
set_option maxHeartbeats 0 in
/-- The printed body is this one. -/
theorem body_eq :
    cc0_shard_sum_layernorm_quant (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22
      = body (F := F) arg0 harg0 arg1 harg1 arg2 harg2 arg3 harg3 arg4 harg4 arg5 harg5 arg6 harg6 arg7 harg7 arg8 arg9 harg9 arg10 harg10 arg11 harg11 arg12 harg12 arg13 arg14 harg14 arg15 harg15 arg16 harg16 arg17 harg17 arg18 harg18 arg19 arg20 arg21 arg22 := by
  chain_rfl

end

end Cert.Kernel.Hand

end
-- ==== Proof.Values.lean ====
/-
  What every buffer of the kernel holds, as one function of the six arrays the body is given: the slabs of partial
  sums and inputs, the left operand, the residual rows, the normalised rows, the codes, the scales. And where each
  chunk and slab lies, by coordinates.
-/
module

public import proofs.«01_k».proof.Proof.Body
public import Idealize.ShloMosaic.Lib.ValueLayout
public import Idealize.ShloMosaic.Lib.Pipeline.ValueKit.Geometry

@[expose] public section

noncomputable section

namespace Cert.Kernel.Hand

open Cert.Kernel Cert.Kernel.Gen Cert.Hand
open Idealize.ShloMosaic Idealize.SL.Sem
open Idealize.ShloMosaic.ValueIdx

variable {F : FTy → Type} [FloatOps F]

/-- The first `k` steps of a fold. -/
def upto {α : Type} {n : ℕ} (f : Fin n → α → α) : ℕ → α → α
  | 0, a => a
  | k + 1, a => if h : k < n then f ⟨k, h⟩ (upto f k a) else upto f k a

theorem upto_succ {α : Type} {n : ℕ} (f : Fin n → α → α) (k : Fin n) (a : α) : upto f (k.val + 1) a = f k (upto f k.val a) :=
  dif_pos k.isLt

abbrev T : ℕ := k0_t1_loop.trips
def slabOf (i : Fin 8) : Fin T := i.cast trips_eq.symm
theorem slab_lt (t : Fin T) : t.val < 8 := lt_of_lt_of_eq t.isLt trips_eq

/-- Row `r` of slab `a`. -/
def rowOf (a : Fin 8) (r : Fin 32) : Fin 256 := ⟨32 * a.val + r.val, by have := a.isLt; have := r.isLt; omega⟩
def inSlab (i : Fin 256) : Fin 8 := ⟨i.val / 32, by have := i.isLt; omega⟩
def inRow (i : Fin 256) : Fin 32 := ⟨i.val % 32, Nat.mod_lt _ (by decide)⟩
theorem rowOf_inSlab (i : Fin 256) : rowOf (inSlab i) (inRow i) = i := Fin.ext (by simp only [rowOf, inSlab, inRow]; omega)
theorem inSlab_rowOf (a : Fin 8) (r : Fin 32) : inSlab (rowOf a r) = a := Fin.ext (by have := r.isLt; simp only [rowOf, inSlab]; omega)
theorem inRow_rowOf (a : Fin 8) (r : Fin 32) : inRow (rowOf a r) = r := Fin.ext (by have := r.isLt; simp only [rowOf, inRow]; omega)
/-- The chunk of 512 columns a column lies in, and its place there; the tile of 128, and its place. -/
def chunkOf (j : Fin 12288) : Fin 24 := ⟨j.val / 512, by have := j.isLt; omega⟩
def inChunk (j : Fin 12288) : Fin 512 := ⟨j.val % 512, Nat.mod_lt _ (by decide)⟩
def tileOf (j : Fin 12288) : Fin 96 := ⟨j.val / 128, by have := j.isLt; omega⟩
def inTile (j : Fin 12288) : Fin 128 := ⟨j.val % 128, Nat.mod_lt _ (by decide)⟩

section
variable (X0 : Vec F S4x256x12288 .fp8e4m3) (X1 : Vec F S4x2x128 .f32) (X2 : Vec F S1x12288 .f32) (X3 : Vec F S256x12288 .bf16)
  (X4 X5 : Vec F S1x12288 .f32)

/-- The slabs of partial sums and of inputs. -/
def DP : Vec F S8x4x32x12288 .fp8e4m3 := fun i => X0 (ix3 (i 1) (rowOf (i 0) (i 2)) (i 3))
def DX : Vec F S8x32x12288 .bf16 := fun i => X3 (ix2 (rowOf (i 0) (i 1)) (i 2))

/-- The left operand of a slab. -/
def lhsAt (t : Fin T) : FVec F S32x128 .bf16 :=
  lhsOf (slabN t) (fun j => X1 ((rS (slabB t) 0).emb j)) (fun j => X1 ((rS (slabB t) 1).emb j)) (fun j => X1 ((rS (slabB t) 2).emb j))
    (fun j => X1 ((rS (slabB t) 3).emb j))
def DL : Vec F S8x32x128 .bf16 := fun i => lhsAt X1 (slabOf (i 0)) (ix2 (i 1) (i 2))

/-- The residual rows of a chunk of a slab. -/
def residAt (t : Fin T) (k : Fin 24) : FVec F S32x512 .bf16 :=
  resid (fun j => DL X1 ((rLhs t).emb j)) (fun j => DP X0 ((rP t k).emb j)) (fun j => X2 ((rB k).emb j)) (fun j => DX X3 ((rR t k).emb j))
def DR : Vec F S8x32x12288 .bf16 := fun i => residAt X0 X1 X2 X3 (slabOf (i 0)) (chunkOf (i 2)) (ix2 (i 1) (inChunk (i 2)))

def sumAcc (t : Fin T) (k : ℕ) : FVec F S32x128 .f32 :=
  upto (n := 24) (fun k acc => fold4 addf acc (extf .f32 (residAt X0 X1 X2 X3 t k) bitsLt_bf16_f32)) k zeros
def muAt (t : Fin T) : FVec F S32x1 .f32 := meanOf (sumAcc X0 X1 X2 X3 t 24)
def sqAcc (t : Fin T) (k : ℕ) : FVec F S32x128 .f32 :=
  upto (n := 24) (fun k acc => fold4 addf acc (sqOf (muAt X0 X1 X2 X3 t) (fun j => DR X0 X1 X2 X3 ((rR t k).emb j)))) k zeros
def rsAt (t : Fin T) : FVec F S32x1 .f32 := rsOf (sqAcc X0 X1 X2 X3 t 24)

/-- The normalised rows of a chunk of a slab. -/
def normAt (t : Fin T) (k : Fin 24) : FVec F S32x512 .f32 :=
  normOf (muAt X0 X1 X2 X3 t) (rsAt X0 X1 X2 X3 t) (fun j => DR X0 X1 X2 X3 ((rR t k).emb j)) (fun j => X4 ((rB k).emb j)) (fun j => X5 ((rB k).emb j))
def DY (t : Fin T) : Vec F S32x12288 .f32 := fun i => normAt X0 X1 X2 X3 X4 X5 t (chunkOf (i 1)) (ix2 (i 0) (inChunk (i 1)))
def maxAcc (t : Fin T) (k : ℕ) : FVec F S32x128 .f32 :=
  upto (n := 24) (fun k acc => fold4 maximumf acc (absf (normAt X0 X1 X2 X3 X4 X5 t k))) k zeros
def amAt (t : Fin T) : FVec F S32x128 .f32 := amaxOf (maxAcc X0 X1 X2 X3 X4 X5 t 24)

/-- The codes of a tile of a slab. -/
def codeAt (t : Fin T) (k : Fin 96) : FVec F S32x128 .fp8e4m3 :=
  codeOf (invOf (amAt X0 X1 X2 X3 X4 X5 t)) (fun j => DY X0 X1 X2 X3 X4 X5 t ((rL k).emb j))
def DC : Vec F S8x32x12288 .fp8e4m3 := fun i => codeAt X0 X1 X2 X3 X4 X5 (slabOf (i 0)) (tileOf (i 2)) (ix2 (i 1) (inTile (i 2)))

/-- The scale result after `n` slabs. -/
def scaleStep (t : Fin T) (o : Vec F S2x128 .f32) : Vec F S2x128 .f32 :=
  k0_pay333 (batchW (wd t)) (placed laneV rowV t (scaleOf (amAt X0 X1 X2 X3 X4 X5 t))) (iota .tc S2x128 32 [0] iota_S2x128_d0_w32) o
def DS (n : ℕ) : Vec F S2x128 .f32 := upto (n := T) (scaleStep X0 X1 X2 X3 X4 X5) n (k0_pay332 (F := F))

/-- The two results left in HBM. -/
def outR : Vec F S256x12288 .bf16 := fun i => DR X0 X1 X2 X3 (ix3 (inSlab (i 0)) (inRow (i 0)) (i 1))
def outC : Vec F S256x12288 .fp8e4m3 := fun i => DC X0 X1 X2 X3 X4 X5 (ix3 (inSlab (i 0)) (inRow (i 0)) (i 1))

end

/-! ## Where things lie -/

theorem wd_toNat : ∀ t : Fin T, (wd t).toNat = t.val := by decide +kernel

/-- The elements of a slab's slot in each of the kernel's slabbed buffers, and of its rows in each array. -/
def slotP (t : Fin T) : Finset S8x4x32x12288.Idx := (Rect.unit (s := S8x4x32x12288) (k0_off2 t) S1x4x32x12288.size (k0_off2_inb t)).set
def slot (t : Fin T) : Finset S8x32x12288.Idx := (Rect.unit (s := S8x32x12288) (k0_off5 t) S1x32x12288.size (k0_off5_inb t)).set
def rows3 (t : Fin T) : Finset S4x256x12288.Idx := (Rect.unit (s := S4x256x12288) (k0_off3 t) S4x32x12288.size (k0_off3_inb t)).set
def rows (t : Fin T) : Finset S256x12288.Idx := (Rect.unit (s := S256x12288) (k0_off6 t) S32x12288.size (k0_off6_inb t)).set

theorem mem_slotP (t : Fin T) (i : S8x4x32x12288.Idx) : i ∈ slotP t ↔ (i 0).val = t.val := by
  unfold slotP
  rw [Rect.mem_set_unit, k0_off2_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
    | 3 => exact ⟨Nat.zero_le _, lt_of_lt_of_eq (i 3).isLt (Nat.zero_add _).symm⟩
theorem mem_slot (t : Fin T) (i : S8x32x12288.Idx) : i ∈ slot t ↔ (i 0).val = t.val := by
  unfold slot
  rw [Rect.mem_set_unit, k0_off5_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
theorem mem_rows3 (t : Fin T) (i : S4x256x12288.Idx) : i ∈ rows3 t ↔ (inSlab (i 1)).val = t.val := by
  unfold rows3 inSlab
  rw [Rect.mem_set_unit, k0_off3_eq]
  constructor
  · intro h; have h0 := h 1; change 32 * t.val ≤ (i 1).val ∧ (i 1).val < 32 * t.val + 32 at h0; change (i 1).val / 32 = t.val; omega
  · intro h a
    change (i 1).val / 32 = t.val at h
    match a with
    | 0 => exact ⟨Nat.zero_le _, lt_of_lt_of_eq (i 0).isLt (Nat.zero_add _).symm⟩
    | 1 => change 32 * t.val ≤ (i 1).val ∧ (i 1).val < 32 * t.val + 32; omega
    | 2 => exact ⟨Nat.zero_le _, lt_of_lt_of_eq (i 2).isLt (Nat.zero_add _).symm⟩
theorem mem_rows (t : Fin T) (i : S256x12288.Idx) : i ∈ rows t ↔ (inSlab (i 0)).val = t.val := by
  unfold rows inSlab
  rw [Rect.mem_set_unit, k0_off6_eq]
  constructor
  · intro h; have h0 := h 0; change 32 * t.val ≤ (i 0).val ∧ (i 0).val < 32 * t.val + 32 at h0; change (i 0).val / 32 = t.val; omega
  · intro h a
    change (i 0).val / 32 = t.val at h
    match a with
    | 0 => change 32 * t.val ≤ (i 0).val ∧ (i 0).val < 32 * t.val + 32; omega
    | 1 => exact ⟨Nat.zero_le _, lt_of_lt_of_eq (i 1).isLt (Nat.zero_add _).symm⟩

/-- Slabs are disjoint and cover. -/
theorem disjoint_of_key {ι α : Type} {K : ι → Finset α} (key : α → ℕ) (num : ι → ℕ) (hnum : Function.Injective num)
    (h : ∀ t i, i ∈ K t ↔ key i = num t) (t t' : ι) (hne : t ≠ t') : Disjoint (K t) (K t') :=
  Finset.disjoint_left.mpr fun i hi hi' => hne (hnum (((h t i).mp hi).symm.trans ((h t' i).mp hi')))
theorem cover_of_key {α : Type} {K : Fin T → Finset α} (key : α → Fin 8)
    (h : ∀ t i, i ∈ K t ↔ (key i).val = t.val) (i : α) : ∃ t, i ∈ K t :=
  ⟨slabOf (key i), (h _ i).mpr rfl⟩

theorem slotP_disj (t t' : Fin T) (h : t ≠ t') : Disjoint (slotP t) (slotP t') := disjoint_of_key _ Fin.val Fin.val_injective mem_slotP t t' h
theorem slot_disj (t t' : Fin T) (h : t ≠ t') : Disjoint (slot t) (slot t') := disjoint_of_key _ Fin.val Fin.val_injective mem_slot t t' h
theorem rows3_disj (t t' : Fin T) (h : t ≠ t') : Disjoint (rows3 t) (rows3 t') := disjoint_of_key _ Fin.val Fin.val_injective mem_rows3 t t' h
theorem rows_disj (t t' : Fin T) (h : t ≠ t') : Disjoint (rows t) (rows t') := disjoint_of_key _ Fin.val Fin.val_injective mem_rows t t' h
theorem slotP_cover (i : S8x4x32x12288.Idx) : ∃ t, i ∈ slotP t := cover_of_key (fun i => (i 0 : Fin 8)) mem_slotP i
theorem slot_cover (i : S8x32x12288.Idx) : ∃ t, i ∈ slot t := cover_of_key (fun i => (i 0 : Fin 8)) mem_slot i
theorem rows3_cover (i : S4x256x12288.Idx) : ∃ t, i ∈ rows3 t := cover_of_key (fun i => inSlab (i 1)) mem_rows3 i
theorem rows_cover (i : S256x12288.Idx) : ∃ t, i ∈ rows t := cover_of_key (fun i => inSlab (i 0)) mem_rows i

theorem mem_rR (t : Fin T) (k : Fin 24) (i : S8x32x12288.Idx) : i ∈ (rR t k).set ↔ (i 0).val = t.val ∧ 512 * k.val ≤ (i 2).val ∧ (i 2).val < 512 * k.val + 512 := by
  rw [Rect.mem_set_unit]
  have hw := wd_toNat t
  constructor
  · intro h
    have h0 := h 0; change (wd t).toNat ≤ (i 0).val ∧ (i 0).val < (wd t).toNat + 1 at h0
    have h2 := h 2; change 512 * k.val ≤ (i 2).val ∧ (i 2).val < 512 * k.val + 512 at h2
    omega
  · intro h a
    match a with
    | 0 => change (wd t).toNat ≤ (i 0).val ∧ (i 0).val < (wd t).toNat + 1; omega
    | 1 => exact ⟨Nat.zero_le _, lt_of_lt_of_eq (i 1).isLt (Nat.zero_add _).symm⟩
    | 2 => exact h.2
theorem mem_rC (t : Fin T) (k : Fin 96) (i : S8x32x12288.Idx) : i ∈ (rC t k).set ↔ (i 0).val = t.val ∧ 128 * k.val ≤ (i 2).val ∧ (i 2).val < 128 * k.val + 128 := by
  rw [Rect.mem_set_unit]
  have hw := wd_toNat t
  constructor
  · intro h
    have h0 := h 0; change (wd t).toNat ≤ (i 0).val ∧ (i 0).val < (wd t).toNat + 1 at h0
    have h2 := h 2; change 128 * k.val ≤ (i 2).val ∧ (i 2).val < 128 * k.val + 128 at h2
    omega
  · intro h a
    match a with
    | 0 => change (wd t).toNat ≤ (i 0).val ∧ (i 0).val < (wd t).toNat + 1; omega
    | 1 => exact ⟨Nat.zero_le _, lt_of_lt_of_eq (i 1).isLt (Nat.zero_add _).symm⟩
    | 2 => exact h.2
theorem mem_rY (k : Fin 24) (i : S32x12288.Idx) : i ∈ (rY k).set ↔ 512 * k.val ≤ (i 1).val ∧ (i 1).val < 512 * k.val + 512 := by
  rw [Rect.mem_set_unit]
  constructor
  · intro h; exact h 1
  · intro h a
    match a with
    | 0 => exact ⟨Nat.zero_le _, lt_of_lt_of_eq (i 0).isLt (Nat.zero_add _).symm⟩
    | 1 => exact h
theorem mem_rLhs (t : Fin T) (i : S8x32x128.Idx) : i ∈ (rLhs t).set ↔ (i 0).val = t.val := by
  rw [Rect.mem_set_unit, k0_off7_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
theorem mem_rP (t : Fin T) (k : Fin 24) (i : S8x4x32x12288.Idx) (h : i ∈ (rP t k).set) : (i 0).val = t.val := by
  rw [Rect.mem_set_unit] at h
  have hw := wd_toNat t
  have h0 := h 0; change (wd t).toNat ≤ (i 0).val ∧ (i 0).val < (wd t).toNat + 1 at h0
  omega

theorem rP_sub (t : Fin T) (k : Fin 24) : (rP t k).set ⊆ slotP t := fun i hi => (mem_slotP t i).mpr (mem_rP t k i hi)
theorem rR_sub (t : Fin T) (k : Fin 24) : (rR t k).set ⊆ slot t := fun i hi => (mem_slot t i).mpr ((mem_rR t k i).mp hi).1
theorem rC_sub (t : Fin T) (k : Fin 96) : (rC t k).set ⊆ slot t := fun i hi => (mem_slot t i).mpr ((mem_rC t k i).mp hi).1

/-! Placements, by coordinates. -/

theorem emb_rP (t : Fin T) (k : Fin 24) (j : S1x4x32x512.Idx) :
    (rP t k).emb j = (ix4 ⟨t.val, slab_lt t⟩ (j 1 : Fin 4) (j 2 : Fin 32) (⟨512 * k.val + (j 3).val, by have := k.isLt; have := (j 3).isLt; change (j 3).val < 512 at this; omega⟩ : Fin 12288) : S8x4x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => exact Nat.zero_add _
  | 3 => rfl
theorem emb_rR (t : Fin T) (k : Fin 24) (j : S1x32x512.Idx) :
    (rR t k).emb j = (ix3 ⟨t.val, slab_lt t⟩ (j 1 : Fin 32) (⟨512 * k.val + (j 2).val, by have := k.isLt; have := (j 2).isLt; change (j 2).val < 512 at this; omega⟩ : Fin 12288) : S8x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => rfl
theorem emb_rC (t : Fin T) (k : Fin 96) (j : S1x32x128.Idx) :
    (rC t k).emb j = (ix3 ⟨t.val, slab_lt t⟩ (j 1 : Fin 32) (⟨128 * k.val + (j 2).val, by have := k.isLt; have := (j 2).isLt; change (j 2).val < 128 at this; omega⟩ : Fin 12288) : S8x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => rfl
theorem emb_rY (k : Fin 24) (j : S32x512.Idx) :
    (rY k).emb j = (ix2 (j 0 : Fin 32) (⟨512 * k.val + (j 1).val, by have := k.isLt; have := (j 1).isLt; change (j 1).val < 512 at this; omega⟩ : Fin 12288) : S32x12288.Idx) := by
  funext a
  refine Fin.ext ?_
  rw [ValueKit.rect_emb_unit_val]
  match a with
  | 0 => exact Nat.zero_add _
  | 1 => rfl
theorem emb_rB (k : Fin 24) (j : S1x512.Idx) :
    (rB k).emb j = (ix2 (0 : Fin 1) (⟨512 * k.val + (j 1).val, by have := k.isLt; have := (j 1).isLt; change (j 1).val < 512 at this; omega⟩ : Fin 12288) : S1x12288.Idx) := by
  funext a
  refine Fin.ext ?_
  rw [ValueKit.rect_emb_unit_val]
  match a with
  | 0 => have := (j 0).isLt; change (j 0).val < 1 at this; change 0 + (j 0).val = 0; omega
  | 1 => rfl
theorem emb_rL (k : Fin 96) (j : S32x128.Idx) :
    (rL k).emb j = (ix2 (j 0 : Fin 32) (⟨128 * k.val + (j 1).val, by have := k.isLt; have := (j 1).isLt; change (j 1).val < 128 at this; omega⟩ : Fin 12288) : S32x12288.Idx) := by
  funext a
  refine Fin.ext ?_
  rw [ValueKit.rect_emb_unit_val]
  match a with
  | 0 => exact Nat.zero_add _
  | 1 => rfl
theorem emb_rLhs (t : Fin T) (j : S1x32x128.Idx) :
    (rLhs t).emb j = (ix3 ⟨t.val, slab_lt t⟩ (j 1 : Fin 32) (j 2 : Fin 128) : S8x32x128.Idx) := by
  funext a
  refine Fin.ext ?_
  rw [ValueKit.rect_emb_unit_val]
  have ho := congrFun (k0_off7_eq t)
  match a with
  | 0 =>
    have := (j 0).isLt; change (j 0).val < 1 at this
    have h0 : k0_off7 t 0 = t.val := ho 0
    change k0_off7 t 0 + (j 0).val = t.val; omega
  | 1 =>
    have h1 : k0_off7 t 1 = 0 := ho 1
    change k0_off7 t 1 + (j 1).val = (j 1).val; omega
  | 2 =>
    have h2 : k0_off7 t 2 = 0 := ho 2
    change k0_off7 t 2 + (j 2).val = (j 2).val; omega

theorem slabOf_mk (t : Fin T) : slabOf ⟨t.val, slab_lt t⟩ = t := Fin.ext rfl
theorem chunkOf_mk (k : Fin 24) (j : ℕ) (hj : j < 512) (h : 512 * k.val + j < 12288) : chunkOf ⟨512 * k.val + j, h⟩ = k :=
  Fin.ext (by simp only [chunkOf]; omega)
theorem inChunk_mk (k : Fin 24) (j : ℕ) (hj : j < 512) (h : 512 * k.val + j < 12288) : inChunk ⟨512 * k.val + j, h⟩ = ⟨j, hj⟩ :=
  Fin.ext (by simp only [inChunk]; omega)
theorem tileOf_mk (k : Fin 96) (j : ℕ) (hj : j < 128) (h : 128 * k.val + j < 12288) : tileOf ⟨128 * k.val + j, h⟩ = k :=
  Fin.ext (by simp only [tileOf]; omega)
theorem inTile_mk (k : Fin 96) (j : ℕ) (hj : j < 128) (h : 128 * k.val + j < 12288) : inTile ⟨128 * k.val + j, h⟩ = ⟨j, hj⟩ :=
  Fin.ext (by simp only [inTile]; omega)

/-! What is stored at each chunk is what the whole buffer's function says there. -/

section
variable (X0 : Vec F S4x256x12288 .fp8e4m3) (X1 : Vec F S4x2x128 .f32) (X2 : Vec F S1x12288 .f32) (X3 : Vec F S256x12288 .bf16)
  (X4 X5 : Vec F S1x12288 .f32)

theorem ix2_eta {a b : ℕ} (x : Fin a) (y : Fin b) (j : (⟨2, ![a, b]⟩ : Shape).Idx) (h0 : j 0 = x) (h1 : j 1 = y) : ix2 x y = j := by
  funext d
  match d with
  | 0 => exact h0.symm
  | 1 => exact h1.symm
theorem ix3_one_eta {a b : ℕ} (j : (⟨3, ![1, a, b]⟩ : Shape).Idx) : ix3 (⟨0, Nat.one_pos⟩ : Fin 1) (j 1 : Fin a) (j 2 : Fin b) = j := by
  funext d
  match d with
  | 0 => exact Fin.ext (by have := (j 0).isLt; change (j 0).val < 1 at this; change 0 = (j 0).val; omega)
  | 1 => rfl
  | 2 => rfl

theorem DR_emb (t : Fin T) (k : Fin 24) (j : S1x32x512.Idx) :
    DR X0 X1 X2 X3 ((rR t k).emb j) = shapeCast S1x32x512 (residAt X0 X1 X2 X3 t k) shapeCasts_S32x512_S1x32x512 j := by
  conv_rhs => rw [← ix3_one_eta j]
  erw [shapeCast_ab_1ab_apply]
  rw [emb_rR]
  unfold DR
  have h2 : (j 2).val < 512 := (j 2).isLt
  change residAt X0 X1 X2 X3 (slabOf ⟨t.val, slab_lt t⟩) (chunkOf ⟨512 * k.val + (j 2).val, _⟩) (ix2 (j 1) (inChunk ⟨512 * k.val + (j 2).val, _⟩)) = _
  rw [slabOf_mk, chunkOf_mk k _ h2, inChunk_mk k _ h2]
  rfl

theorem DC_emb (t : Fin T) (k : Fin 96) (j : S1x32x128.Idx) :
    DC X0 X1 X2 X3 X4 X5 ((rC t k).emb j) = shapeCast S1x32x128 (codeAt X0 X1 X2 X3 X4 X5 t k) shapeCasts_S32x128_S1x32x128 j := by
  conv_rhs => rw [← ix3_one_eta j]
  erw [shapeCast_ab_1ab_apply]
  rw [emb_rC]
  unfold DC
  have h2 : (j 2).val < 128 := (j 2).isLt
  change codeAt X0 X1 X2 X3 X4 X5 (slabOf ⟨t.val, slab_lt t⟩) (tileOf ⟨128 * k.val + (j 2).val, _⟩) (ix2 (j 1) (inTile ⟨128 * k.val + (j 2).val, _⟩)) = _
  rw [slabOf_mk, tileOf_mk k _ h2, inTile_mk k _ h2]
  rfl

theorem DL_emb (t : Fin T) (j : S1x32x128.Idx) :
    DL X1 ((rLhs t).emb j) = shapeCast S1x32x128 (lhsAt X1 t) shapeCasts_S32x128_S1x32x128 j := by
  conv_rhs => rw [← ix3_one_eta j]
  erw [shapeCast_ab_1ab_apply]
  rw [emb_rLhs]
  unfold DL
  change lhsAt X1 (slabOf ⟨t.val, slab_lt t⟩) (ix2 (j 1) (j 2)) = _
  rw [slabOf_mk]

theorem DY_emb (t : Fin T) (k : Fin 24) (j : S32x512.Idx) :
    DY X0 X1 X2 X3 X4 X5 t ((rY k).emb j) = shapeCast S32x512 (normAt X0 X1 X2 X3 X4 X5 t k) shapeCasts_S32x512_S32x512 j := by
  rw [shapeCast_self, emb_rY]
  unfold DY
  have h2 : (j 1).val < 512 := (j 1).isLt
  change normAt X0 X1 X2 X3 X4 X5 t (chunkOf ⟨512 * k.val + (j 1).val, _⟩) (ix2 (j 0) (inChunk ⟨512 * k.val + (j 1).val, _⟩)) = _
  rw [chunkOf_mk k _ h2, inChunk_mk k _ h2]
  congr 1
  exact ix2_eta _ _ j rfl rfl

end

end Cert.Kernel.Hand

end
-- ==== Proof.Chunks.lean ====
/-
  What one chunk of each walk does, by the parts of the buffers it holds: by an
  invariant over the chunks done, each at the value the whole buffer has there.
-/
module

public import proofs.«01_k».proof.Proof.Values
public import Idealize.ShloMosaic.Lib.Pipeline.FrameBody

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-- The first `n` columns from `D`, the others from `d`: a buffer that a walk has reached column `n` of. -/
def over {s : Shape} {e : EltTy} (key : s.Idx → ℕ) (n : ℕ) (D d : Vec F s e) : Vec F s e := fun i => if key i < n then D i else d i

theorem over_zero {s : Shape} {e : EltTy} (key : s.Idx → ℕ) (D d : Vec F s e) : over key 0 D d = d :=
  funext fun i => if_neg (Nat.not_lt_zero _)
theorem over_all {s : Shape} {e : EltTy} (key : s.Idx → ℕ) (n : ℕ) (D d : Vec F s e) (h : ∀ i, key i < n) : over key n D d = D :=
  funext fun i => if_pos (h i)

/-- The column of an element of a slabbed buffer; of the normalised rows. -/
def col3 (i : S8x32x12288.Idx) : ℕ := (i 2).val
def col2 (i : S32x12288.Idx) : ℕ := (i 1).val
theorem col3_lt (i : S8x32x12288.Idx) : col3 i < 12288 := (i 2).isLt
theorem col2_lt (i : S32x12288.Idx) : col2 i < 12288 := (i 1).isLt

theorem over_rR_on (D d : Vec F S8x32x12288 .bf16) (t : Fin T) (k : Fin 24) (j : S1x32x512.Idx) :
    over col3 (512 * (k.val + 1)) D d ((rR t k).emb j) = D ((rR t k).emb j) := by
  refine if_pos ?_
  have h2 : (j 2).val < 512 := (j 2).isLt
  rw [emb_rR]
  change 512 * k.val + (j 2).val < _
  omega
theorem over_rR_off (D d : Vec F S8x32x12288 .bf16) (t : Fin T) (k : Fin 24) (i : S8x32x12288.Idx) (hi : i ∈ slot t) (hr : i ∉ (rR t k).set) :
    over col3 (512 * (k.val + 1)) D d i = over col3 (512 * k.val) D d i := by
  have h0 := (mem_slot t i).mp hi
  have hn : ¬ (512 * k.val ≤ (i 2).val ∧ (i 2).val < 512 * k.val + 512) := fun h => hr ((mem_rR t k i).mpr ⟨h0, h.1, h.2⟩)
  unfold over col3
  by_cases h : (i 2).val < 512 * k.val
  · rw [if_pos h, if_pos (by omega)]
  · rw [if_neg h, if_neg (by omega)]
theorem over_rC_on (D d : Vec F S8x32x12288 .fp8e4m3) (t : Fin T) (k : Fin 96) (j : S1x32x128.Idx) :
    over col3 (128 * (k.val + 1)) D d ((rC t k).emb j) = D ((rC t k).emb j) := by
  refine if_pos ?_
  have h2 : (j 2).val < 128 := (j 2).isLt
  rw [emb_rC]
  change 128 * k.val + (j 2).val < _
  omega
theorem over_rC_off (D d : Vec F S8x32x12288 .fp8e4m3) (t : Fin T) (k : Fin 96) (i : S8x32x12288.Idx) (hi : i ∈ slot t) (hr : i ∉ (rC t k).set) :
    over col3 (128 * (k.val + 1)) D d i = over col3 (128 * k.val) D d i := by
  have h0 := (mem_slot t i).mp hi
  have hn : ¬ (128 * k.val ≤ (i 2).val ∧ (i 2).val < 128 * k.val + 128) := fun h => hr ((mem_rC t k i).mpr ⟨h0, h.1, h.2⟩)
  unfold over col3
  by_cases h : (i 2).val < 128 * k.val
  · rw [if_pos h, if_pos (by omega)]
  · rw [if_neg h, if_neg (by omega)]
theorem over_rY_on (D d : Vec F S32x12288 .f32) (k : Fin 24) (j : S32x512.Idx) :
    over col2 (512 * (k.val + 1)) D d ((rY k).emb j) = D ((rY k).emb j) := by
  refine if_pos ?_
  have h2 : (j 1).val < 512 := (j 1).isLt
  rw [emb_rY]
  change 512 * k.val + (j 1).val < _
  omega
theorem over_rY_off (D d : Vec F S32x12288 .f32) (k : Fin 24) (i : S32x12288.Idx) (hr : i ∉ (rY k).set) :
    over col2 (512 * (k.val + 1)) D d i = over col2 (512 * k.val) D d i := by
  have hn : ¬ (512 * k.val ≤ (i 1).val ∧ (i 1).val < 512 * k.val + 512) := fun h => hr ((mem_rY k i).mpr h)
  unfold over col2
  by_cases h : (i 1).val < 512 * k.val
  · rw [if_pos h, if_pos (by omega)]
  · rw [if_neg h, if_neg (by omega)]

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD) (t : Fin T) (q : PosShare TreeShare) (d11 : Vec F S8x32x12288 .bf16) (d12 : Vec F S8x32x12288 .fp8e4m3) (d13 : Vec F S32x12288 .f32)

theorem sumAcc_succ (k : Fin 24) : sumAcc X0 X1 X2 X3 t (k.val + 1)
    = fold4 addf (sumAcc X0 X1 X2 X3 t k.val) (extf .f32 (residAt X0 X1 X2 X3 t k) bitsLt_bf16_f32) := by
  unfold sumAcc
  rw [upto_succ]
theorem sqAcc_succ (k : Fin 24) : sqAcc X0 X1 X2 X3 t (k.val + 1)
    = fold4 addf (sqAcc X0 X1 X2 X3 t k.val) (sqOf (muAt X0 X1 X2 X3 t) (fun j => DR X0 X1 X2 X3 ((rR t k).emb j))) := by
  unfold sqAcc
  rw [upto_succ]
theorem maxAcc_succ (k : Fin 24) : maxAcc X0 X1 X2 X3 X4 X5 t (k.val + 1)
    = fold4 maximumf (maxAcc X0 X1 X2 X3 X4 X5 t k.val) (absf (normAt X0 X1 X2 X3 X4 X5 t k)) := by
  unfold maxAcc
  rw [upto_succ]

/-! ## The chunks -/

def sumI (k : ℕ) (acc : FVec F S32x128 .f32) : sProp 𝕄 :=
  iprop(⌜acc = sumAcc X0 X1 X2 X3 t k⌝ ∗ part (c : Thread nD τ) arg9 (slotP t) fullShare (DP X0) ∗ part (c : Thread nD τ) arg16 Finset.univ fullShare X2
    ∗ part (c : Thread nD τ) arg10 (slot t) fullShare (DX X3) ∗ part (c : Thread nD τ) arg11 (slot t) fullShare (over col3 (512 * k) (DR X0 X1 X2 X3) d11))

theorem sumChunk_run (k : Fin 24) (acc : FVec F S32x128 .f32) :
    sumI arg9 arg10 arg11 arg16 X0 X1 X2 X3 c t d11 k.val acc
      ⊢ wp frame (wpE (defs₀ (F := F)) Variants.none c none) Set.univ
          (sumChunk arg9 arg10 arg11 harg11 arg16 t (fun j => DL X1 ((rLhs t).emb j)) k acc)
          (sumI arg9 arg10 arg11 arg16 X0 X1 X2 X3 c t d11 (k.val + 1)) := by
  unfold sumI sumChunk
  simp only [Prog.bind_lift, Prog.pure_eq_ret]
  iintro ⟨%ha, HP, HB, HX, HR⟩
  iapply (wp_loadPart Variants.none (c : Thread nD τ) none (rP_sub t k)) $$ HP
  iintro HP
  iapply (wp_loadPart Variants.none (c : Thread nD τ) none (Finset.subset_univ _)) $$ HB
  iintro HB
  iapply (wp_loadPart Variants.none (c : Thread nD τ) none (rR_sub t k)) $$ HX
  iintro HX
  iapply (wp_loadPart Variants.none (c : Thread nD τ) none (rR_sub t k)) $$ HR
  iintro HR
  iapply (wp_storePart Variants.none (c : Thread nD τ) none (Y := over col3 (512 * (k.val + 1)) (DR X0 X1 X2 X3) d11) (rR_sub t k)
    (fun j => (over_rR_on _ _ t k j).trans (DR_emb X0 X1 X2 X3 t k j)) (over_rR_off _ _ t k)) $$ HR
  iintro HR
  iapply (le_wp_ret frame (wpE (defs₀ (F := F)) Variants.none c none) Set.univ _ _)
  isplitr
  · ipureintro
    rw [ha]
    exact (sumAcc_succ X0 X1 X2 X3 t k).symm
  isplitl [HP]; · iexact HP
  isplitl [HB]; · iexact HB
  isplitl [HX]; · iexact HX
  iexact HR

def sqI (k : ℕ) (acc : FVec F S32x128 .f32) : sProp 𝕄 :=
  iprop(⌜acc = sqAcc X0 X1 X2 X3 t k⌝ ∗ part (c : Thread nD τ) arg11 (slot t) q (DR X0 X1 X2 X3))

theorem sqChunk_run (k : Fin 24) (acc : FVec F S32x128 .f32) :
    sqI arg11 X0 X1 X2 X3 c t q k.val acc
      ⊢ wp frame (wpE (defs₀ (F := F)) Variants.none c none) Set.univ (sqChunk arg11 t (muAt X0 X1 X2 X3 t) k acc)
          (sqI arg11 X0 X1 X2 X3 c t q (k.val + 1)) := by
  unfold sqI sqChunk
  simp only [Prog.bind_lift, Prog.pure_eq_ret]
  iintro ⟨%ha, HR⟩
  iapply (wp_loadPart Variants.none (c : Thread nD τ) none (rR_sub t k)) $$ HR
  iintro HR
  iapply (le_wp_ret frame (wpE (defs₀ (F := F)) Variants.none c none) Set.univ _ _)
  isplitr
  · ipureintro
    rw [ha]
    exact (sqAcc_succ X0 X1 X2 X3 t k).symm
  iexact HR

def normI (k : ℕ) (acc : FVec F S32x128 .f32) : sProp 𝕄 :=
  iprop(⌜acc = maxAcc X0 X1 X2 X3 X4 X5 t k⌝ ∗ part (c : Thread nD τ) arg11 (slot t) q (DR X0 X1 X2 X3)
    ∗ part (c : Thread nD τ) arg17 Finset.univ fullShare X4 ∗ part (c : Thread nD τ) arg18 Finset.univ fullShare X5
    ∗ part (c : Thread nD τ) arg13 Finset.univ fullShare (over col2 (512 * k) (DY X0 X1 X2 X3 X4 X5 t) d13))

theorem normChunk_run (k : Fin 24) (acc : FVec F S32x128 .f32) :
    normI arg11 arg13 arg17 arg18 X0 X1 X2 X3 X4 X5 c t q d13 k.val acc
      ⊢ wp frame (wpE (defs₀ (F := F)) Variants.none c none) Set.univ
          (normChunk arg11 arg13 arg17 arg18 t (muAt X0 X1 X2 X3 t) (rsAt X0 X1 X2 X3 t) k acc)
          (normI arg11 arg13 arg17 arg18 X0 X1 X2 X3 X4 X5 c t q d13 (k.val + 1)) := by
  unfold normI normChunk
  simp only [Prog.bind_lift, Prog.pure_eq_ret]
  iintro ⟨%ha, HR, HG, HB, HY⟩
  iapply (wp_loadPart Variants.none (c : Thread nD τ) none (rR_sub t k)) $$ HR
  iintro HR
  iapply (wp_loadPart Variants.none (c : Thread nD τ) none (Finset.subset_univ _)) $$ HG
  iintro HG
  iapply (wp_loadPart Variants.none (c : Thread nD τ) none (Finset.subset_univ _)) $$ HB
  iintro HB
  iapply (wp_loadPart Variants.none (c : Thread nD τ) none (Finset.subset_univ _)) $$ HY
  iintro HY
  iapply (wp_storePart Variants.none (c : Thread nD τ) none (Y := over col2 (512 * (k.val + 1)) (DY X0 X1 X2 X3 X4 X5 t) d13) (Finset.subset_univ _)
    (fun j => (over_rY_on _ _ k j).trans (DY_emb X0 X1 X2 X3 X4 X5 t k j)) (fun i _ h => over_rY_off _ _ k i h)) $$ HY
  iintro HY
  iapply (le_wp_ret frame (wpE (defs₀ (F := F)) Variants.none c none) Set.univ _ _)
  isplitr
  · ipureintro
    rw [ha]
    exact (maxAcc_succ X0 X1 X2 X3 X4 X5 t k).symm
  isplitl [HR]; · iexact HR
  isplitl [HG]; · iexact HG
  isplitl [HB]; · iexact HB
  iexact HY

def codeI (k : ℕ) (_ : PUnit.{1}) : sProp 𝕄 :=
  iprop(part (c : Thread nD τ) arg13 Finset.univ fullShare (DY X0 X1 X2 X3 X4 X5 t)
    ∗ part (c : Thread nD τ) arg12 (slot t) fullShare (over col3 (128 * k) (DC X0 X1 X2 X3 X4 X5) d12))

theorem codeTile_run (k : Fin 96) (u : PUnit.{1}) :
    codeI arg12 arg13 X0 X1 X2 X3 X4 X5 c t d12 k.val u
      ⊢ wp frame (wpE (defs₀ (F := F)) Variants.none c none) Set.univ
          (codeTile arg12 harg12 arg13 t (invOf (amAt X0 X1 X2 X3 X4 X5 t)) k u)
          (codeI arg12 arg13 X0 X1 X2 X3 X4 X5 c t d12 (k.val + 1)) := by
  unfold codeI codeTile
  simp only [Prog.bind_lift]
  unfold Prog.lift
  iintro ⟨HY, HC⟩
  iapply (wp_loadPart Variants.none (c : Thread nD τ) none (Finset.subset_univ _)) $$ HY
  iintro HY
  iapply (wp_loadPart Variants.none (c : Thread nD τ) none (rC_sub t k)) $$ HC
  iintro HC
  iapply (wp_storePart Variants.none (c : Thread nD τ) none (Y := over col3 (128 * (k.val + 1)) (DC X0 X1 X2 X3 X4 X5) d12) (rC_sub t k)
    (fun j => (over_rC_on _ _ t k j).trans (DC_emb X0 X1 X2 X3 X4 X5 t k j)) (over_rC_off _ _ t k)) $$ HC
  iintro HC
  iapply (le_wp_ret frame (wpE (defs₀ (F := F)) Variants.none c none) Set.univ _ _)
  isplitl [HY]; · iexact HY
  iexact HC

end

end Cert.Kernel.Hand

end
-- ==== Proof.TripRun.lean ====
/-
  What one trip of the loop does, by the parts of the buffers it holds: it waits for its slab's two copies in, runs the
  four walks, and starts its slab's two copies out.
-/
module

public import proofs.«01_k».proof.Proof.Chunks
public import Idealize.ShloMosaic.Lib.Pipeline.FrameBody

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

abbrev EC : UEmb Counters 𝕄 := countersEmb (U := Pipeline.UD sig nD τ)

/-! ## A slab's part and its squeezed slice -/

section
variable {c : Thread nD τ} {sp : Space} {sh s' : Shape} {e : EltTy} {m : Memref sig c.2.kind sp sh e} {r : Rect sh} {hr : ∀ a, r.stride a = 1}
  {h : r.shape.Squeezes s'} {q : PosShare TreeShare}

theorem slab_in {X : sh.Idx → Elt F e} :
    (part c m r.set q X : sProp 𝕄) ⊢ owns c ((m.slice r hr).squeeze s' h) q (fun i => X (r.emb (Shape.reshapeEquiv h.numel_eq i))) :=
  owns_slice_of_part.trans owns_squeeze

theorem slab_out {X : sh.Idx → Elt F e} {Y : s'.Idx → Elt F e} (hY : ∀ i, Y i = X (r.emb (Shape.reshapeEquiv h.numel_eq i))) :
    (owns c ((m.slice r hr).squeeze s' h) q Y : sProp 𝕄) ⊢ part c m r.set q X :=
  owns_of_squeeze.trans (part_of_owns_slice fun j => (hY _).trans (by rw [Equiv.apply_symm_apply]))
end

/-! ## Where a slab's slot and its rows lie -/

theorem emb_slotP (t : Fin T) (i : S4x32x12288.Idx) :
    (Rect.unit (s := S8x4x32x12288) (k0_off2 t) S1x4x32x12288.size (k0_off2_inb t)).emb (Shape.reshapeEquiv squeezes_S1x4x32x12288_S4x32x12288.numel_eq i)
      = (ix4 ⟨t.val, slab_lt t⟩ (i 0 : Fin 4) (i 1 : Fin 32) (i 2 : Fin 12288) : S8x4x32x12288.Idx) := by
  rw [Shape.reshapeEquiv_cons_one]
  funext a
  refine Fin.ext ?_
  rw [ValueKit.rect_emb_unit_val]
  have ho := congrFun (k0_off2_eq t)
  match a with
  | 0 => have h : k0_off2 t 0 = t.val := ho 0; change k0_off2 t 0 + 0 = t.val; omega
  | 1 => have h : k0_off2 t 1 = 0 := ho 1; change k0_off2 t 1 + (i 0).val = (i 0).val; omega
  | 2 => have h : k0_off2 t 2 = 0 := ho 2; change k0_off2 t 2 + (i 1).val = (i 1).val; omega
  | 3 => have h : k0_off2 t 3 = 0 := ho 3; change k0_off2 t 3 + (i 2).val = (i 2).val; omega
theorem emb_slot (t : Fin T) (i : S32x12288.Idx) :
    (Rect.unit (s := S8x32x12288) (k0_off5 t) S1x32x12288.size (k0_off5_inb t)).emb (Shape.reshapeEquiv squeezes_S1x32x12288_S32x12288.numel_eq i)
      = (ix3 ⟨t.val, slab_lt t⟩ (i 0 : Fin 32) (i 1 : Fin 12288) : S8x32x12288.Idx) := by
  rw [Shape.reshapeEquiv_cons_one]
  funext a
  refine Fin.ext ?_
  rw [ValueKit.rect_emb_unit_val]
  have ho := congrFun (k0_off5_eq t)
  match a with
  | 0 => have h : k0_off5 t 0 = t.val := ho 0; change k0_off5 t 0 + 0 = t.val; omega
  | 1 => have h : k0_off5 t 1 = 0 := ho 1; change k0_off5 t 1 + (i 0).val = (i 0).val; omega
  | 2 => have h : k0_off5 t 2 = 0 := ho 2; change k0_off5 t 2 + (i 1).val = (i 1).val; omega
theorem emb_rows3 (t : Fin T) (i : S4x32x12288.Idx) :
    (Rect.unit (s := S4x256x12288) (k0_off3 t) S4x32x12288.size (k0_off3_inb t)).emb i
      = (ix3 (i 0 : Fin 4) (rowOf ⟨t.val, slab_lt t⟩ (i 1)) (i 2 : Fin 12288) : S4x256x12288.Idx) := by
  funext a
  refine Fin.ext ?_
  rw [ValueKit.rect_emb_unit_val]
  have ho := congrFun (k0_off3_eq t)
  match a with
  | 0 => have h : k0_off3 t 0 = 0 := ho 0; change k0_off3 t 0 + (i 0).val = (i 0).val; omega
  | 1 => have h : k0_off3 t 1 = 32 * t.val := ho 1; change k0_off3 t 1 + (i 1).val = 32 * t.val + (i 1).val; omega
  | 2 => have h : k0_off3 t 2 = 0 := ho 2; change k0_off3 t 2 + (i 2).val = (i 2).val; omega
theorem emb_rows (t : Fin T) (i : S32x12288.Idx) :
    (Rect.unit (s := S256x12288) (k0_off6 t) S32x12288.size (k0_off6_inb t)).emb i
      = (ix2 (rowOf ⟨t.val, slab_lt t⟩ (i 0)) (i 1 : Fin 12288) : S256x12288.Idx) := by
  funext a
  refine Fin.ext ?_
  rw [ValueKit.rect_emb_unit_val]
  have ho := congrFun (k0_off6_eq t)
  match a with
  | 0 => have h : k0_off6 t 0 = 32 * t.val := ho 0; change k0_off6 t 0 + (i 0).val = 32 * t.val + (i 0).val; omega
  | 1 => have h : k0_off6 t 1 = 0 := ho 1; change k0_off6 t 1 + (i 1).val = (i 1).val; omega
theorem mem_rYs (i : S2x128.Idx) : i ∈ rYs.set := by
  rw [Rect.mem_set_unit]
  intro a
  match a with
  | 0 => exact ⟨Nat.zero_le _, lt_of_lt_of_eq (i 0).isLt (Nat.zero_add _).symm⟩
  | 1 => exact ⟨Nat.zero_le _, lt_of_lt_of_eq (i 1).isLt (Nat.zero_add _).symm⟩
theorem emb_rYs (j : S2x128.Idx) : rYs.emb j = (j : S2x128.Idx) := by
  funext a
  refine Fin.ext ?_
  rw [ValueKit.rect_emb_unit_val]
  match a with
  | 0 => exact Nat.zero_add _
  | 1 => exact Nat.zero_add _

section
variable (X0 : Vec F S4x256x12288 .fp8e4m3) (X1 : Vec F S4x2x128 .f32) (X2 : Vec F S1x12288 .f32) (X3 : Vec F S256x12288 .bf16)
  (X4 X5 : Vec F S1x12288 .f32) (t : Fin T)

theorem DP_slab (i : S4x32x12288.Idx) : X0 ((Rect.unit (s := S4x256x12288) (k0_off3 t) S4x32x12288.size (k0_off3_inb t)).emb i)
    = DP X0 ((Rect.unit (s := S8x4x32x12288) (k0_off2 t) S1x4x32x12288.size (k0_off2_inb t)).emb (Shape.reshapeEquiv squeezes_S1x4x32x12288_S4x32x12288.numel_eq i)) := by
  rw [emb_rows3, emb_slotP]; rfl
theorem DX_slab (i : S32x12288.Idx) : X3 ((Rect.unit (s := S256x12288) (k0_off6 t) S32x12288.size (k0_off6_inb t)).emb i)
    = DX X3 ((Rect.unit (s := S8x32x12288) (k0_off5 t) S1x32x12288.size (k0_off5_inb t)).emb (Shape.reshapeEquiv squeezes_S1x32x12288_S32x12288.numel_eq i)) := by
  rw [emb_rows, emb_slot]; rfl
theorem outR_slab (i : S32x12288.Idx) : DR X0 X1 X2 X3 ((Rect.unit (s := S8x32x12288) (k0_off5 t) S1x32x12288.size (k0_off5_inb t)).emb (Shape.reshapeEquiv squeezes_S1x32x12288_S32x12288.numel_eq i))
    = outR X0 X1 X2 X3 ((Rect.unit (s := S256x12288) (k0_off6 t) S32x12288.size (k0_off6_inb t)).emb i) := by
  rw [emb_rows, emb_slot]
  unfold outR
  exact congrArg₂ (fun a b => DR X0 X1 X2 X3 (ix3 a b (i 1 : Fin 12288))) (inSlab_rowOf _ _).symm (inRow_rowOf _ _).symm
theorem outC_slab (i : S32x12288.Idx) : DC X0 X1 X2 X3 X4 X5 ((Rect.unit (s := S8x32x12288) (k0_off5 t) S1x32x12288.size (k0_off5_inb t)).emb (Shape.reshapeEquiv squeezes_S1x32x12288_S32x12288.numel_eq i))
    = outC X0 X1 X2 X3 X4 X5 ((Rect.unit (s := S256x12288) (k0_off6 t) S32x12288.size (k0_off6_inb t)).emb i) := by
  rw [emb_rows, emb_slot]
  unfold outC
  exact congrArg₂ (fun a b => DC X0 X1 X2 X3 X4 X5 (ix3 a b (i 1 : Fin 12288))) (inSlab_rowOf _ _).symm (inRow_rowOf _ _).symm
theorem DS_succ : DS X0 X1 X2 X3 X4 X5 (t.val + 1) = scaleStep X0 X1 X2 X3 X4 X5 t (DS X0 X1 X2 X3 X4 X5 t.val) := by
  unfold DS
  rw [upto_succ]
end

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD) (t : Fin T)

/-! ## The four copies of a slab, in flight -/

def flyP : sProp 𝕄 := Flight EC (c : Thread nD τ) (.dma (cellP arg19 t)) () (slabP arg9 t).view.dmaCredit
  iprop(part (c : Thread nD τ) arg9 (slotP t) fullShare (DP X0) ∗ part (c : Thread nD τ) arg0 (rows3 t) fullShare X0)
def flyX : sProp 𝕄 := Flight EC (c : Thread nD τ) (.dma (cellX arg19 t)) () (slabX arg10 t).view.dmaCredit
  iprop(part (c : Thread nD τ) arg10 (slot t) fullShare (DX X3) ∗ part (c : Thread nD τ) arg3 (rows t) fullShare X3)
def flyR : sProp 𝕄 := Flight EC (c : Thread nD τ) (.dma (cellR arg21 t)) () (rowsR arg6 t).view.dmaCredit
  iprop(part (c : Thread nD τ) arg6 (rows t) fullShare (outR X0 X1 X2 X3) ∗ part (c : Thread nD τ) arg11 (slot t) fullShare.left (DR X0 X1 X2 X3))
def flyC : sProp 𝕄 := Flight EC (c : Thread nD τ) (.dma (cellC arg22 t)) () (rowsC arg7 t).view.dmaCredit
  iprop(part (c : Thread nD τ) arg7 (rows t) fullShare (outC X0 X1 X2 X3 X4 X5) ∗ part (c : Thread nD τ) arg12 (slot t) fullShare (DC X0 X1 X2 X3 X4 X5))

theorem S4x32x12288_pos : 0 < S4x32x12288.numel := by decide
theorem S32x12288_pos : 0 < S32x12288.numel := by decide

section

theorem startP_run {α : Type} {Q : α → sProp 𝕄} {hsrc : (rowsP arg0 t).view.WordExact} {hdst : (slabP arg9 t).view.WordExact} {hsem : DmaTarget.Typed (nD := nD) (τ := τ) (p := .tc) .hbm (.dma (cellP arg19 t)) (.here (slabP arg9 t))}
    {k : PUnit → Prog (TpuEff nD τ sig (Elt F) Λ₀ .tc) α} {d : Vec F S8x4x32x12288 .fp8e4m3} :
    iprop(part (c : Thread nD τ) arg0 (rows3 t) fullShare X0 ∗ part (c : Thread nD τ) arg9 (slotP t) fullShare d ∗ semVal ((c : Thread nD τ), .dma (cellP arg19 t)) 0)
      ⊢ iprop((flyP arg0 arg9 arg19 X0 c t -∗ wp frame (wpE (defs₀ (F := F)) Variants.none c none) Set.univ (k ⟨⟩) Q)
        -∗ wp frame (wpE (defs₀ (F := F)) Variants.none c none) Set.univ (.op (.enqueueDma (rowsP arg0 t) (.here (slabP arg9 t)) (.dma (cellP arg19 t)) hsrc hdst hsem) k) Q) := by
  unfold flyP rows3 slotP
  have e0 : (part (c : Thread nD τ) arg0 (Rect.unit (s := S4x256x12288) (k0_off3 t) S4x32x12288.size (k0_off3_inb t)).set fullShare X0 : sProp 𝕄) ⊢ owns (c : Thread nD τ) (rowsP arg0 t) fullShare (fun j => X0 ((Rect.unit (s := S4x256x12288) (k0_off3 t) S4x32x12288.size (k0_off3_inb t)).emb j)) := owns_slice_of_part
  have e9 : (part (c : Thread nD τ) arg9 (Rect.unit (s := S8x4x32x12288) (k0_off2 t) S1x4x32x12288.size (k0_off2_inb t)).set fullShare d : sProp 𝕄) ⊢ owns (c : Thread nD τ) (slabP arg9 t) fullShare (fun j => d ((Rect.unit (s := S8x4x32x12288) (k0_off2 t) S1x4x32x12288.size (k0_off2_inb t)).emb (Shape.reshapeEquiv squeezes_S1x4x32x12288_S4x32x12288.numel_eq j))) := slab_in
  iintro ⟨H0, H9, Hs⟩ Hk
  ihave H0 := e0 $$ H0
  ihave H9 := e9 $$ H9
  iapply (wp_startCopy Variants.none (c : Thread nD τ) none EC () S4x32x12288_pos) $$ [H0 H9 Hs]
  · isplitl [H0]; · iexact H0
    isplitl [H9]; · iexact H9
    iexact Hs
  iintro HF
  iapply Hk
  refine Flight_mono EC (c : Thread nD τ) ?_
  exact BIClass.sep_mono (slab_out (DP_slab X0 t)) (part_of_owns_slice fun _ => rfl)

theorem startX_run {α : Type} {Q : α → sProp 𝕄} {hsrc : (rowsX arg3 t).view.WordExact} {hdst : (slabX arg10 t).view.WordExact} {hsem : DmaTarget.Typed (nD := nD) (τ := τ) (p := .tc) .hbm (.dma (cellX arg19 t)) (.here (slabX arg10 t))}
    {k : PUnit → Prog (TpuEff nD τ sig (Elt F) Λ₀ .tc) α} {d : Vec F S8x32x12288 .bf16} :
    iprop(part (c : Thread nD τ) arg3 (rows t) fullShare X3 ∗ part (c : Thread nD τ) arg10 (slot t) fullShare d ∗ semVal ((c : Thread nD τ), .dma (cellX arg19 t)) 0)
      ⊢ iprop((flyX arg3 arg10 arg19 X3 c t -∗ wp frame (wpE (defs₀ (F := F)) Variants.none c none) Set.univ (k ⟨⟩) Q)
        -∗ wp frame (wpE (defs₀ (F := F)) Variants.none c none) Set.univ (.op (.enqueueDma (rowsX arg3 t) (.here (slabX arg10 t)) (.dma (cellX arg19 t)) hsrc hdst hsem) k) Q) := by
  unfold flyX rows slot
  have e0 : (part (c : Thread nD τ) arg3 (Rect.unit (s := S256x12288) (k0_off6 t) S32x12288.size (k0_off6_inb t)).set fullShare X3 : sProp 𝕄) ⊢ owns (c : Thread nD τ) (rowsX arg3 t) fullShare (fun j => X3 ((Rect.unit (s := S256x12288) (k0_off6 t) S32x12288.size (k0_off6_inb t)).emb j)) := owns_slice_of_part
  have e9 : (part (c : Thread nD τ) arg10 (Rect.unit (s := S8x32x12288) (k0_off5 t) S1x32x12288.size (k0_off5_inb t)).set fullShare d : sProp 𝕄) ⊢ owns (c : Thread nD τ) (slabX arg10 t) fullShare (fun j => d ((Rect.unit (s := S8x32x12288) (k0_off5 t) S1x32x12288.size (k0_off5_inb t)).emb (Shape.reshapeEquiv squeezes_S1x32x12288_S32x12288.numel_eq j))) := slab_in
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (slab_out (DX_slab X3 t)) (part_of_owns_slice fun _ => rfl)

theorem startR_run {α : Type} {Q : α → sProp 𝕄} {hsrc : (slabR arg11 t).view.WordExact} {hdst : (rowsR arg6 t).view.WordExact} {hsem : DmaTarget.Typed (nD := nD) (τ := τ) (p := .tc) .vmem (.dma (cellR arg21 t)) (.here (rowsR arg6 t))}
    {k : PUnit → Prog (TpuEff nD τ sig (Elt F) Λ₀ .tc) α} {d : Vec F S256x12288 .bf16} :
    iprop(part (c : Thread nD τ) arg11 (slot t) fullShare.left (DR X0 X1 X2 X3) ∗ part (c : Thread nD τ) arg6 (rows t) fullShare d ∗ semVal ((c : Thread nD τ), .dma (cellR arg21 t)) 0)
      ⊢ iprop((flyR arg6 arg11 arg21 X0 X1 X2 X3 c t -∗ wp frame (wpE (defs₀ (F := F)) Variants.none c none) Set.univ (k ⟨⟩) Q)
        -∗ wp frame (wpE (defs₀ (F := F)) Variants.none c none) Set.univ (.op (.enqueueDma (slabR arg11 t) (.here (rowsR arg6 t)) (.dma (cellR arg21 t)) hsrc hdst hsem) k) Q) := by
  unfold flyR rows slot
  have e0 : (part (c : Thread nD τ) arg11 (Rect.unit (s := S8x32x12288) (k0_off5 t) S1x32x12288.size (k0_off5_inb t)).set fullShare.left (DR X0 X1 X2 X3) : sProp 𝕄) ⊢ owns (c : Thread nD τ) (slabR arg11 t) fullShare.left (fun j => (DR X0 X1 X2 X3) ((Rect.unit (s := S8x32x12288) (k0_off5 t) S1x32x12288.size (k0_off5_inb t)).emb (Shape.reshapeEquiv squeezes_S1x32x12288_S32x12288.numel_eq j))) := slab_in
  have e9 : (part (c : Thread nD τ) arg6 (Rect.unit (s := S256x12288) (k0_off6 t) S32x12288.size (k0_off6_inb t)).set fullShare d : sProp 𝕄) ⊢ owns (c : Thread nD τ) (rowsR arg6 t) fullShare (fun j => d ((Rect.unit (s := S256x12288) (k0_off6 t) S32x12288.size (k0_off6_inb t)).emb j)) := owns_slice_of_part
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (part_of_owns_slice (outR_slab X0 X1 X2 X3 t)) (slab_out fun _ => rfl)

theorem startC_run {α : Type} {Q : α → sProp 𝕄} {hsrc : (slabC arg12 t).view.WordExact} {hdst : (rowsC arg7 t).view.WordExact} {hsem : DmaTarget.Typed (nD := nD) (τ := τ) (p := .tc) .vmem (.dma (cellC arg22 t)) (.here (rowsC arg7 t))}
    {k : PUnit → Prog (TpuEff nD τ sig (Elt F) Λ₀ .tc) α} {d : Vec F S256x12288 .fp8e4m3} :
    iprop(part (c : Thread nD τ) arg12 (slot t) fullShare (DC X0 X1 X2 X3 X4 X5) ∗ part (c : Thread nD τ) arg7 (rows t) fullShare d ∗ semVal ((c : Thread nD τ), .dma (cellC arg22 t)) 0)
      ⊢ iprop((flyC arg7 arg12 arg22 X0 X1 X2 X3 X4 X5 c t -∗ wp frame (wpE (defs₀ (F := F)) Variants.none c none) Set.univ (k ⟨⟩) Q)
        -∗ wp frame (wpE (defs₀ (F := F)) Variants.none c none) Set.univ (.op (.enqueueDma (slabC arg12 t) (.here (rowsC arg7 t)) (.dma (cellC arg22 t)) hsrc hdst hsem) k) Q) := by
  unfold flyC rows slot
  have e0 : (part (c : Thread nD τ) arg12 (Rect.unit (s := S8x32x12288) (k0_off5 t) S1x32x12288.size (k0_off5_inb t)).set fullShare (DC X0 X1 X2 X3 X4 X5) : sProp 𝕄) ⊢ owns (c : Thread nD τ) (slabC arg12 t) fullShare (fun j => (DC X0 X1 X2 X3 X4 X5) ((Rect.unit (s := S8x32x12288) (k0_off5 t) S1x32x12288.size (k0_off5_inb t)).emb (Shape.reshapeEquiv squeezes_S1x32x12288_S32x12288.numel_eq j))) := slab_in
  have e9 : (part (c : Thread nD τ) arg7 (Rect.unit (s := S256x12288) (k0_off6 t) S32x12288.size (k0_off6_inb t)).set fullShare d : sProp 𝕄) ⊢ owns (c : Thread nD τ) (rowsC arg7 t) fullShare (fun j => d ((Rect.unit (s := S256x12288) (k0_off6 t) S32x12288.size (k0_off6_inb t)).emb j)) := owns_slice_of_part
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (part_of_owns_slice (outC_slab X0 X1 X2 X3 X4 X5 t)) (slab_out fun _ => rfl)

end

/-! ## The trip -/

/-- A slab before its trip: its copies in on their way, room for its residual and its codes, in the kernel's buffers and in the
    results, and its two cells for the copies out. -/
def ready : sProp 𝕄 :=
  iprop(flyP arg0 arg9 arg19 X0 c t ∗ flyX arg3 arg10 arg19 X3 c t
    ∗ (∃ d, part (c : Thread nD τ) arg11 (slot t) fullShare d) ∗ (∃ d, part (c : Thread nD τ) arg12 (slot t) fullShare d)
    ∗ (∃ d, part (c : Thread nD τ) arg6 (rows t) fullShare d) ∗ (∃ d, part (c : Thread nD τ) arg7 (rows t) fullShare d)
    ∗ semVal ((c : Thread nD τ), .dma (cellR arg21 t)) 0 ∗ semVal ((c : Thread nD τ), .dma (cellC arg22 t)) 0)

/-- A slab after its trip: its inputs back, its copies out on their way. -/
def done : sProp 𝕄 :=
  iprop(part (c : Thread nD τ) arg9 (slotP t) fullShare (DP X0) ∗ part (c : Thread nD τ) arg10 (slot t) fullShare (DX X3)
    ∗ part (c : Thread nD τ) arg0 (rows3 t) fullShare X0 ∗ part (c : Thread nD τ) arg3 (rows t) fullShare X3
    ∗ semVal ((c : Thread nD τ), .dma (cellP arg19 t)) 0 ∗ semVal ((c : Thread nD τ), .dma (cellX arg19 t)) 0
    ∗ flyR arg6 arg11 arg21 X0 X1 X2 X3 c t ∗ part (c : Thread nD τ) arg11 (slot t) fullShare.right (DR X0 X1 X2 X3)
    ∗ flyC arg7 arg12 arg22 X0 X1 X2 X3 X4 X5 c t)

/-- What every trip uses: the left operands, the three vectors, the normalised rows' buffer, the scale result after `n`
    slabs. -/
def common (n : ℕ) : sProp 𝕄 :=
  iprop(part (c : Thread nD τ) arg14 Finset.univ fullShare (DL X1) ∗ part (c : Thread nD τ) arg16 Finset.univ fullShare X2
    ∗ part (c : Thread nD τ) arg17 Finset.univ fullShare X4 ∗ part (c : Thread nD τ) arg18 Finset.univ fullShare X5
    ∗ (∃ d, part (c : Thread nD τ) arg13 Finset.univ fullShare d)
    ∗ part (c : Thread nD τ) arg8 Finset.univ fullShare (DS X0 X1 X2 X3 X4 X5 n) ∗ (∃ W, owes (c : Thread nD τ) 0 W))

theorem trip_run :
    iprop(ready arg0 arg3 arg6 arg7 arg9 arg10 arg11 arg12 arg19 arg21 arg22 X0 X3 c t ∗ common arg8 arg13 arg14 arg16 arg17 arg18 X0 X1 X2 X3 X4 X5 c t.val)
      ⊢ wp frame (wpE (defs₀ (F := F)) Variants.none c none) Set.univ
          (trip arg0 harg0 arg3 harg3 arg6 harg6 arg7 harg7 arg8 arg9 harg9 arg10 harg10 arg11 harg11 arg12 harg12 arg13 arg14 arg16 arg17 arg18 arg19 arg21 arg22 laneV rowV t)
          (fun _ => iprop(done arg0 arg3 arg6 arg7 arg9 arg10 arg11 arg12 arg19 arg21 arg22 X0 X1 X2 X3 X4 X5 c t
            ∗ common arg8 arg13 arg14 arg16 arg17 arg18 X0 X1 X2 X3 X4 X5 c (t.val + 1))) := by
  unfold trip ready common
  simp only [Prog.bind_lift, Prog.pure_eq_ret]
  iintro ⟨⟨HfP, HfX, ⟨%d11, H11⟩, ⟨%d12, H12⟩, ⟨%d6, H6⟩, ⟨%d7, H7⟩, HsR, HsC⟩, HL, H16, H17, H18, ⟨%d13, H13⟩, H8, ⟨%W, HW⟩⟩
  unfold flyP flyX
  iapply (wp_waitLocal EC Variants.none (c : Thread nD τ) none () rfl) $$ [HfP HW]
  · isplitl [HfP]; · iexact HfP
    iexact HW
  iintro ⟨⟨H9, H0⟩, HsP, HW⟩
  iapply (wp_waitLocal EC Variants.none (c : Thread nD τ) none () rfl) $$ [HfX HW]
  · isplitl [HfX]; · iexact HfX
    iexact HW
  iintro ⟨⟨H10, H3⟩, HsX, HW⟩
  iapply (wp_loadPart Variants.none (c : Thread nD τ) none (Finset.subset_univ _)) $$ HL
  iintro HL
  -- the residual
  iapply (wp_walk_bind frame (wpE (defs₀ (F := F)) Variants.none c none) Set.univ
    (sumI arg9 arg10 arg11 arg16 X0 X1 X2 X3 c t d11) (sumChunk_run arg9 arg10 arg11 harg11 arg16 X0 X1 X2 X3 c t d11)) $$ [H9 H16 H10 H11]
  · unfold sumI
    rw [Nat.mul_zero, over_zero]
    isplitr; · ipureintro; rfl
    isplitl [H9]; · iexact H9
    isplitl [H16]; · iexact H16
    isplitl [H10]; · iexact H10
    iexact H11
  iintro %acc HI
  unfold sumI
  rw [over_all col3 _ _ _ col3_lt]
  icases HI with ⟨%ha, H9, H16, H10, H11⟩
  subst ha
  ihave H11 := part_halves $$ H11
  icases H11 with ⟨H11a, H11b⟩
  iapply (startR_run arg6 arg11 arg21 X0 X1 X2 X3 c t) $$ [H11a H6 HsR]
  · isplitl [H11a]; · iexact H11a
    isplitl [H6]; · iexact H6
    iexact HsR
  iintro HfR
  -- the squared deviations
  iapply (wp_walk_bind frame (wpE (defs₀ (F := F)) Variants.none c none) Set.univ
    (sqI arg11 X0 X1 X2 X3 c t fullShare.right) (sqChunk_run arg11 X0 X1 X2 X3 c t fullShare.right)) $$ [H11b]
  · unfold sqI
    isplitr; · ipureintro; rfl
    iexact H11b
  iintro %acc HI
  unfold sqI
  icases HI with ⟨%ha, H11b⟩
  subst ha
  -- the normalised rows
  iapply (wp_walk_bind frame (wpE (defs₀ (F := F)) Variants.none c none) Set.univ
    (normI arg11 arg13 arg17 arg18 X0 X1 X2 X3 X4 X5 c t fullShare.right d13)
    (normChunk_run arg11 arg13 arg17 arg18 X0 X1 X2 X3 X4 X5 c t fullShare.right d13)) $$ [H11b H17 H18 H13]
  · unfold normI
    rw [Nat.mul_zero, over_zero]
    isplitr; · ipureintro; rfl
    isplitl [H11b]; · iexact H11b
    isplitl [H17]; · iexact H17
    isplitl [H18]; · iexact H18
    iexact H13
  iintro %acc HI
  unfold normI
  rw [over_all col2 _ _ _ col2_lt]
  icases HI with ⟨%ha, H11b, H17, H18, H13⟩
  subst ha
  -- the codes
  iapply (wp_walk_bind frame (wpE (defs₀ (F := F)) Variants.none c none) Set.univ
    (codeI arg12 arg13 X0 X1 X2 X3 X4 X5 c t d12)
    (codeTile_run arg12 harg12 arg13 X0 X1 X2 X3 X4 X5 c t d12)) $$ [H12 H13]
  · unfold codeI
    rw [Nat.mul_zero, over_zero]
    isplitl [H13]; · iexact H13
    iexact H12
  iintro %_ HI
  unfold codeI
  rw [over_all col3 _ _ _ col3_lt]
  icases HI with ⟨H13, H12⟩
  -- the scales
  iapply (wp_loadPart Variants.none (c : Thread nD τ) none (Finset.subset_univ _)) $$ H8
  iintro H8
  iapply (wp_loadPart Variants.none (c : Thread nD τ) none (Finset.subset_univ _)) $$ H8
  iintro H8
  iapply (wp_storePart Variants.none (c : Thread nD τ) none (Y := DS X0 X1 X2 X3 X4 X5 (t.val + 1)) (Finset.subset_univ _) ?_ ?_) $$ H8
  · intro j
    rw [DS_succ]
    erw [emb_rYs]
    unfold scaleStep
    congr 1
    funext j
    exact congrArg _ (emb_rYs j).symm
  · intro i _ hi
    exact absurd (mem_rYs i) hi
  iintro H8
  iapply (startC_run arg7 arg12 arg22 X0 X1 X2 X3 X4 X5 c t) $$ [H12 H7 HsC]
  · isplitl [H12]; · iexact H12
    isplitl [H7]; · iexact H7
    iexact HsC
  iintro HfC
  iapply (le_wp_ret frame (wpE (defs₀ (F := F)) Variants.none c none) Set.univ _ _)
  isplitl [H9 H10 H0 H3 HsP HsX HfR H11b HfC]
  · unfold done
    isplitl [H9]; · iexact H9
    isplitl [H10]; · iexact H10
    isplitl [H0]; · iexact H0
    isplitl [H3]; · iexact H3
    isplitl [HsP]; · iexact HsP
    isplitl [HsX]; · iexact HsX
    isplitl [HfR]; · iexact HfR
    isplitl [H11b]; · iexact H11b
    iexact HfC
  isplitl [HL]; · iexact HL
  isplitl [H16]; · iexact H16
  isplitl [H17]; · iexact H17
  isplitl [H18]; · iexact H18
  isplitl [H13]; · iexists _; iexact H13
  isplitl [H8]; · iexact H8
  iexists _; iexact HW

end

end Cert.Kernel.Hand

end
-- ==== Proof.BodyRun.lean ====
/-
  What the body does, by the parts of the buffers it holds: from its six arguments, its buffers and its semaphore
  cells at zero to the three results.
-/
module

public import proofs.«01_k».proof.Proof.TripRun
public import Idealize.ShloMosaic.Lib.Pipeline.FrameBody

@[expose] public section

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F]

local notation "𝕄" => MT nD τ sig Unit (Elt F) ℕ (Pipeline.UD sig nD τ) ℕ

/-! ## The walks around the loop -/

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD)

/-- A slab before its copies in start; while they are on their way; after its copies out. -/
def waiting (t : Fin T) : sProp 𝕄 :=
  iprop(part (c : Thread nD τ) arg0 (rows3 t) fullShare X0 ∗ part (c : Thread nD τ) arg3 (rows t) fullShare X3 ∗ (∃ d, part (c : Thread nD τ) arg9 (slotP t) fullShare d) ∗ (∃ d, part (c : Thread nD τ) arg10 (slot t) fullShare d) ∗ semVal ((c : Thread nD τ), .dma (cellP arg19 t)) 0 ∗ semVal ((c : Thread nD τ), .dma (cellX arg19 t)) 0)
def flying (t : Fin T) : sProp 𝕄 := iprop(flyP arg0 arg9 arg19 X0 c t ∗ flyX arg3 arg10 arg19 X3 c t)
def back (t : Fin T) : sProp 𝕄 :=
  iprop(part (c : Thread nD τ) arg0 (rows3 t) fullShare X0 ∗ part (c : Thread nD τ) arg3 (rows t) fullShare X3 ∗ part (c : Thread nD τ) arg6 (rows t) fullShare (outR X0 X1 X2 X3) ∗ part (c : Thread nD τ) arg7 (rows t) fullShare (outC X0 X1 X2 X3 X4 X5) ∗ part (c : Thread nD τ) arg9 (slotP t) fullShare (DP X0) ∗ part (c : Thread nD τ) arg10 (slot t) fullShare (DX X3) ∗ part (c : Thread nD τ) arg11 (slot t) fullShare (DR X0 X1 X2 X3) ∗ part (c : Thread nD τ) arg12 (slot t) fullShare (DC X0 X1 X2 X3 X4 X5) ∗ semVal ((c : Thread nD τ), .dma (cellP arg19 t)) 0 ∗ semVal ((c : Thread nD τ), .dma (cellX arg19 t)) 0 ∗ semVal ((c : Thread nD τ), .dma (cellR arg21 t)) 0 ∗ semVal ((c : Thread nD τ), .dma (cellC arg22 t)) 0)

theorem startIn_run (t : Fin T) :
    iprop(waiting arg0 arg3 arg9 arg10 arg19 X0 X3 c t ∗ (∃ W, owes (c : Thread nD τ) 0 W))
      ⊢ wp frame (wpE (defs₀ (F := F)) Variants.none c none) Set.univ (startIn arg0 harg0 arg3 harg3 arg9 harg9 arg10 harg10 arg19 t)
          (fun _ => iprop(flying arg0 arg3 arg9 arg10 arg19 X0 X3 c t ∗ (∃ W, owes (c : Thread nD τ) 0 W))) := by
  unfold startIn waiting
  simp only [Prog.bind_lift, Prog.pure_eq_ret]
  iintro ⟨⟨H0, H3, ⟨%d9, H9⟩, ⟨%d10, H10⟩, HsP, HsX⟩, HW⟩
  iapply (startP_run arg0 arg9 arg19 X0 c t) $$ [H0 H9 HsP]
  · isplitl [H0]; · iexact H0
    isplitl [H9]; · iexact H9
    iexact HsP
  iintro HfP
  iapply (startX_run arg3 arg10 arg19 X3 c t) $$ [H3 H10 HsX]
  · isplitl [H3]; · iexact H3
    isplitl [H10]; · iexact H10
    iexact HsX
  iintro HfX
  iapply (le_wp_ret frame (wpE (defs₀ (F := F)) Variants.none c none) Set.univ _ _)
  isplitl [HfP HfX]
  · unfold flying
    isplitl [HfP]; · iexact HfP
    iexact HfX
  iexact HW

theorem awaitOut_run (t : Fin T) :
    iprop(done arg0 arg3 arg6 arg7 arg9 arg10 arg11 arg12 arg19 arg21 arg22 X0 X1 X2 X3 X4 X5 c t ∗ (∃ W, owes (c : Thread nD τ) 0 W))
      ⊢ wp frame (wpE (defs₀ (F := F)) Variants.none c none) Set.univ (awaitOut arg6 harg6 arg7 harg7 arg11 harg11 arg12 harg12 arg21 arg22 t)
          (fun _ => iprop(back arg0 arg3 arg6 arg7 arg9 arg10 arg11 arg12 arg19 arg21 arg22 X0 X1 X2 X3 X4 X5 c t ∗ (∃ W, owes (c : Thread nD τ) 0 W))) := by
  unfold awaitOut done
  simp only [Prog.bind_lift, Prog.pure_eq_ret]
  iintro ⟨⟨H9, H10, H0, H3, HsP, HsX, HfR, H11b, HfC⟩, ⟨%W, HW⟩⟩
  unfold flyR flyC
  iapply (wp_waitLocal EC Variants.none (c : Thread nD τ) none () rfl) $$ [HfR HW]
  · isplitl [HfR]; · iexact HfR
    iexact HW
  iintro ⟨⟨H6, H11a⟩, HsR, HW⟩
  iapply (wp_waitLocal EC Variants.none (c : Thread nD τ) none () rfl) $$ [HfC HW]
  · isplitl [HfC]; · iexact HfC
    iexact HW
  iintro ⟨⟨H7, H12⟩, HsC, HW⟩
  iapply (le_wp_ret frame (wpE (defs₀ (F := F)) Variants.none c none) Set.univ _ _)
  isplitr [HW]; swap; · iexists _; iexact HW
  unfold back
  isplitl [H0]; · iexact H0
  isplitl [H3]; · iexact H3
  isplitl [H6]; · iexact H6
  isplitl [H7]; · iexact H7
  isplitl [H9]; · iexact H9
  isplitl [H10]; · iexact H10
  isplitl [H11a H11b]
  · iapply part_of_halves
    isplitl [H11a]; · iexact H11a
    iexact H11b
  isplitl [H12]; · iexact H12
  isplitl [HsP]; · iexact HsP
  isplitl [HsX]; · iexact HsX
  isplitl [HsR]; · iexact HsR
  iexact HsC

/-- The slab of an element of the left operands' buffer. -/
def slab3 (i : S8x32x128.Idx) : ℕ := (i 0).val

/-- The left operands of the first `n` slabs are built. -/
def lhsI (d : Vec F S8x32x128 .bf16) (n : ℕ) : sProp 𝕄 :=
  iprop(part (c : Thread nD τ) arg15 Finset.univ fullShare X1 ∗ part (c : Thread nD τ) arg14 Finset.univ fullShare (over slab3 n (DL X1) d))

theorem buildLhs_run (d : Vec F S8x32x128 .bf16) (t : Fin T) (a : PUnit.{1}) :
    lhsI arg14 arg15 X1 c d t.val ⊢ wp frame (wpE (defs₀ (F := F)) Variants.none c none) Set.univ (buildLhs arg14 harg14 arg15 t) (fun _ => lhsI arg14 arg15 X1 c d (t.val + 1)) := by
  unfold buildLhs lhsI
  simp only [Prog.bind_lift, Prog.pure_eq_ret]
  iintro ⟨H15, H14⟩
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H14
  iintro H14
  iapply (wp_storePart Variants.none (c : Thread nD τ) none (Y := over slab3 (t.val + 1) (DL X1) d) (Finset.subset_univ _) ?_ ?_) $$ H14
  · intro j
    refine Eq.trans (if_pos ?_) (DL_emb X1 t j)
    rw [emb_rLhs]
    exact Nat.lt_succ_self _
  · intro i _ hi
    have h : ¬ (i 0).val = t.val := fun h => hi ((mem_rLhs t i).mpr h)
    unfold over slab3
    by_cases h' : (i 0).val < t.val
    · rw [if_pos h', if_pos (by omega)]
    · rw [if_neg h', if_neg (by omega)]
  iintro H14
  iapply (le_wp_ret frame (wpE (defs₀ (F := F)) Variants.none c none) Set.univ _ _)
  isplitl [H15]; · iexact H15
  iexact H14

/-! ## Families of slabs -/

theorem merge {n : ℕ} {P Q : sProp 𝕄} {A B : Fin n → sProp 𝕄} (h₁ : P ⊢ bigSep Finset.univ fun t => A t) (h₂ : Q ⊢ bigSep Finset.univ fun t => B t) :
    iprop(P ∗ Q) ⊢ (bigSep Finset.univ fun t => iprop(A t ∗ B t)) :=
  (BIClass.sep_mono h₁ h₂).trans (Entails.of_eq (bigSep_sep _ _ _).symm)
theorem itself {n : ℕ} {A : Fin n → sProp 𝕄} : (bigSep Finset.univ fun t => A t) ⊢ bigSep Finset.univ fun t => A t := .rfl
theorem unmerge {n : ℕ} {P Q : sProp 𝕄} {A B : Fin n → sProp 𝕄} (h₁ : (bigSep Finset.univ fun t => A t) ⊢ P) (h₂ : (bigSep Finset.univ fun t => B t) ⊢ Q) :
    (bigSep Finset.univ fun t => iprop(A t ∗ B t)) ⊢ iprop(P ∗ Q) :=
  (Entails.of_eq (bigSep_sep _ _ _)).trans (BIClass.sep_mono h₁ h₂)

theorem waiting_of :
    iprop(part (c : Thread nD τ) arg0 Finset.univ fullShare X0 ∗ part (c : Thread nD τ) arg3 Finset.univ fullShare X3 ∗ (∃ d, part (c : Thread nD τ) arg9 Finset.univ fullShare d) ∗ (∃ d, part (c : Thread nD τ) arg10 Finset.univ fullShare d) ∗ (bigSep Finset.univ fun t : Fin T => semVal ((c : Thread nD τ), .dma (cellP arg19 t)) 0) ∗ (bigSep Finset.univ fun t : Fin T => semVal ((c : Thread nD τ), .dma (cellX arg19 t)) 0))
      ⊢ (bigSep Finset.univ (waiting arg0 arg3 arg9 arg10 arg19 X0 X3 c) : sProp 𝕄) := by
  exact merge (part_split rows3_disj rows3_cover) (merge (part_split rows_disj rows_cover)
    (merge (part_split_any slotP_disj slotP_cover) (merge (part_split_any slot_disj slot_cover) (merge .rfl .rfl))))

theorem ready_of :
    iprop((bigSep Finset.univ (flying arg0 arg3 arg9 arg10 arg19 X0 X3 c)) ∗ (∃ d, part (c : Thread nD τ) arg11 Finset.univ fullShare d) ∗ (∃ d, part (c : Thread nD τ) arg12 Finset.univ fullShare d) ∗ (∃ d, part (c : Thread nD τ) arg6 Finset.univ fullShare d) ∗ (∃ d, part (c : Thread nD τ) arg7 Finset.univ fullShare d) ∗ (bigSep Finset.univ fun t : Fin T => semVal ((c : Thread nD τ), .dma (cellR arg21 t)) 0) ∗ (bigSep Finset.univ fun t : Fin T => semVal ((c : Thread nD τ), .dma (cellC arg22 t)) 0))
      ⊢ (bigSep Finset.univ (ready arg0 arg3 arg6 arg7 arg9 arg10 arg11 arg12 arg19 arg21 arg22 X0 X3 c) : sProp 𝕄) := by
  have h := merge (itself (A := fun t : Fin T => flyP arg0 arg9 arg19 X0 c t)) (merge (itself (A := fun t : Fin T => flyX arg3 arg10 arg19 X3 c t))
    (merge (part_split_any (c := (c : Thread nD τ)) (m := arg11) (q := fullShare) slot_disj slot_cover) (merge (part_split_any (c := (c : Thread nD τ)) (m := arg12) (q := fullShare) slot_disj slot_cover)
    (merge (part_split_any (c := (c : Thread nD τ)) (m := arg6) (q := fullShare) rows_disj rows_cover) (merge (part_split_any (c := (c : Thread nD τ)) (m := arg7) (q := fullShare) rows_disj rows_cover)
    (merge (itself (A := fun t : Fin T => semVal ((c : Thread nD τ), .dma (cellR arg21 t)) 0)) (itself (A := fun t : Fin T => semVal ((c : Thread nD τ), .dma (cellC arg22 t)) 0))))))))
  have h' := unmerge (itself (A := fun t : Fin T => flyP arg0 arg9 arg19 X0 c t)) (itself (A := fun t : Fin T => flyX arg3 arg10 arg19 X3 c t))
  iintro ⟨HF, H11, H12, H6, H7, HR, HC⟩
  have h'' : (bigSep Finset.univ (flying arg0 arg3 arg9 arg10 arg19 X0 X3 c) : sProp 𝕄) ⊢ _ := h'
  ihave HF := h'' $$ HF
  icases HF with ⟨HP, HX⟩
  iapply h
  isplitl [HP]; · iexact HP
  isplitl [HX]; · iexact HX
  isplitl [H11]; · iexact H11
  isplitl [H12]; · iexact H12
  isplitl [H6]; · iexact H6
  isplitl [H7]; · iexact H7
  isplitl [HR]; · iexact HR
  iexact HC

instance : Nonempty (Fin T) := ⟨slabOf 0⟩

theorem of_back :
    (bigSep Finset.univ (back arg0 arg3 arg6 arg7 arg9 arg10 arg11 arg12 arg19 arg21 arg22 X0 X1 X2 X3 X4 X5 c) : sProp 𝕄)
      ⊢ iprop(part (c : Thread nD τ) arg0 Finset.univ fullShare X0 ∗ part (c : Thread nD τ) arg3 Finset.univ fullShare X3 ∗ part (c : Thread nD τ) arg6 Finset.univ fullShare (outR X0 X1 X2 X3) ∗ part (c : Thread nD τ) arg7 Finset.univ fullShare (outC X0 X1 X2 X3 X4 X5) ∗ part (c : Thread nD τ) arg9 Finset.univ fullShare (DP X0) ∗ part (c : Thread nD τ) arg10 Finset.univ fullShare (DX X3) ∗ part (c : Thread nD τ) arg11 Finset.univ fullShare (DR X0 X1 X2 X3) ∗ part (c : Thread nD τ) arg12 Finset.univ fullShare (DC X0 X1 X2 X3 X4 X5) ∗ (bigSep Finset.univ fun t : Fin T => semVal ((c : Thread nD τ), .dma (cellP arg19 t)) 0) ∗ (bigSep Finset.univ fun t : Fin T => semVal ((c : Thread nD τ), .dma (cellX arg19 t)) 0) ∗ (bigSep Finset.univ fun t : Fin T => semVal ((c : Thread nD τ), .dma (cellR arg21 t)) 0) ∗ (bigSep Finset.univ fun t : Fin T => semVal ((c : Thread nD τ), .dma (cellC arg22 t)) 0)) := by
  exact unmerge (part_join rows3_disj rows3_cover) (unmerge (part_join rows_disj rows_cover)
    (unmerge (part_join rows_disj rows_cover) (unmerge (part_join rows_disj rows_cover)
    (unmerge (part_join slotP_disj slotP_cover) (unmerge (part_join slot_disj slot_cover)
    (unmerge (part_join slot_disj slot_cover) (unmerge (part_join slot_disj slot_cover) (unmerge .rfl (unmerge .rfl (unmerge .rfl .rfl))))))))))

theorem trip_relay (t : Fin T) :
    relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) t.val
      ⊢ wp frame (wpE (defs₀ (F := F)) Variants.none c none) Set.univ (trip arg0 harg0 arg3 harg3 arg6 harg6 arg7 harg7 arg8 arg9 harg9 arg10 harg10 arg11 harg11 arg12 harg12 arg13 arg14 arg16 arg17 arg18 arg19 arg21 arg22 laneV rowV t) (fun _ => relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) (t.val + 1)) :=
  by
  have h := trip_run arg0 harg0 arg3 harg3 arg6 harg6 arg7 harg7 arg8 arg9 harg9 arg10 harg10 arg11 harg11 arg12 harg12 arg13 arg14 arg16 arg17 arg18 arg19 arg21 arg22 X0 X1 X2 X3 X4 X5 c t
  refine relay_run frame (wpE (defs₀ (F := F)) Variants.none c none) Set.univ ?_
  refine BIClass.entails_trans h ?_
  exact wp_mono frame (wpE (defs₀ (F := F)) Variants.none c none) Set.univ fun _ => .rfl

/-! ## The small copies -/

theorem startSmall_run {sp sp' : Space} {s : Shape} {e : EltTy} (hs : 0 < s.numel) {src : Memref sig .tc sp s e} {dst : Memref sig .tc sp' s e}
    {sm : DmaSem sig} {X : Vec F s e} {α : Type} {Q : α → sProp 𝕄} {hsrc : src.view.WordExact} {hdst : dst.view.WordExact}
    {hsem : DmaTarget.Typed (nD := nD) (τ := τ) (p := .tc) sp (.dma sm) (.here dst)} {k : PUnit → Prog (TpuEff nD τ sig (Elt F) Λ₀ .tc) α} :
    iprop(part (c : Thread nD τ) src Finset.univ fullShare X ∗ (∃ d, part (c : Thread nD τ) dst Finset.univ fullShare d) ∗ semVal ((c : Thread nD τ), .dma sm) 0)
      ⊢ iprop((Flight EC (c : Thread nD τ) (.dma sm) () dst.view.dmaCredit iprop(part (c : Thread nD τ) dst Finset.univ fullShare X ∗ part (c : Thread nD τ) src Finset.univ fullShare X) -∗ wp frame (wpE (defs₀ (F := F)) Variants.none c none) Set.univ (k ⟨⟩) Q)
        -∗ wp frame (wpE (defs₀ (F := F)) Variants.none c none) Set.univ (.op (.enqueueDma src (.here dst) (.dma sm) hsrc hdst hsem) k) Q) := by
  iintro ⟨H0, ⟨%d, H9⟩, Hs⟩ Hk
  ihave H0 := owns_of_part $$ H0
  ihave H9 := owns_of_part $$ H9
  iapply (wp_startCopy Variants.none (c : Thread nD τ) none EC () hs) $$ [H0 H9 Hs]
  · isplitl [H0]; · iexact H0
    isplitl [H9]; · iexact H9
    iexact Hs
  iintro HF
  iapply Hk
  refine Flight_mono EC (c : Thread nD τ) ?_
  exact BIClass.sep_mono part_of_owns part_of_owns

theorem S4x2x128_pos : 0 < S4x2x128.numel := by decide
theorem S1x12288_pos : 0 < S1x12288.numel := by decide

/-! ## The body -/

/-- The kernel's buffers, at whatever they hold. -/
def buffers : sProp 𝕄 :=
  iprop((∃ d, part (c : Thread nD τ) arg9 Finset.univ fullShare d) ∗ (∃ d, part (c : Thread nD τ) arg10 Finset.univ fullShare d) ∗ (∃ d, part (c : Thread nD τ) arg11 Finset.univ fullShare d) ∗ (∃ d, part (c : Thread nD τ) arg12 Finset.univ fullShare d) ∗ (∃ d, part (c : Thread nD τ) arg13 Finset.univ fullShare d) ∗ (∃ d, part (c : Thread nD τ) arg14 Finset.univ fullShare d) ∗ (∃ d, part (c : Thread nD τ) arg15 Finset.univ fullShare d) ∗ (∃ d, part (c : Thread nD τ) arg16 Finset.univ fullShare d) ∗ (∃ d, part (c : Thread nD τ) arg17 Finset.univ fullShare d) ∗ (∃ d, part (c : Thread nD τ) arg18 Finset.univ fullShare d))

/-- The kernel's semaphore cells, at zero. -/
def cells : sProp 𝕄 :=
  iprop((bigSep Finset.univ fun t : Fin T => semVal ((c : Thread nD τ), .dma (cellP arg19 t)) 0) ∗ (bigSep Finset.univ fun t : Fin T => semVal ((c : Thread nD τ), .dma (cellX arg19 t)) 0) ∗ (bigSep Finset.univ fun t : Fin T => semVal ((c : Thread nD τ), .dma (cellR arg21 t)) 0) ∗ (bigSep Finset.univ fun t : Fin T => semVal ((c : Thread nD τ), .dma (cellC arg22 t)) 0) ∗ semVal ((c : Thread nD τ), .dma (cellS arg20 0)) 0 ∗ semVal ((c : Thread nD τ), .dma (cellS arg20 1)) 0 ∗ semVal ((c : Thread nD τ), .dma (cellS arg20 2)) 0 ∗ semVal ((c : Thread nD τ), .dma (cellS arg20 3)) 0)

/-- The six arguments. -/
def given : sProp 𝕄 :=
  iprop(part (c : Thread nD τ) arg0 Finset.univ fullShare X0 ∗ part (c : Thread nD τ) arg1 Finset.univ fullShare X1 ∗ part (c : Thread nD τ) arg2 Finset.univ fullShare X2 ∗ part (c : Thread nD τ) arg3 Finset.univ fullShare X3 ∗ part (c : Thread nD τ) arg4 Finset.univ fullShare X4 ∗ part (c : Thread nD τ) arg5 Finset.univ fullShare X5)

set_option maxHeartbeats 1000000 in
theorem body_run :
    iprop(given arg0 arg1 arg2 arg3 arg4 arg5 X0 X1 X2 X3 X4 X5 c ∗ (∃ d, part (c : Thread nD τ) arg6 Finset.univ fullShare d) ∗ (∃ d, part (c : Thread nD τ) arg7 Finset.univ fullShare d) ∗ (∃ d, part (c : Thread nD τ) arg8 Finset.univ fullShare d)
        ∗ buffers arg9 arg10 arg11 arg12 arg13 arg14 arg15 arg16 arg17 arg18 c ∗ cells arg19 arg20 arg21 arg22 c ∗ (∃ W, owes (c : Thread nD τ) 0 W))
      ⊢ wp frame (wpE (defs₀ (F := F)) Variants.none c none) Set.univ (body arg0 harg0 arg1 harg1 arg2 harg2 arg3 harg3 arg4 harg4 arg5 harg5 arg6 harg6 arg7 harg7 arg8 arg9 harg9 arg10 harg10 arg11 harg11 arg12 harg12 arg13 arg14 harg14 arg15 harg15 arg16 harg16 arg17 harg17 arg18 harg18 arg19 arg20 arg21 arg22)
          (fun _ => iprop(given arg0 arg1 arg2 arg3 arg4 arg5 X0 X1 X2 X3 X4 X5 c ∗ part (c : Thread nD τ) arg6 Finset.univ fullShare (outR X0 X1 X2 X3) ∗ part (c : Thread nD τ) arg7 Finset.univ fullShare (outC X0 X1 X2 X3 X4 X5)
            ∗ part (c : Thread nD τ) arg8 Finset.univ fullShare (DS X0 X1 X2 X3 X4 X5 T) ∗ buffers arg9 arg10 arg11 arg12 arg13 arg14 arg15 arg16 arg17 arg18 c ∗ cells arg19 arg20 arg21 arg22 c ∗ (∃ W, owes (c : Thread nD τ) 0 W))) := by
  unfold body given buffers cells
  simp only [Prog.bind_lift, Prog.pure_eq_ret]
  iintro ⟨⟨H0, H1, H2, H3, H4, H5⟩, H6, H7, ⟨%d8, H8⟩, ⟨H9, H10, H11, H12, H13, ⟨%d14, H14⟩, H15, H16, H17, H18⟩, ⟨HP, HX, HR, HC, Hs0, Hs1, Hs2, Hs3⟩, HW⟩
  iapply (startSmall_run c S4x2x128_pos) $$ [H1 H15 Hs0]
  · isplitl [H1]; · iexact H1
    isplitl [H15]; · iexact H15
    iexact Hs0
  iintro Hf0
  iapply (startSmall_run c S1x12288_pos) $$ [H2 H16 Hs1]
  · isplitl [H2]; · iexact H2
    isplitl [H16]; · iexact H16
    iexact Hs1
  iintro Hf1
  iapply (startSmall_run c S1x12288_pos) $$ [H4 H17 Hs2]
  · isplitl [H4]; · iexact H4
    isplitl [H17]; · iexact H17
    iexact Hs2
  iintro Hf2
  iapply (startSmall_run c S1x12288_pos) $$ [H5 H18 Hs3]
  · isplitl [H5]; · iexact H5
    isplitl [H18]; · iexact H18
    iexact Hs3
  iintro Hf3
  ihave HA := (waiting_of arg0 arg3 arg9 arg10 arg19 X0 X3 c) $$ [H0 H3 H9 H10 HP HX]
  · isplitl [H0]; · iexact H0
    isplitl [H3]; · iexact H3
    isplitl [H9]; · iexact H9
    isplitl [H10]; · iexact H10
    isplitl [HP]; · iexact HP
    iexact HX
  iapply (wp_walk_bind frame (wpE (defs₀ (F := F)) Variants.none c none) Set.univ (fun n _ => relay (waiting arg0 arg3 arg9 arg10 arg19 X0 X3 c) (flying arg0 arg3 arg9 arg10 arg19 X0 X3 c) (fun _ => iprop((∃ W, owes (c : Thread nD τ) 0 W))) n)
    (fun t _ => relay_run frame (wpE (defs₀ (F := F)) Variants.none c none) Set.univ (startIn_run arg0 harg0 arg3 harg3 arg9 harg9 arg10 harg10 arg19 X0 X3 c t))) $$ [HA HW]
  · iapply relay_of
    isplitl [HA]; · iexact HA
    iexact HW
  iintro %_ HI
  ihave HI := of_relay $$ HI
  icases HI with ⟨HA, ⟨%W, HW⟩⟩
  iapply (wp_waitLocal EC Variants.none (c : Thread nD τ) none () rfl) $$ [Hf0 HW]
  · isplitl [Hf0]; · iexact Hf0
    iexact HW
  iintro ⟨⟨H15, H1⟩, Hs0, HW⟩
  iapply (wp_walk_bind frame (wpE (defs₀ (F := F)) Variants.none c none) Set.univ (fun n _ => lhsI arg14 arg15 X1 c d14 n)
    (fun t a => buildLhs_run arg14 harg14 arg15 X1 c d14 t a)) $$ [H14 H15]
  · unfold lhsI
    rw [over_zero]
    isplitl [H15]; · iexact H15
    iexact H14
  iintro %_ HI
  unfold lhsI
  rw [over_all slab3 _ _ _ (fun i => lt_of_lt_of_eq (i 0).isLt trips_eq.symm)]
  icases HI with ⟨H15, H14⟩
  iapply (wp_loadPart Variants.none (c : Thread nD τ) none (Finset.subset_univ _)) $$ H8
  iintro H8
  iapply (wp_storePart Variants.none (c : Thread nD τ) none (Y := DS X0 X1 X2 X3 X4 X5 0) (Finset.subset_univ _) (fun _ => rfl)
    (fun i _ hi => absurd (mem_rYs i) hi)) $$ H8
  iintro H8
  iapply (wp_waitLocal EC Variants.none (c : Thread nD τ) none () rfl) $$ [Hf1 HW]
  · isplitl [Hf1]; · iexact Hf1
    iexact HW
  iintro ⟨⟨H16, H2⟩, Hs1, HW⟩
  iapply (wp_waitLocal EC Variants.none (c : Thread nD τ) none () rfl) $$ [Hf2 HW]
  · isplitl [Hf2]; · iexact Hf2
    iexact HW
  iintro ⟨⟨H17, H4⟩, Hs2, HW⟩
  iapply (wp_waitLocal EC Variants.none (c : Thread nD τ) none () rfl) $$ [Hf3 HW]
  · isplitl [Hf3]; · iexact Hf3
    iexact HW
  iintro ⟨⟨H18, H5⟩, Hs3, HW⟩
  ihave HA := (ready_of arg0 arg3 arg6 arg7 arg9 arg10 arg11 arg12 arg19 arg21 arg22 X0 X3 c) $$ [HA H11 H12 H6 H7 HR HC]
  · isplitl [HA]; · iexact HA
    isplitl [H11]; · iexact H11
    isplitl [H12]; · iexact H12
    isplitl [H6]; · iexact H6
    isplitl [H7]; · iexact H7
    isplitl [HR]; · iexact HR
    iexact HC
  rw [Prog.bind_assoc]
  iapply (Scf.wp_for_bind frame (wpE (defs₀ (F := F)) Variants.none c none) Set.univ k0_t1_loop.lb k0_t1_loop.ub k0_t1_loop.st k0_t1_ok ()
    (fun t _ => trip arg0 harg0 arg3 harg3 arg6 harg6 arg7 harg7 arg8 arg9 harg9 arg10 harg10 arg11 harg11 arg12 harg12 arg13 arg14 arg16 arg17 arg18 arg19 arg21 arg22 laneV rowV t)
    (fun n _ => relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) n)
    (fun t _ => BIClass.entails_trans (trip_relay arg0 harg0 arg3 harg3 arg6 harg6 arg7 harg7 arg8 arg9 harg9 arg10 harg10 arg11 harg11 arg12 harg12 arg13 arg14 arg16 arg17 arg18 arg19 arg21 arg22 X0 X1 X2 X3 X4 X5 c t) (wp_mono frame (wpE (defs₀ (F := F)) Variants.none c none) Set.univ fun _ => .rfl))) $$ [HA H8 H13 H14 H16 H17 H18 HW]
  · iapply relay_of
    isplitl [HA]; · iexact HA
    unfold common
    isplitl [H14]; · iexact H14
    isplitl [H16]; · iexact H16
    isplitl [H17]; · iexact H17
    isplitl [H18]; · iexact H18
    isplitl [H13]; · iexact H13
    isplitl [H8]; · iexact H8
    iexists _; iexact HW
  iintro %_ HI
  ihave HI := of_relay $$ HI
  unfold common
  icases HI with ⟨HA, H14, H16, H17, H18, H13, H8, HW⟩
  rw [Prog.bind_ret]
  iapply (wp_wand_r frame (wpE (defs₀ (F := F)) Variants.none c none) Set.univ (Q := fun _ => relay (done arg0 arg3 arg6 arg7 arg9 arg10 arg11 arg12 arg19 arg21 arg22 X0 X1 X2 X3 X4 X5 c) (back arg0 arg3 arg6 arg7 arg9 arg10 arg11 arg12 arg19 arg21 arg22 X0 X1 X2 X3 X4 X5 c) (fun _ => iprop((∃ W, owes (c : Thread nD τ) 0 W))) T))
  isplitl [HA HW]
  · iapply (wp_walk frame (wpE (defs₀ (F := F)) Variants.none c none) Set.univ _ (fun n _ => relay (done arg0 arg3 arg6 arg7 arg9 arg10 arg11 arg12 arg19 arg21 arg22 X0 X1 X2 X3 X4 X5 c) (back arg0 arg3 arg6 arg7 arg9 arg10 arg11 arg12 arg19 arg21 arg22 X0 X1 X2 X3 X4 X5 c) (fun _ => iprop((∃ W, owes (c : Thread nD τ) 0 W))) n)
      (fun t _ => relay_run frame (wpE (defs₀ (F := F)) Variants.none c none) Set.univ (awaitOut_run arg0 arg3 arg6 harg6 arg7 harg7 arg9 arg10 arg11 harg11 arg12 harg12 arg19 arg21 arg22 X0 X1 X2 X3 X4 X5 c t)))
    iapply relay_of
    isplitl [HA]; · iexact HA
    iexact HW
  iintro %_ HI
  ihave HI := of_relay $$ HI
  icases HI with ⟨HA, HW⟩
  ihave HA := (of_back arg0 arg3 arg6 arg7 arg9 arg10 arg11 arg12 arg19 arg21 arg22 X0 X1 X2 X3 X4 X5 c) $$ HA
  icases HA with ⟨H0, H3, H6, H7, H9, H10, H11, H12, HP, HX, HR, HC⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [H9 H10 H11 H12 H13 H14 H15 H16 H17 H18]
  · isplitl [H9]; · iexists _; iexact H9
    isplitl [H10]; · iexists _; iexact H10
    isplitl [H11]; · iexists _; iexact H11
    isplitl [H12]; · iexists _; iexact H12
    isplitl [H13]; · iexact H13
    isplitl [H14]; · iexists _; iexact H14
    isplitl [H15]; · iexists _; iexact H15
    isplitl [H16]; · iexists _; iexact H16
    isplitl [H17]; · iexists _; iexact H17
    iexists _; iexact H18
  isplitl [HP HX HR HC Hs0 Hs1 Hs2 Hs3]
  · isplitl [HP]; · iexact HP
    isplitl [HX]; · iexact HX
    isplitl [HR]; · iexact HR
    isplitl [HC]; · iexact HC
    isplitl [Hs0]; · iexact Hs0
    isplitl [Hs1]; · iexact Hs1
    isplitl [Hs2]; · iexact Hs2
    iexact Hs3
  iexact HW

end

end Cert.Kernel.Hand

end
-- ==== Proof.Launch.lean ====
/-
  The launch: the one grid point runs the body on the arrays that the host lines made, and the host lines after it
  reshape two of the results. What the three results hold, with the arguments unchanged and every semaphore at zero.
-/
module

public import proofs.«01_k».proof.Proof.BodyRun
public import proofs.«01_k».proof.Proof.Gen.Kernel.Frame
public import Idealize.ShloMosaic.Lib.Pipeline.FrameSuffixV

@[expose] public section

set_option maxRecDepth 16384

noncomputable section

namespace Cert.Kernel.Hand

open Cert.Kernel Cert.Kernel.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's own semaphore cells -/

/-- The cells: of each slab the two copies in and the two copies out; of each small argument its copy in. -/
def osem0 : ((Fin T ⊕ Fin T) ⊕ (Fin T ⊕ Fin T)) ⊕ Fin 4 → SemLoc sig
  | .inl (.inl (.inl t)) => .dma (cellP cc0_scratch10 t)
  | .inl (.inl (.inr t)) => .dma (cellX cc0_scratch10 t)
  | .inl (.inr (.inl t)) => .dma (cellR cc0_scratch12 t)
  | .inl (.inr (.inr t)) => .dma (cellC cc0_scratch13 t)
  | .inr i => .dma (cellS cc0_scratch11 i)
theorem ownSemFacts0 : Pipeline.OwnSemFacts spec0 osem0 := by decide +kernel

theorem cells_eq (c : Dev nD) :
    (Pipeline.ownSems0 (Ix := Unit) (Name := ℕ) (U := Pipeline.UD sig nD τ) (Lvl := ℕ) (Val := Elt F) (τ := τ) osem0 c : sProp 𝕄)
      ⊣⊢ cells cc0_scratch10 cc0_scratch11 cc0_scratch12 cc0_scratch13 c := by
  have h : (Pipeline.ownSems0 (Ix := Unit) (Name := ℕ) (U := Pipeline.UD sig nD τ) (Lvl := ℕ) (Val := Elt F) (τ := τ) osem0 c : sProp 𝕄)
      = iprop((((bigSep Finset.univ fun t : Fin T => semVal ((c : Thread nD τ), .dma (cellP cc0_scratch10 t)) 0)
          ∗ (bigSep Finset.univ fun t : Fin T => semVal ((c : Thread nD τ), .dma (cellX cc0_scratch10 t)) 0))
          ∗ ((bigSep Finset.univ fun t : Fin T => semVal ((c : Thread nD τ), .dma (cellR cc0_scratch12 t)) 0)
          ∗ (bigSep Finset.univ fun t : Fin T => semVal ((c : Thread nD τ), .dma (cellC cc0_scratch13 t)) 0)))
          ∗ (bigSep Finset.univ fun i : Fin 4 => semVal ((c : Thread nD τ), .dma (cellS cc0_scratch11 i)) 0)) := by
    unfold Pipeline.ownSems0
    rw [bigSep_univ_sum, bigSep_univ_sum, bigSep_univ_sum, bigSep_univ_sum]
    rfl
  have hS : (bigSep Finset.univ (fun i : Fin 4 => semVal ((c : Thread nD τ), .dma (cellS cc0_scratch11 i)) 0) : sProp 𝕄)
      = iprop(semVal ((c : Thread nD τ), .dma (cellS cc0_scratch11 0)) 0 ∗ semVal ((c : Thread nD τ), .dma (cellS cc0_scratch11 1)) 0
        ∗ semVal ((c : Thread nD τ), .dma (cellS cc0_scratch11 2)) 0 ∗ semVal ((c : Thread nD τ), .dma (cellS cc0_scratch11 3)) 0) := by
    rw [bigSep_univ_eq_bigSepL ([0, 1, 2, 3] : List (Fin 4)) (by decide) (by decide)]; rfl
  rw [h, hS]
  unfold cells
  constructor
  · iintro ⟨⟨⟨HP, HX⟩, ⟨HR, HC⟩⟩, H0, H1, H2, H3⟩
    isplitl [HP]; · iexact HP
    isplitl [HX]; · iexact HX
    isplitl [HR]; · iexact HR
    isplitl [HC]; · iexact HC
    isplitl [H0]; · iexact H0
    isplitl [H1]; · iexact H1
    isplitl [H2]; · iexact H2
    iexact H3
  · iintro ⟨HP, HX, HR, HC, H0, H1, H2, H3⟩
    isplitl [HP HX HR HC]
    · isplitl [HP HX]
      · isplitl [HP]; · iexact HP
        iexact HX
      isplitl [HR]; · iexact HR
      iexact HC
    isplitl [H0]; · iexact H0
    isplitl [H1]; · iexact H1
    isplitl [H2]; · iexact H2
    iexact H3

/-! ## The arrays left in HBM -/

/-- The arrays that the body reads, and the two that it writes. -/
def H0 : Finset (Ref sig .tc) := {main_v0, main_arg1, main_v1, main_v2, main_v3, main_v4}
def R0 : Finset (Ref sig .tc) := {main_v5_0, main_v5_1}
theorem H0_sub : H0 ⊆ Pipeline.restRefs sig spec0 := by decide
theorem R0_sub : R0 ⊆ Pipeline.restRefs sig spec0 \ H0 := by decide

/-- The three results, of the arrays that the region is entered with. -/
def resR (c : Dev nD) : Vec F S256x12288 .bf16 := outR (V m c main_v0) (V m c main_arg1) (V m c main_v1) (V m c main_v2)
def resC (c : Dev nD) : Vec F S256x12288 .fp8e4m3 := outC (V m c main_v0) (V m c main_arg1) (V m c main_v1) (V m c main_v2) (V m c main_v3) (V m c main_v4)
def resS (c : Dev nD) : Vec F S2x128 .f32 := DS (V m c main_v0) (V m c main_arg1) (V m c main_v1) (V m c main_v2) (V m c main_v3) (V m c main_v4) T

/-- The arrays when the region is left: the two written ones at the results, the others as they were. -/
def GR (c : Dev nD) (b : Ref sig .tc) : Buf (Elt F) ((c : Thread nD τ).loc b) :=
  if h : b = main_v5_0 then cast (congrArg (fun b : Ref sig .tc => Buf (Elt F) ((c : Thread nD τ).loc b)) h.symm) (resR m c)
  else if h : b = main_v5_1 then cast (congrArg (fun b : Ref sig .tc => Buf (Elt F) ((c : Thread nD τ).loc b)) h.symm) (resC m c)
  else V m c b
theorem GR_R (c : Dev nD) : GR m c main_v5_0 = resR m c := by unfold GR; rw [dif_pos rfl]; rfl
theorem GR_C (c : Dev nD) : GR m c main_v5_1 = resC m c := by
  unfold GR; rw [dif_neg (by decide), dif_pos rfl]; rfl

theorem hbm_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v4) ↦{fullShare} V m c main_v4)) := by
  rw [BI.bigSep_eq_bigSepL_of_eq [main_v0, main_arg1, main_v1, main_v2, main_v3, main_v4] (by decide) (by decide)]; rfl
theorem out_eq (c : Dev nD) (G : (c : Dev nD) → (b : Ref sig .tc) → Buf (Elt F) ((c : Thread nD τ).loc b)) :
    (bigSep R0 (fun b => ((c : Thread nD τ).loc b) ↦{fullShare} G c b) : sProp 𝕄)
      = iprop((((c : Thread nD τ).loc main_v5_0) ↦{fullShare} G c main_v5_0) ∗ (((c : Thread nD τ).loc main_v5_1) ↦{fullShare} G c main_v5_1)) := by
  rw [BI.bigSep_eq_bigSepL_of_eq [main_v5_0, main_v5_1] (by decide) (by decide)]; rfl

/-- A whole buffer at contents `X`, and all its part at `X`. -/
theorem part_of_pt (c : Dev nD) (b : Ref sig .tc) (f : Buf (Elt F) ((c : Thread nD τ).loc b)) :
    ((((c : Thread nD τ).loc b) ↦{fullShare} f) : sProp 𝕄) ⊢ part (c : Thread nD τ) (Memref.whole b) Finset.univ fullShare f :=
  (Entails.of_eq (owns_whole (c : Thread nD τ) b fullShare f).symm).trans part_of_owns
theorem pt_of_part (c : Dev nD) (b : Ref sig .tc) (f : Buf (Elt F) ((c : Thread nD τ).loc b)) :
    (part (c : Thread nD τ) (Memref.whole b) Finset.univ fullShare f : sProp 𝕄) ⊢ (((c : Thread nD τ).loc b) ↦{fullShare} f) :=
  owns_of_part.trans (Entails.of_eq (owns_whole (c : Thread nD τ) b fullShare f))
theorem some_part_of_pt (c : Dev nD) (b : Ref sig .tc) :
    (iprop(∃ f : Buf (Elt F) ((c : Thread nD τ).loc b), ((c : Thread nD τ).loc b) ↦{fullShare} f) : sProp 𝕄)
      ⊢ iprop(∃ d, part (c : Thread nD τ) (Memref.whole b) Finset.univ fullShare d) := by
  iintro ⟨%f, H⟩; iexists f
  iapply (part_of_pt c b f); iexact H
theorem some_pt_of_part (c : Dev nD) (b : Ref sig .tc) :
    (iprop(∃ d, part (c : Thread nD τ) (Memref.whole b) Finset.univ fullShare d) : sProp 𝕄)
      ⊢ iprop(∃ f : Buf (Elt F) ((c : Thread nD τ).loc b), ((c : Thread nD τ).loc b) ↦{fullShare} f) := by
  iintro ⟨%f, H⟩; iexists f
  iapply (pt_of_part c b f); iexact H

/-! ## The proof data and the body at its point -/

abbrev ms0 (t : Fin cfg0.N) : Memref sig .tc .vmem S2x128 .f32 := win0_0.stage (cfg0.slots t 0)

/-- What the region holds besides the window: before the point as it was entered, after it with the results written. -/
def Phi (c : Dev nD) (k : Fin (cfg0.N + 1)) : sProp 𝕄 :=
  if k = 0 then Pipeline.ΦDRV osem0 spec0 H0 R0 (V m) (V m) c else Pipeline.ΦDRV osem0 spec0 H0 R0 (V m) (GR m) c

def dats (_ : Fin 1) (c : Dev nD) : Dat τ (Elt F) Unit ℕ (Pipeline.UD sig nD τ) ℕ cfg0 c where
  A w := V m c (Pipeline.arrRef spec0 w)
  after w t := match w with
    | ⟨0, _⟩ => resS m c
  Φ k := Phi m c k
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = resS m c := by dsimp only [dats]
theorem Phi_first (c : Dev nD) (t : Fin cfg0.N) : (dats m 0 c).Φ t.castSucc = Pipeline.ΦDRV osem0 spec0 H0 R0 (V m) (V m) c := by
  show Phi m c t.castSucc = _
  unfold Phi; rw [if_pos]; revert t; decide
theorem Phi_last (c : Dev nD) (t : Fin cfg0.N) : (dats m 0 c).Φ t.succ = Pipeline.ΦDRV osem0 spec0 H0 R0 (V m) (GR m) c := by
  show Phi m c t.succ = _
  unfold Phi; rw [if_neg]; revert t; decide

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

theorem given_of_pt (c : Dev nD) :
    (bigSep H0 (fun b => ((c : Thread nD τ).loc b) ↦{fullShare} V m c b) : sProp 𝕄)
      ⊢ given (Memref.whole main_v0) (Memref.whole main_arg1) (Memref.whole main_v1) (Memref.whole main_v2) (Memref.whole main_v3) (Memref.whole main_v4) (V m c main_v0) (V m c main_arg1) (V m c main_v1) (V m c main_v2) (V m c main_v3) (V m c main_v4) c := by
  rw [hbm_eq]; unfold given
  iintro ⟨H0, H1, H2, H3, H4, H5⟩
  isplitl [H0]; · iapply (part_of_pt c main_v0 _) $$ H0
  isplitl [H1]; · iapply (part_of_pt c main_arg1 _) $$ H1
  isplitl [H2]; · iapply (part_of_pt c main_v1 _) $$ H2
  isplitl [H3]; · iapply (part_of_pt c main_v2 _) $$ H3
  isplitl [H4]; · iapply (part_of_pt c main_v3 _) $$ H4
  iapply (part_of_pt c main_v4 _) $$ H5
theorem pt_of_given (c : Dev nD) :
    (given (Memref.whole main_v0) (Memref.whole main_arg1) (Memref.whole main_v1) (Memref.whole main_v2) (Memref.whole main_v3) (Memref.whole main_v4) (V m c main_v0) (V m c main_arg1) (V m c main_v1) (V m c main_v2) (V m c main_v3) (V m c main_v4) c : sProp 𝕄)
      ⊢ bigSep H0 (fun b => ((c : Thread nD τ).loc b) ↦{fullShare} V m c b) := by
  rw [hbm_eq]; unfold given
  iintro ⟨H0, H1, H2, H3, H4, H5⟩
  isplitl [H0]; · iapply (pt_of_part c main_v0 _) $$ H0
  isplitl [H1]; · iapply (pt_of_part c main_arg1 _) $$ H1
  isplitl [H2]; · iapply (pt_of_part c main_v1 _) $$ H2
  isplitl [H3]; · iapply (pt_of_part c main_v2 _) $$ H3
  isplitl [H4]; · iapply (pt_of_part c main_v3 _) $$ H4
  iapply (pt_of_part c main_v4 _) $$ H5
theorem buffers_of_pt (c : Dev nD) :
    (Pipeline.scopedRest (Ix := Unit) (Name := ℕ) (U := Pipeline.UD sig nD τ) (Lvl := ℕ) (Val := Elt F) spec0 c : sProp 𝕄)
      ⊢ buffers (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) c := by
  rw [scopedRest0_eq]; unfold buffers
  iintro ⟨H0, H1, H2, H3, H4, H5, H6, H7, H8, H9⟩
  isplitl [H0]; · iapply (some_part_of_pt c cc0_scratch0) $$ H0
  isplitl [H1]; · iapply (some_part_of_pt c cc0_scratch1) $$ H1
  isplitl [H2]; · iapply (some_part_of_pt c cc0_scratch2) $$ H2
  isplitl [H3]; · iapply (some_part_of_pt c cc0_scratch3) $$ H3
  isplitl [H4]; · iapply (some_part_of_pt c cc0_scratch4) $$ H4
  isplitl [H5]; · iapply (some_part_of_pt c cc0_scratch5) $$ H5
  isplitl [H6]; · iapply (some_part_of_pt c cc0_scratch6) $$ H6
  isplitl [H7]; · iapply (some_part_of_pt c cc0_scratch7) $$ H7
  isplitl [H8]; · iapply (some_part_of_pt c cc0_scratch8) $$ H8
  iapply (some_part_of_pt c cc0_scratch9) $$ H9
theorem pt_of_buffers (c : Dev nD) :
    (buffers (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) c : sProp 𝕄)
      ⊢ Pipeline.scopedRest (Ix := Unit) (Name := ℕ) (U := Pipeline.UD sig nD τ) (Lvl := ℕ) (Val := Elt F) spec0 c := by
  rw [scopedRest0_eq]; unfold buffers
  iintro ⟨H0, H1, H2, H3, H4, H5, H6, H7, H8, H9⟩
  isplitl [H0]; · iapply (some_pt_of_part c cc0_scratch0) $$ H0
  isplitl [H1]; · iapply (some_pt_of_part c cc0_scratch1) $$ H1
  isplitl [H2]; · iapply (some_pt_of_part c cc0_scratch2) $$ H2
  isplitl [H3]; · iapply (some_pt_of_part c cc0_scratch3) $$ H3
  isplitl [H4]; · iapply (some_pt_of_part c cc0_scratch4) $$ H4
  isplitl [H5]; · iapply (some_pt_of_part c cc0_scratch5) $$ H5
  isplitl [H6]; · iapply (some_pt_of_part c cc0_scratch6) $$ H6
  isplitl [H7]; · iapply (some_pt_of_part c cc0_scratch7) $$ H7
  isplitl [H8]; · iapply (some_pt_of_part c cc0_scratch8) $$ H8
  iapply (some_pt_of_part c cc0_scratch9) $$ H9

theorem pt_of_partR (c : Dev nD) :
    (part (c : Thread nD τ) (Memref.whole main_v5_0) Finset.univ fullShare (outR (V m c main_v0) (V m c main_arg1) (V m c main_v1) (V m c main_v2)) : sProp 𝕄)
      ⊢ (((c : Thread nD τ).loc main_v5_0) ↦{fullShare} resR m c) := pt_of_part c main_v5_0 _
theorem pt_of_partC (c : Dev nD) :
    (part (c : Thread nD τ) (Memref.whole main_v5_1) Finset.univ fullShare (outC (V m c main_v0) (V m c main_arg1) (V m c main_v1) (V m c main_v2) (V m c main_v3) (V m c main_v4)) : sProp 𝕄)
      ⊢ (((c : Thread nD τ).loc main_v5_1) ↦{fullShare} resC m c) := pt_of_part c main_v5_1 _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq, Phi_first, Phi_last, after0_0]
  unfold Dat.owesAt Pipeline.owesWithin Pipeline.ΦDRV
  rw [show (dats m 0 c).owed t.castSucc = 0 from rfl, show (dats m 0 c).owed t.succ = 0 from rfl, out_eq, out_eq, GR_R, GR_C]
  iintro ⟨⟨Hb, Hs, Hh, Ho0, Ho1⟩, ⟨%W, -, HW⟩, ⟨%d0, H0⟩⟩
  iapply (wp_wand_r frame (wpE (defs₀ (F := F)) Variants.none c none) Set.univ)
  isplitl [Hb Hs Hh Ho0 Ho1 HW H0]
  · iapply (body_run (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (ms0 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 (V m c main_v0) (V m c main_arg1) (V m c main_v1) (V m c main_v2) (V m c main_v3) (V m c main_v4) c)
    isplitl [Hh]; · iapply (given_of_pt m c) $$ Hh
    isplitl [Ho0]; · iexists _; iapply (part_of_pt c main_v5_0 _) $$ Ho0
    isplitl [Ho1]; · iexists _; iapply (part_of_pt c main_v5_1 _) $$ Ho1
    isplitl [H0]; · iexists _; iapply part_of_owns $$ H0
    isplitl [Hb]; · iapply (buffers_of_pt c) $$ Hb
    isplitl [Hs]; · iapply (cells_eq c).1 $$ Hs
    iexists W; iexact HW
  iintro %_ ⟨Hh, Ho0, Ho1, H0, Hb, Hs, ⟨%W', HW'⟩⟩
  isplitl [Hb Hs Hh Ho0 Ho1]
  · isplitl [Hb]; · iapply (pt_of_buffers c) $$ Hb
    isplitl [Hs]; · iapply (cells_eq c).2 $$ Hs
    isplitl [Hh]; · iapply (pt_of_given m c) $$ Hh
    isplitl [Ho0]; · iapply (pt_of_partR m c) $$ Ho0
    iapply (pt_of_partC m c) $$ Ho1
  isplitl [HW']
  · iexists W'; isplitr; · ipureintro; exact fun _ _ => Or.inl trivial
    iexact HW'
  iapply owns_of_part $$ H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The array of window 0 after the write-back. -/
theorem arr_final (c : Dev nD) : (dats m 0 c).arrAt 0 cfg0.N = resS m c := by
  refine (dats m 0 c).arrAt_eq_of_after_last 0 t0_0 (by decide +kernel) _ (fun j => ?_)
  rw [after0_0]; rfl

/-- The buffers after the last host line. -/
abbrev Wend (c : Dev nD) : Valuation τ sig (Elt F) :=
  StableHlo.after (List.flatten [hostOps1]) (Pipeline.withArrays spec0 c (Pipeline.withR (V0 m c) R0 c (GR m c)) fun w => (dats m 0 c).arrAt w cfg0.N)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Wend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := GR m)
    (hmain := hmainD m Variants.none) (hA := A_eq m)
    (hin := fun c => Entails.of_eq (Phi_first m c t0_0).symm) (hout := fun c => Entails.of_eq (Phi_last m c t0_0))
    (hQ' := fun _ h => h)

theorem Wend_arg (c : Dev nD) (b : Ref sig .tc) (h6 : b ≠ main_v6) (h7 : b ≠ main_v7) (ha : ∀ w, Pipeline.arrRef spec0 w ≠ b) (hR : b ∉ R0) :
    Wend m c (Proc.devRef .tc b) = V m c b := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h6, StableHlo.devRef_ne_of_ne h7⟩)),
    Pipeline.withArrays_of_ne _ c _ _ b ha, Pipeline.withR_of_not_mem _ _ _ _ b hR]
theorem Wend_R (c : Dev nD) : Wend m c (Proc.devRef .tc main_v6) = shapeCast S2x128x12288 (resR m c) shapeCasts_S256x12288_S2x128x12288 := by
  unfold Wend hostOps1
  rw [List.flatten_cons, List.flatten_nil, List.append_nil, StableHlo.after_cons, StableHlo.after_cons, StableHlo.after_nil]
  refine (StableHlo.reshape_result_ne _ _ _ _ _ _ _ (by decide)).trans ?_
  refine (StableHlo.reshape_result _ _ _ _ _ _ _).trans ?_
  refine congrArg (fun X => shapeCast S2x128x12288 X shapeCasts_S256x12288_S2x128x12288) ?_
  exact (Pipeline.withArrays_of_ne _ c _ _ main_v5_0 (by exact (by decide : ∀ w, Pipeline.arrRef spec0 w ≠ main_v5_0))).trans ((Pipeline.withR_of_mem _ _ _ _ main_v5_0 (by decide)).trans (GR_R m c))
theorem Wend_C (c : Dev nD) : Wend m c (Proc.devRef .tc main_v7) = shapeCast S2x128x12288 (resC m c) shapeCasts_S256x12288_S2x128x12288 := by
  unfold Wend hostOps1
  rw [List.flatten_cons, List.flatten_nil, List.append_nil, StableHlo.after_cons, StableHlo.after_cons, StableHlo.after_nil]
  refine (StableHlo.reshape_result _ _ _ _ _ _ _).trans ?_
  refine congrArg (fun X => shapeCast S2x128x12288 X shapeCasts_S256x12288_S2x128x12288) ?_
  refine (StableHlo.reshape_result_ne _ _ _ _ _ _ _ (by decide)).trans ?_
  exact (Pipeline.withArrays_of_ne _ c _ _ main_v5_1 (by exact (by decide : ∀ w, Pipeline.arrRef spec0 w ≠ main_v5_1))).trans ((Pipeline.withR_of_mem _ _ _ _ main_v5_1 (by decide)).trans (GR_C m c))

/-- What the run leaves: the arguments as they were, the three results, every semaphore at zero. -/
theorem run : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v6) = shapeCast S2x128x12288 (resR m c) shapeCasts_S256x12288_S2x128x12288
      ∧ r.2.mem ((c.tc : Thread nD τ).loc main_v7) = shapeCast S2x128x12288 (resC m c) shapeCasts_S256x12288_S2x128x12288
      ∧ r.2.mem ((c.tc : Thread nD τ).loc main_v5_2) = resS m c)
      ∧ r.2.sem = fun _ => 0) := by
  refine (θ_run defs _ _).mono (fun r ⟨h, hz⟩ => ⟨fun c => ?_, hz⟩) (run_main m ρ)
  have ha := fun b hb h6 h7 hw hR => ((h c).2 b hb).trans (Wend_arg m c b h6 h7 hw hR)
  refine ⟨⟨?_, ?_, ?_, ?_, ?_, ?_⟩, ?_, ?_, ?_⟩
  · exact (ha main_arg0 (Pipeline.mem_restRefs_of main_arg0 (by decide) (by decide)) (by decide) (by decide) (by decide) (by decide)).trans (V_main_arg0 m c)
  · exact (ha main_arg1 (Pipeline.mem_restRefs_of main_arg1 (by decide) (by decide)) (by decide) (by decide) (by decide) (by decide)).trans (V_main_arg1 m c)
  · exact (ha main_arg2 (Pipeline.mem_restRefs_of main_arg2 (by decide) (by decide)) (by decide) (by decide) (by decide) (by decide)).trans (V_main_arg2 m c)
  · exact (ha main_arg3 (Pipeline.mem_restRefs_of main_arg3 (by decide) (by decide)) (by decide) (by decide) (by decide) (by decide)).trans (V_main_arg3 m c)
  · exact (ha main_arg4 (Pipeline.mem_restRefs_of main_arg4 (by decide) (by decide)) (by decide) (by decide) (by decide) (by decide)).trans (V_main_arg4 m c)
  · exact (ha main_arg5 (Pipeline.mem_restRefs_of main_arg5 (by decide) (by decide)) (by decide) (by decide) (by decide) (by decide)).trans (V_main_arg5 m c)
  · exact ((h c).2 main_v6 (Pipeline.mem_restRefs_of main_v6 (by decide) (by decide))).trans (Wend_R m c)
  · exact ((h c).2 main_v7 (Pipeline.mem_restRefs_of main_v7 (by decide) (by decide))).trans (Wend_C m c)
  · exact ((h c).1 0).trans (arr_final m c)

/-- The frame alone. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hz⟩ => ⟨fun c => (h c).1, hz⟩) (run m ρ)

/-! ## The arrays that the region is entered with -/

theorem V_main_v0 (c : Dev nD) : V m c main_v0 = shapeCast S4x256x12288 (m ((c : Thread nD τ).loc main_arg0)) shapeCasts_S4x2x128x12288_S4x256x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  rfl

theorem V_main_v1 (c : Dev nD) : V m c main_v1 = shapeCast S1x12288 (m ((c : Thread nD τ).loc main_arg2)) shapeCasts_S12288_S1x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  rfl

theorem V_main_v2 (c : Dev nD) : V m c main_v2 = shapeCast S256x12288 (m ((c : Thread nD τ).loc main_arg3)) shapeCasts_S2x128x12288_S256x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  refine congrArg (fun X => shapeCast S256x12288 X shapeCasts_S2x128x12288_S256x12288) ?_
  refine (StableHlo.reshape_result_ne _ _ _ _ _ _ _ (by decide)).trans ?_
  refine (StableHlo.reshape_result_ne _ _ _ _ _ _ _ (by decide)).trans ?_
  rfl

theorem V_main_v3 (c : Dev nD) : V m c main_v3 = shapeCast S1x12288 (m ((c : Thread nD τ).loc main_arg4)) shapeCasts_S12288_S1x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  rfl

theorem V_main_v4 (c : Dev nD) : V m c main_v4 = shapeCast S1x12288 (m ((c : Thread nD τ).loc main_arg5)) shapeCasts_S12288_S1x12288 := by
  unfold V V0 hostOps0
  simp only [List.flatten_cons, List.flatten_nil, List.append_nil, StableHlo.after_cons, StableHlo.after_nil]
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  rfl

end Cert.Kernel.Hand

end
-- ==== Proof.Ideal.Trip.lean ====
/-
  One trip of the kernel's loop, written with its four column walks folded back: the printed trip is the same
  program with every walk unrolled and cut every sixty statements, so the two are one program by unfolding
  (`trip_eq`). What each operation stores is named here once for every chunk of columns.
-/
module

public import proofs.«01_k».proof.Proof.Gen.KernelIdeal.Skeleton
public import proofs.«01_k».proof.Proof.Rules
public import Idealize.ShloMosaic.Lib.Pipeline.Regions

@[expose] public section

noncomputable section

namespace Cert.KernelIdeal.Hand

open Cert.KernelIdeal Cert.KernelIdeal.Gen Cert.Hand
open Idealize.ShloMosaic Idealize.SL.Sem
open Idealize.ShloMosaic.Tactic Idealize.ShloMosaic.Pipeline

variable {F : FTy → Type} [FloatOps F] [Named F]

/-! ## What one chunk computes -/

/-- The reciprocal of the row length, as the kernel holds it. -/
def invD : F .f32 := Named.named κ "inv_d" 0x38AAAAAB#32

/-- The running value of each lane after the four 128-lane tiles of a 512-column chunk. -/
def fold4 (op : FVec F S32x128 .f32 → FVec F S32x128 .f32 → FVec F S32x128 .f32) (acc : FVec F S32x128 .f32)
    (v : FVec F S32x512 .f32) : FVec F S32x128 .f32 :=
  op (op (op (op acc (extractStridedSlice S32x128 ![0, 0] v slices_S32x512_o0_0_S32x128))
    (extractStridedSlice S32x128 ![0, 128] v slices_S32x512_o0_128_S32x128))
    (extractStridedSlice S32x128 ![0, 256] v slices_S32x512_o0_256_S32x128))
    (extractStridedSlice S32x128 ![0, 384] v slices_S32x512_o0_384_S32x128)

/-- The residual rows of a chunk: the scaled sum of the shards, the bias and the input, rounded to bf16. -/
def resid (lhs : Vec F S1x32x128 .bf16) (p : Vec F S1x4x32x512 .fp8e4m3) (b : Vec F S1x512 .f32) (x : Vec F S1x32x512 .bf16) :
    FVec F S32x512 .bf16 :=
  truncf .bf16 (addf (addf (matmul dot_S32x128_S128x512_S32x512_1_0_0_1_n_n none
      (shapeCast S32x128 lhs shapeCasts_S1x32x128_S32x128)
      (shapeCast S128x512 (shapeCast S4x32x512 p shapeCasts_S1x4x32x512_S4x32x512) shapeCasts_S4x32x512_S128x512)
      (constant S32x512 .f32 0x00000000#32)) (broadcastTo S32x512 b broadcasts_S1x512_S32x512))
    (extf .f32 (shapeCast S32x512 x shapeCasts_S1x32x512_S32x512) bitsLt_bf16_f32)) bitsLt_bf16_f32

def zeros : FVec F S32x128 .f32 := broadcast S32x128 (Scalar.ofBits .f32 0x00000000#32)

/-- A lane sum times the reciprocal of the row length. -/
def meanOf (acc : FVec F S32x128 .f32) : FVec F S32x1 .f32 :=
  mulf (shapeCast S32x1 (multiReduction .add [1] S32 acc 0x00000000#32 reduces_S32x128_S32 (.inl rfl) rfl) shapeCasts_S32_S32x1)
    (broadcast S32x1 invD)

/-- The deviations of a chunk from its rows' means. -/
def devOf (mu : FVec F S32x1 .f32) (r : Vec F S1x32x512 .bf16) : FVec F S32x512 .f32 :=
  subf (extf .f32 (shapeCast S32x512 r shapeCasts_S1x32x512_S32x512) bitsLt_bf16_f32) (broadcastTo S32x512 mu broadcasts_S32x1_S32x512)

def sqOf (mu : FVec F S32x1 .f32) (r : Vec F S1x32x512 .bf16) : FVec F S32x512 .f32 := mulf (devOf mu r) (devOf mu r)

def rsOf (acc : FVec F S32x128 .f32) : FVec F S32x1 .f32 :=
  rsqrt (addf (meanOf acc) (broadcast S32x1 (Scalar.ofBits .f32 0x358637BD#32)))

/-- The normalised rows of a chunk. -/
def normOf (mu rs : FVec F S32x1 .f32) (r : Vec F S1x32x512 .bf16) (g b : Vec F S1x512 .f32) : FVec F S32x512 .f32 :=
  addf (mulf (mulf (devOf mu r) (broadcastTo S32x512 rs broadcasts_S32x1_S32x512)) (broadcastTo S32x512 g broadcasts_S1x512_S32x512))
    (broadcastTo S32x512 b broadcasts_S1x512_S32x512)

/-- A row's largest lane times the reciprocal of 448, on every lane. -/
def amaxOf (acc : FVec F S32x128 .f32) : FVec F S32x128 .f32 :=
  mulf (broadcastTo S32x128 (shapeCast S32x1 (shapeCast S32x1
      (multiReduction .maximumf [1] S32 acc 0xFF800000#32 reduces_S32x128_S32 (.inl rfl) rfl) shapeCasts_S32_S32x1) shapeCasts_S32x1_S32x1)
      broadcasts_S32x1_S32x128)
    (broadcast S32x128 (Scalar.ofBits .f32 0x3B124925#32))

/-- One step of the search for the exponent field: take the bit `k` when `2 ^ (n + k - 127) ≤ v`. -/
def takeBit (v : FVec F S32x128 .f32) (k : BitVec 32) (n : IVec S32x128 32) : IVec S32x128 32 :=
  select (cmpf .oge v (bitcastToFloat .f32 (shli (addi n (broadcast S32x128 k)) (broadcast S32x128 23#32))))
    (addi n (broadcast S32x128 k)) n

/-- The exponent field of `v`. -/
def expField (v : FVec F S32x128 .f32) : IVec S32x128 32 :=
  takeBit v 1#32 (takeBit v 2#32 (takeBit v 4#32 (takeBit v 8#32 (takeBit v 16#32 (takeBit v 32#32
    (takeBit v 64#32 (takeBit v 128#32 (broadcast S32x128 0#32))))))))

/-- The power of two's exponent: that of the least power above `v`, zero where `v` has exponent field 0 or 255. -/
def expOf (v : FVec F S32x128 .f32) : IVec S32x128 32 :=
  select (ori (cmpi .eq (expField v) (broadcast S32x128 0#32)) (cmpi .eq (expField v) (broadcast S32x128 255#32)))
    (broadcast S32x128 0#32) (subi (expField v) (broadcast S32x128 126#32))

def scaleOf (v : FVec F S32x128 .f32) : FVec F S32x128 .f32 :=
  bitcastToFloat .f32 (shli (addi (broadcast S32x128 127#32) (expOf v)) (broadcast S32x128 23#32))

def invOf (v : FVec F S32x128 .f32) : FVec F S32x128 .f32 :=
  bitcastToFloat .f32 (shli (subi (broadcast S32x128 127#32) (expOf v)) (broadcast S32x128 23#32))

/-- The codes of a tile of 128 columns. -/
def codeOf (inv : FVec F S32x128 .f32) (y : Vec F S32x128 .f32) : FVec F S32x128 .fp8e4m3 :=
  truncf .fp8e4m3 (minimumf (broadcast S32x128 (Scalar.ofBits .f32 0x43E00000#32))
    (maximumf (broadcast S32x128 (Scalar.ofBits .f32 0xC3E00000#32)) (mulf y inv))) bitsLt_fp8e4m3_f32

/-! ## The slabs' scales placed in the scale result -/

/-- A slab's number as the kernel counts it. -/
def wd (t : Fin k0_t1_loop.trips) : BitVec 32 := Scf.iv 0#32 1#32 t

/-- `t // 4`: the slab's batch row. -/
def batchW (a : BitVec 32) : BitVec 32 :=
  Scalar.select (Scalar.andi (Scalar.cmpi .ne
      (Scalar.subi (Scalar.extui (Scalar.cmpi .sgt a 0#32)) (Scalar.extui (Scalar.cmpi .slt a 0#32)))
      (Scalar.subi (Scalar.extui (Scalar.cmpi .sgt 4#32 0#32)) (Scalar.extui (Scalar.cmpi .slt 4#32 0#32))))
      (Scalar.cmpi .ne (Scalar.remsi a 4#32) 0#32))
    (Scalar.subi (Scalar.divsi a 4#32) 1#32) (Scalar.divsi a 4#32)

/-- `(t % 4) * 32`: the slab's first token. -/
def tokenW (a : BitVec 32) : BitVec 32 :=
  let d : BitVec 32 := Scalar.select (Scalar.cmpi .eq 4#32 0#32) 1#32 4#32
  Scalar.muli (Scalar.select (Scalar.andi (Scalar.xori (Scalar.cmpi .slt (Scalar.remsi a d) 0#32) (Scalar.cmpi .slt d 0#32))
      (Scalar.cmpi .ne (Scalar.remsi a d) 0#32))
    (Scalar.addi (Scalar.remsi a d) d) (Scalar.remsi a d)) 32#32

/-- The slab's scales, each on the lane of its token. -/
def placed (lane row : IVec S32x128 32) (t : Fin k0_t1_loop.trips) (scale : FVec F S32x128 .f32) : FVec F S1x128 .f32 :=
  shapeCast S1x128 (multiReduction .add [0] S128
    (select (cmpi .eq lane (addi row (broadcast S32x128 (tokenW (wd t))))) scale (broadcast S32x128 (Scalar.ofBits .f32 0x00000000#32)))
    0x00000000#32 reduces_S32x128_S128 (.inl rfl) rfl) shapeCasts_S128_S1x128

/-! ## Where each chunk lies -/

theorem wd_lt (t : Fin k0_t1_loop.trips) : (wd t).toNat < 8 := by
  have h := k0_off5_inb t 0
  change (wd t).toNat + 1 ≤ 8 at h
  omega

abbrev offP (t : Fin k0_t1_loop.trips) (k : Fin 24) : Fin 4 → ℕ := ![(wd t).toNat, 0, 0, 512 * k.val]
abbrev offR (t : Fin k0_t1_loop.trips) (k : Fin 24) : Fin 3 → ℕ := ![(wd t).toNat, 0, 512 * k.val]
abbrev offC (t : Fin k0_t1_loop.trips) (k : Fin 96) : Fin 3 → ℕ := ![(wd t).toNat, 0, 128 * k.val]
abbrev offY (k : Fin 24) : Fin 2 → ℕ := ![0, 512 * k.val]
abbrev offL (k : Fin 96) : Fin 2 → ℕ := ![0, 128 * k.val]

theorem offP_inb (t : Fin k0_t1_loop.trips) (k : Fin 24) (a : Fin 4) : offP t k a + S1x4x32x512.size a ≤ S8x4x32x12288.size a := by
  have := wd_lt t; have := k.isLt
  match a with
  | 0 => change (wd t).toNat + 1 ≤ 8; omega
  | 1 => exact le_of_eq (Nat.zero_add _)
  | 2 => exact le_of_eq (Nat.zero_add _)
  | 3 => change 512 * k.val + 512 ≤ 12288; omega
theorem offR_inb (t : Fin k0_t1_loop.trips) (k : Fin 24) (a : Fin 3) : offR t k a + S1x32x512.size a ≤ S8x32x12288.size a := by
  have := wd_lt t; have := k.isLt
  match a with
  | 0 => change (wd t).toNat + 1 ≤ 8; omega
  | 1 => exact le_of_eq (Nat.zero_add _)
  | 2 => change 512 * k.val + 512 ≤ 12288; omega
theorem offC_inb (t : Fin k0_t1_loop.trips) (k : Fin 96) (a : Fin 3) : offC t k a + S1x32x128.size a ≤ S8x32x12288.size a := by
  have := wd_lt t; have := k.isLt
  match a with
  | 0 => change (wd t).toNat + 1 ≤ 8; omega
  | 1 => exact le_of_eq (Nat.zero_add _)
  | 2 => change 128 * k.val + 128 ≤ 12288; omega
theorem offY_inb (k : Fin 24) (a : Fin 2) : offY k a + S32x512.size a ≤ S32x12288.size a := by
  have := k.isLt
  match a with
  | 0 => exact le_of_eq (Nat.zero_add _)
  | 1 => change 512 * k.val + 512 ≤ 12288; omega
theorem offB_inb (k : Fin 24) (a : Fin 2) : offY k a + S1x512.size a ≤ S1x12288.size a := by
  have := k.isLt
  match a with
  | 0 => exact le_of_eq (Nat.zero_add _)
  | 1 => change 512 * k.val + 512 ≤ 12288; omega
theorem offL_inb (k : Fin 96) (a : Fin 2) : offL k a + S32x128.size a ≤ S32x12288.size a := by
  have := k.isLt
  match a with
  | 0 => exact le_of_eq (Nat.zero_add _)
  | 1 => change 128 * k.val + 128 ≤ 12288; omega

abbrev rP (t : Fin k0_t1_loop.trips) (k : Fin 24) : Rect S8x4x32x12288 := Rect.unit (s := S8x4x32x12288) (offP t k) S1x4x32x512.size (offP_inb t k)
abbrev rR (t : Fin k0_t1_loop.trips) (k : Fin 24) : Rect S8x32x12288 := Rect.unit (s := S8x32x12288) (offR t k) S1x32x512.size (offR_inb t k)
abbrev rC (t : Fin k0_t1_loop.trips) (k : Fin 96) : Rect S8x32x12288 := Rect.unit (s := S8x32x12288) (offC t k) S1x32x128.size (offC_inb t k)
abbrev rY (k : Fin 24) : Rect S32x12288 := Rect.unit (s := S32x12288) (offY k) S32x512.size (offY_inb k)
abbrev rB (k : Fin 24) : Rect S1x12288 := Rect.unit (s := S1x12288) (offY k) S1x512.size (offB_inb k)
abbrev rL (k : Fin 96) : Rect S32x12288 := Rect.unit (s := S32x12288) (offL k) S32x128.size (offL_inb k)

theorem rR_packed (t : Fin k0_t1_loop.trips) (k : Fin 24) : (rR t k).PackedRows (EltTy.packing .bf16) :=
  .inr ⟨by decide, rfl, .inl ⟨⟨0, rfl⟩, ⟨16, rfl⟩⟩⟩
theorem rC_packed (t : Fin k0_t1_loop.trips) (k : Fin 96) : (rC t k).PackedRows (EltTy.packing .fp8e4m3) :=
  .inr ⟨by decide, rfl, .inl ⟨⟨0, rfl⟩, ⟨8, rfl⟩⟩⟩

/-! ## The trip -/

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)

/-- The trip's two ends of each of its four copies: the slab of the kernel's own buffer, the rows of the array. -/
abbrev cellP (t : Fin k0_t1_loop.trips) : DmaSem sig :=
  ((arg19.slice (Rect.unit (s := S2x8) (k0_off1 t) S1x1.size (k0_off1_inb t))).squeeze S_ squeezes_S1x1_S_).sem
abbrev cellX (t : Fin k0_t1_loop.trips) : DmaSem sig :=
  ((arg19.slice (Rect.unit (s := S2x8) (k0_off4 t) S1x1.size (k0_off4_inb t))).squeeze S_ squeezes_S1x1_S_).sem
abbrev cellR (t : Fin k0_t1_loop.trips) : DmaSem sig :=
  ((arg21.slice (Rect.unit (s := S8) (k0_off56 t) S1.size (k0_off56_inb t))).squeeze S_ squeezes_S1_S_).sem
abbrev cellC (t : Fin k0_t1_loop.trips) : DmaSem sig :=
  ((arg22.slice (Rect.unit (s := S8) (k0_off56 t) S1.size (k0_off56_inb t))).squeeze S_ squeezes_S1_S_).sem
abbrev slabP (t : Fin k0_t1_loop.trips) : Memref sig .tc .vmem S4x32x12288 .fp8e4m3 :=
  (arg9.slice (Rect.unit (s := S8x4x32x12288) (k0_off2 t) S1x4x32x12288.size (k0_off2_inb t)) (fun _ => rfl)).squeeze S4x32x12288 squeezes_S1x4x32x12288_S4x32x12288
abbrev slabX (t : Fin k0_t1_loop.trips) : Memref sig .tc .vmem S32x12288 .bf16 :=
  (arg10.slice (Rect.unit (s := S8x32x12288) (k0_off5 t) S1x32x12288.size (k0_off5_inb t)) (fun _ => rfl)).squeeze S32x12288 squeezes_S1x32x12288_S32x12288
abbrev slabR (t : Fin k0_t1_loop.trips) : Memref sig .tc .vmem S32x12288 .bf16 :=
  (arg11.slice (Rect.unit (s := S8x32x12288) (k0_off5 t) S1x32x12288.size (k0_off5_inb t)) (fun _ => rfl)).squeeze S32x12288 squeezes_S1x32x12288_S32x12288
abbrev slabC (t : Fin k0_t1_loop.trips) : Memref sig .tc .vmem S32x12288 .fp8e4m3 :=
  (arg12.slice (Rect.unit (s := S8x32x12288) (k0_off5 t) S1x32x12288.size (k0_off5_inb t)) (fun _ => rfl)).squeeze S32x12288 squeezes_S1x32x12288_S32x12288
abbrev rowsP (t : Fin k0_t1_loop.trips) : Memref sig .tc .hbm S4x32x12288 .fp8e4m3 :=
  arg0.slice (Rect.unit (s := S4x256x12288) (k0_off3 t) S4x32x12288.size (k0_off3_inb t)) (fun _ => rfl)
abbrev rowsX (t : Fin k0_t1_loop.trips) : Memref sig .tc .hbm S32x12288 .bf16 :=
  arg3.slice (Rect.unit (s := S256x12288) (k0_off6 t) S32x12288.size (k0_off6_inb t)) (fun _ => rfl)
abbrev rowsR (t : Fin k0_t1_loop.trips) : Memref sig .tc .hbm S32x12288 .bf16 :=
  arg6.slice (Rect.unit (s := S256x12288) (k0_off6 t) S32x12288.size (k0_off6_inb t)) (fun _ => rfl)
abbrev rowsC (t : Fin k0_t1_loop.trips) : Memref sig .tc .hbm S32x12288 .fp8e4m3 :=
  arg7.slice (Rect.unit (s := S256x12288) (k0_off6 t) S32x12288.size (k0_off6_inb t)) (fun _ => rfl)

/-- Chunk `k` of the first walk: the residual rows, stored, and their lane sums. -/
def sumChunk (t : Fin k0_t1_loop.trips) (lhs : Vec F S1x32x128 .bf16) (k : Fin 24) (acc : FVec F S32x128 .f32) :
    Prog (TpuEff nD τ sig (Elt F) Λ₀ .tc) (FVec F S32x128 .f32) := do
  let p : Vec F S1x4x32x512 .fp8e4m3 ← Prog.lift (.load arg9 (rP t k).toLoadRect (View.loadsAt_vmem h_S1x4x32x512))
  let b : Vec F S1x512 .f32 ← Prog.lift (.load arg16 (rB k).toLoadRect (View.loadsAt_vmem h_S1x512))
  let x : Vec F S1x32x512 .bf16 ← Prog.lift (.load arg10 (rR t k).toLoadRect (View.loadsAt_vmem h_S1x32x512))
  let _ : Vec F S1x32x512 .bf16 ← Prog.lift (.load arg11 (rR t k).toLoadRect (View.loadsAt_vmem h_S1x32x512))
  Prog.lift (.store arg11 (rR t k) (shapeCast S1x32x512 (resid lhs p b x) shapeCasts_S32x512_S1x32x512) Finset.univ
    (View.stores_vmem h_S1x32x512 (harg11.storeExact_slice rfl _ (rR_packed t k)) (fun _ => rfl)) (.inl rfl))
  pure (fold4 addf acc (extf .f32 (resid lhs p b x) bitsLt_bf16_f32))

/-- Chunk `k` of the second walk: the lane sums of the squared deviations. -/
def sqChunk (t : Fin k0_t1_loop.trips) (mu : FVec F S32x1 .f32) (k : Fin 24) (acc : FVec F S32x128 .f32) :
    Prog (TpuEff nD τ sig (Elt F) Λ₀ .tc) (FVec F S32x128 .f32) := do
  let r : Vec F S1x32x512 .bf16 ← Prog.lift (.load arg11 (rR t k).toLoadRect (View.loadsAt_vmem h_S1x32x512))
  pure (fold4 addf acc (sqOf mu r))

/-- Chunk `k` of the third walk: the normalised rows, stored, and the lane maxima of their absolute values. -/
def normChunk (t : Fin k0_t1_loop.trips) (mu rs : FVec F S32x1 .f32) (k : Fin 24) (acc : FVec F S32x128 .f32) :
    Prog (TpuEff nD τ sig (Elt F) Λ₀ .tc) (FVec F S32x128 .f32) := do
  let r : Vec F S1x32x512 .bf16 ← Prog.lift (.load arg11 (rR t k).toLoadRect (View.loadsAt_vmem h_S1x32x512))
  let g : Vec F S1x512 .f32 ← Prog.lift (.load arg17 (rB k).toLoadRect (View.loadsAt_vmem h_S1x512))
  let b : Vec F S1x512 .f32 ← Prog.lift (.load arg18 (rB k).toLoadRect (View.loadsAt_vmem h_S1x512))
  let _ : Vec F S32x512 .f32 ← Prog.lift (.load arg13 (rY k).toLoadRect (View.loadsAt_vmem h_S32x512))
  Prog.lift (.store arg13 (rY k) (shapeCast S32x512 (normOf mu rs r g b) shapeCasts_S32x512_S32x512) Finset.univ
    (View.stores_vmem_bits_univ h_S32x512 rfl) (.inl rfl))
  pure (fold4 maximumf acc (absf (normOf mu rs r g b)))

/-- Tile `k` of the last walk: the codes, stored. -/
def codeTile (t : Fin k0_t1_loop.trips) (inv : FVec F S32x128 .f32) (k : Fin 96) (_ : PUnit.{1}) :
    Prog (TpuEff nD τ sig (Elt F) Λ₀ .tc) PUnit.{1} := do
  let y : Vec F S32x128 .f32 ← Prog.lift (.load arg13 (rL k).toLoadRect (View.loadsAt_vmem h_S32x128))
  let _ : Vec F S1x32x128 .fp8e4m3 ← Prog.lift (.load arg12 (rC t k).toLoadRect (View.loadsAt_vmem h_S1x32x128))
  Prog.lift (.store arg12 (rC t k) (shapeCast S1x32x128 (codeOf inv y) shapeCasts_S32x128_S1x32x128) Finset.univ
    (View.stores_vmem h_S1x32x128 (harg12.storeExact_slice rfl _ (rC_packed t k)) (fun _ => rfl)) (.inl rfl))

abbrev walk24 {α : Type} (f : Fin 24 → α → Prog (TpuEff nD τ sig (Elt F) Λ₀ .tc) α) (a : α) := walk 24 f 24 0 rfl a

/-- The trip. -/
def trip (lane row : IVec S32x128 32) (t : Fin k0_t1_loop.trips) : Prog (TpuEff nD τ sig (Elt F) Λ₀ .tc) Unit := do
  Prog.lift (.waitDma2 (cellP arg19 t) (rowsP arg0 t) (slabP arg9 t) (harg0.wordExact_slice rfl _ (k0_off3_wordsfp8e4m3 t))
    ((harg9.wordExact_slice rfl _ (k0_off2_wordsfp8e4m3 t)).reshape _ _))
  Prog.lift (.waitDma2 (cellX arg19 t) (rowsX arg3 t) (slabX arg10 t) (harg3.wordExact_slice rfl _ (k0_off6_wordsbf16 t))
    ((harg10.wordExact_slice rfl _ (k0_off5_wordsbf16 t)).reshape _ _))
  let lhs : Vec F S1x32x128 .bf16 ← Prog.lift (.load arg14 (Rect.unit (s := S8x32x128) (k0_off7 t) S1x32x128.size (k0_off7_inb t)).toLoadRect (View.loadsAt_vmem h_S1x32x128))
  let acc : FVec F S32x128 .f32 ← walk24 (sumChunk arg9 arg10 arg11 harg11 arg16 t lhs) zeros
  Prog.lift (.enqueueDma (slabR arg11 t) (.here (rowsR arg6 t)) (.dma (cellR arg21 t))
    ((harg11.wordExact_slice rfl _ (k0_off5_wordsbf16 t)).reshape _ _) (harg6.wordExact_slice rfl _ (k0_off6_wordsbf16 t)) ⟨Or.inl rfl, trivial⟩)
  let sq : FVec F S32x128 .f32 ← walk24 (sqChunk arg11 t (meanOf acc)) zeros
  let am : FVec F S32x128 .f32 ← walk24 (normChunk arg11 arg13 arg17 arg18 t (meanOf acc) (rsOf sq)) zeros
  walk 96 (codeTile arg12 harg12 arg13 t (invOf (amaxOf am))) 96 0 rfl ⟨⟩
  let o : Vec F S2x128 .f32 ← Prog.lift (.load arg8 (Rect.unit (s := S2x128) ![0, 0] S2x128.size inb_S2x128_S2x128_0_0).toLoadRect (View.loadsAt_vmem h_S2x128))
  let _ : Vec F S2x128 .f32 ← Prog.lift (.load arg8 (Rect.unit (s := S2x128) ![0, 0] S2x128.size inb_S2x128_S2x128_0_0).toLoadRect (View.loadsAt_vmem h_S2x128))
  Prog.lift (.store arg8 (Rect.unit (s := S2x128) ![0, 0] S2x128.size inb_S2x128_S2x128_0_0)
    (k0_pay333 (batchW (wd t)) (placed lane row t (scaleOf (amaxOf am))) (iota .tc S2x128 32 [0] iota_S2x128_d0_w32) o) Finset.univ
    (View.stores_vmem_bits_univ h_S2x128 rfl) (.inl rfl))
  Prog.lift (.enqueueDma (slabC arg12 t) (.here (rowsC arg7 t)) (.dma (cellC arg22 t))
    ((harg12.wordExact_slice rfl _ (k0_off5_wordsfp8e4m3 t)).reshape _ _) (harg7.wordExact_slice rfl _ (k0_off6_wordsfp8e4m3 t)) ⟨Or.inl rfl, trivial⟩)
  pure ⟨⟩

variable (v116 : IVec S32x128 1) (v140 : IVec S32x128 32) (v439 : FVec F S32x128 .f32)

set_option maxRecDepth 100000 in
set_option maxHeartbeats 0 in
/-- The printed trip is this one. -/
theorem trip_eq (lane row : IVec S32x128 32) (t : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 v116 v140 v439 lane row t u
      = trip (F := F) arg0 harg0 arg3 harg3 arg6 harg6 arg7 harg7 arg8 arg9 harg9 arg10 harg10 arg11 harg11 arg12 harg12 arg13 arg14 arg16 arg17 arg18 arg19 arg21 arg22 lane row t := by
  chain_rfl

end

end Cert.KernelIdeal.Hand

end
-- ==== Proof.Ideal.Body.lean ====
/-
  The kernel's body, written with its unrolled walks over the eight slabs folded back around the loop: the copies
  in, the scale operand, the loop, the waits for the copies out. The printed body is this one by unfolding (`body_eq`).
-/
module

public import proofs.«01_k».proof.Proof.Ideal.Trip

@[expose] public section

noncomputable section

namespace Cert.KernelIdeal.Hand

open Cert.KernelIdeal Cert.KernelIdeal.Gen Cert.Hand
open Idealize.ShloMosaic Idealize.SL.Sem
open Idealize.ShloMosaic.Tactic Idealize.ShloMosaic.Pipeline

variable {F : FTy → Type} [FloatOps F] [Named F]

/-! ## The scale operand -/

/-- The scales of shard `p` for a slab: its 128 lanes rotated by 32 lanes for each step from the slab's place in its row to
    the shard's. -/
def rolled (n : Fin 4) (p : Fin 4) (v : FVec F S1x128 .f32) : FVec F S1x128 .f32 :=
  match (p.val + 4 - n.val) % 4 with
  | 0 => v
  | k + 1 => dynamicRotate 1 (BitVec.ofNat 32 (32 * (k + 1))) none v rotates_S1x128_d1

/-- Shard `p`'s scales on the diagonal of its 32 lanes, over what the other shards put there. -/
def onDiag (n p : Fin 4) (v : Vec F S1x1x128 .f32) (acc : FVec F S32x128 .f32) : FVec F S32x128 .f32 :=
  select (andi k0_pay309 (cmpi .eq k0_pay310 (broadcast S32x128 (BitVec.ofNat 32 p.val))))
    (broadcastTo S32x128 (shapeCast S1x128 (rolled n p (shapeCast S1x128 v shapeCasts_S1x1x128_S1x128)) shapeCasts_S1x128_S1x128)
      broadcasts_S1x128_S32x128) acc

/-- The left operand of a slab. -/
def lhsOf (n : Fin 4) (v0 v1 v2 v3 : Vec F S1x1x128 .f32) : FVec F S32x128 .bf16 :=
  truncf .bf16 (onDiag n 3 v3 (onDiag n 2 v2 (onDiag n 1 v1 (onDiag n 0 v0 zeros)))) bitsLt_bf16_f32

theorem trips_eq : k0_t1_loop.trips = 8 := by decide

/-- A slab's row of the batch and its place in the row. -/
def slabB (t : Fin k0_t1_loop.trips) : Fin 2 := ⟨t.val / 4, by have h : t.val < 8 := lt_of_lt_of_eq t.isLt trips_eq; exact Nat.div_lt_of_lt_mul h⟩
def slabN (t : Fin k0_t1_loop.trips) : Fin 4 := ⟨t.val % 4, Nat.mod_lt _ (by decide)⟩

theorem offS_inb (b : Fin 2) (p : Fin 4) (a : Fin 3) : (![p.val, b.val, 0] : Fin 3 → ℕ) a + S1x1x128.size a ≤ S4x2x128.size a := by
  have := b.isLt; have := p.isLt
  match a with
  | 0 => change p.val + 1 ≤ 4; omega
  | 1 => change b.val + 1 ≤ 2; omega
  | 2 => exact le_of_eq (Nat.zero_add _)
abbrev rS (b : Fin 2) (p : Fin 4) : Rect S4x2x128 := Rect.unit (s := S4x2x128) ![p.val, b.val, 0] S1x1x128.size (offS_inb b p)
abbrev rLhs (t : Fin k0_t1_loop.trips) : Rect S8x32x128 := Rect.unit (s := S8x32x128) (k0_off7 t) S1x32x128.size (k0_off7_inb t)
theorem rLhs_packed (t : Fin k0_t1_loop.trips) : (rLhs t).PackedRows (EltTy.packing .bf16) :=
  .inr ⟨by decide, rfl, .inl ⟨⟨0, rfl⟩, ⟨16, rfl⟩⟩⟩
abbrev rYs : Rect S2x128 := Rect.unit (s := S2x128) ![0, 0] S2x128.size inb_S2x128_S2x128_0_0

theorem small_inb (i : Fin 4) (a : Fin 1) : (![i.val] : Fin 1 → ℕ) a + S1.size a ≤ S4.size a := by
  have := i.isLt
  match a with
  | 0 => change i.val + 1 ≤ 4; omega

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)

abbrev cellS (i : Fin 4) : DmaSem sig :=
  ((arg20.slice (Rect.unit (s := S4) ![i.val] S1.size (small_inb i))).squeeze S_ squeezes_S1_S_).sem

abbrev walk8 (f : Fin k0_t1_loop.trips → Prog (TpuEff nD τ sig (Elt F) Λ₀ .tc) PUnit.{1}) : Prog (TpuEff nD τ sig (Elt F) Λ₀ .tc) PUnit.{1} :=
  walk k0_t1_loop.trips (fun t _ => f t) 8 0 trips_eq.symm ⟨⟩

/-- Start a slab's copies in. -/
def startIn (t : Fin k0_t1_loop.trips) : Prog (TpuEff nD τ sig (Elt F) Λ₀ .tc) PUnit.{1} := do
  Prog.lift (.enqueueDma (rowsP arg0 t) (.here (slabP arg9 t)) (.dma (cellP arg19 t)) (harg0.wordExact_slice rfl _ (k0_off3_wordsfp8e4m3 t))
    ((harg9.wordExact_slice rfl _ (k0_off2_wordsfp8e4m3 t)).reshape _ _) ⟨Or.inl rfl, trivial⟩)
  Prog.lift (.enqueueDma (rowsX arg3 t) (.here (slabX arg10 t)) (.dma (cellX arg19 t)) (harg3.wordExact_slice rfl _ (k0_off6_wordsbf16 t))
    ((harg10.wordExact_slice rfl _ (k0_off5_wordsbf16 t)).reshape _ _) ⟨Or.inl rfl, trivial⟩)

/-- Put a slab's scales on the diagonals of its left operand. -/
def buildLhs (t : Fin k0_t1_loop.trips) : Prog (TpuEff nD τ sig (Elt F) Λ₀ .tc) PUnit.{1} := do
  let v0 : Vec F S1x1x128 .f32 ← Prog.lift (.load arg15 (rS (slabB t) 0).toLoadRect (View.loadsAt_vmem h_S1x1x128))
  let v1 : Vec F S1x1x128 .f32 ← Prog.lift (.load arg15 (rS (slabB t) 1).toLoadRect (View.loadsAt_vmem h_S1x1x128))
  let v2 : Vec F S1x1x128 .f32 ← Prog.lift (.load arg15 (rS (slabB t) 2).toLoadRect (View.loadsAt_vmem h_S1x1x128))
  let v3 : Vec F S1x1x128 .f32 ← Prog.lift (.load arg15 (rS (slabB t) 3).toLoadRect (View.loadsAt_vmem h_S1x1x128))
  let _ : Vec F S1x32x128 .bf16 ← Prog.lift (.load arg14 (rLhs t).toLoadRect (View.loadsAt_vmem h_S1x32x128))
  Prog.lift (.store arg14 (rLhs t) (shapeCast S1x32x128 (lhsOf (slabN t) v0 v1 v2 v3) shapeCasts_S32x128_S1x32x128) Finset.univ
    (View.stores_vmem h_S1x32x128 (harg14.storeExact_slice rfl _ (rLhs_packed t)) (fun _ => rfl)) (.inl rfl))

/-- Wait for a slab's copies out. -/
def awaitOut (t : Fin k0_t1_loop.trips) : Prog (TpuEff nD τ sig (Elt F) Λ₀ .tc) PUnit.{1} := do
  Prog.lift (.waitDma2 (cellR arg21 t) (slabR arg11 t) (rowsR arg6 t) ((harg11.wordExact_slice rfl _ (k0_off5_wordsbf16 t)).reshape _ _)
    (harg6.wordExact_slice rfl _ (k0_off6_wordsbf16 t)))
  Prog.lift (.waitDma2 (cellC arg22 t) (slabC arg12 t) (rowsC arg7 t) ((harg12.wordExact_slice rfl _ (k0_off5_wordsfp8e4m3 t)).reshape _ _)
    (harg7.wordExact_slice rfl _ (k0_off6_wordsfp8e4m3 t)))

abbrev laneV : IVec S32x128 32 := iota .tc S32x128 32 [1] iota_S32x128_d1_w32
abbrev rowV : IVec S32x128 32 := iota .tc S32x128 32 [0] iota_S32x128_d0_w32

/-- The body. -/
def body : Prog (TpuEff nD τ sig (Elt F) Λ₀ .tc) PUnit.{1} := do
  Prog.lift (.enqueueDma arg1 (.here arg15) (.dma (cellS arg20 0)) harg1.wordExact harg15.wordExact ⟨Or.inl rfl, trivial⟩)
  Prog.lift (.enqueueDma arg2 (.here arg16) (.dma (cellS arg20 1)) harg2.wordExact harg16.wordExact ⟨Or.inl rfl, trivial⟩)
  Prog.lift (.enqueueDma arg4 (.here arg17) (.dma (cellS arg20 2)) harg4.wordExact harg17.wordExact ⟨Or.inl rfl, trivial⟩)
  Prog.lift (.enqueueDma arg5 (.here arg18) (.dma (cellS arg20 3)) harg5.wordExact harg18.wordExact ⟨Or.inl rfl, trivial⟩)
  walk8 (startIn arg0 harg0 arg3 harg3 arg9 harg9 arg10 harg10 arg19)
  Prog.lift (.waitDma2 (cellS arg20 0) arg1 arg15 harg1.wordExact harg15.wordExact)
  walk8 (buildLhs arg14 harg14 arg15)
  let _ : Vec F S2x128 .f32 ← Prog.lift (.load arg8 rYs.toLoadRect (View.loadsAt_vmem h_S2x128))
  Prog.lift (.store arg8 rYs (k0_pay332 (F := F)) Finset.univ (View.stores_vmem_bits_univ h_S2x128 rfl) (.inl rfl))
  Prog.lift (.waitDma2 (cellS arg20 1) arg2 arg16 harg2.wordExact harg16.wordExact)
  Prog.lift (.waitDma2 (cellS arg20 2) arg4 arg17 harg4.wordExact harg17.wordExact)
  Prog.lift (.waitDma2 (cellS arg20 3) arg5 arg18 harg5.wordExact harg18.wordExact)
  (Scf.Loop.for k0_t1_loop k0_t1_ok () (fun t _ => trip arg0 harg0 arg3 harg3 arg6 harg6 arg7 harg7 arg8 arg9 harg9 arg10 harg10 arg11 harg11 arg12 harg12 arg13 arg14 arg16 arg17 arg18 arg19 arg21 arg22 laneV rowV t) >>= fun _ => pure ⟨⟩)
  walk8 (awaitOut arg6 harg6 arg7 harg7 arg11 harg11 arg12 harg12 arg21 arg22)

set_option maxRecDepth 100000 in
set_option maxHeartbeats 0 in
/-- The printed body is this one. -/
theorem body_eq :
    cc0_shard_sum_layernorm_quant (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22
      = body (F := F) arg0 harg0 arg1 harg1 arg2 harg2 arg3 harg3 arg4 harg4 arg5 harg5 arg6 harg6 arg7 harg7 arg8 arg9 harg9 arg10 harg10 arg11 harg11 arg12 harg12 arg13 arg14 harg14 arg15 harg15 arg16 harg16 arg17 harg17 arg18 harg18 arg19 arg20 arg21 arg22 := by
  chain_rfl

end

end Cert.KernelIdeal.Hand

end
-- ==== Proof.Ideal.Values.lean ====
/-
  What every buffer of the kernel holds, as one function of the six arrays the body is given: the slabs of partial
  sums and inputs, the left operand, the residual rows, the normalised rows, the codes, the scales. And where each
  chunk and slab lies, by coordinates.
-/
module

public import proofs.«01_k».proof.Proof.Ideal.Body
public import Idealize.ShloMosaic.Lib.ValueLayout
public import Idealize.ShloMosaic.Lib.Pipeline.ValueKit.Geometry

@[expose] public section

noncomputable section

namespace Cert.KernelIdeal.Hand

open Cert.KernelIdeal Cert.KernelIdeal.Gen Cert.Hand
open Idealize.ShloMosaic Idealize.SL.Sem
open Idealize.ShloMosaic.ValueIdx

variable {F : FTy → Type} [FloatOps F] [Named F]

/-- The first `k` steps of a fold. -/
def upto {α : Type} {n : ℕ} (f : Fin n → α → α) : ℕ → α → α
  | 0, a => a
  | k + 1, a => if h : k < n then f ⟨k, h⟩ (upto f k a) else upto f k a

theorem upto_succ {α : Type} {n : ℕ} (f : Fin n → α → α) (k : Fin n) (a : α) : upto f (k.val + 1) a = f k (upto f k.val a) :=
  dif_pos k.isLt

abbrev T : ℕ := k0_t1_loop.trips
def slabOf (i : Fin 8) : Fin T := i.cast trips_eq.symm
theorem slab_lt (t : Fin T) : t.val < 8 := lt_of_lt_of_eq t.isLt trips_eq

/-- Row `r` of slab `a`. -/
def rowOf (a : Fin 8) (r : Fin 32) : Fin 256 := ⟨32 * a.val + r.val, by have := a.isLt; have := r.isLt; omega⟩
def inSlab (i : Fin 256) : Fin 8 := ⟨i.val / 32, by have := i.isLt; omega⟩
def inRow (i : Fin 256) : Fin 32 := ⟨i.val % 32, Nat.mod_lt _ (by decide)⟩
theorem rowOf_inSlab (i : Fin 256) : rowOf (inSlab i) (inRow i) = i := Fin.ext (by simp only [rowOf, inSlab, inRow]; omega)
theorem inSlab_rowOf (a : Fin 8) (r : Fin 32) : inSlab (rowOf a r) = a := Fin.ext (by have := r.isLt; simp only [rowOf, inSlab]; omega)
theorem inRow_rowOf (a : Fin 8) (r : Fin 32) : inRow (rowOf a r) = r := Fin.ext (by have := r.isLt; simp only [rowOf, inRow]; omega)
/-- The chunk of 512 columns a column lies in, and its place there; the tile of 128, and its place. -/
def chunkOf (j : Fin 12288) : Fin 24 := ⟨j.val / 512, by have := j.isLt; omega⟩
def inChunk (j : Fin 12288) : Fin 512 := ⟨j.val % 512, Nat.mod_lt _ (by decide)⟩
def tileOf (j : Fin 12288) : Fin 96 := ⟨j.val / 128, by have := j.isLt; omega⟩
def inTile (j : Fin 12288) : Fin 128 := ⟨j.val % 128, Nat.mod_lt _ (by decide)⟩

section
variable (X0 : Vec F S4x256x12288 .fp8e4m3) (X1 : Vec F S4x2x128 .f32) (X2 : Vec F S1x12288 .f32) (X3 : Vec F S256x12288 .bf16)
  (X4 X5 : Vec F S1x12288 .f32)

/-- The slabs of partial sums and of inputs. -/
def DP : Vec F S8x4x32x12288 .fp8e4m3 := fun i => X0 (ix3 (i 1) (rowOf (i 0) (i 2)) (i 3))
def DX : Vec F S8x32x12288 .bf16 := fun i => X3 (ix2 (rowOf (i 0) (i 1)) (i 2))

/-- The left operand of a slab. -/
def lhsAt (t : Fin T) : FVec F S32x128 .bf16 :=
  lhsOf (slabN t) (fun j => X1 ((rS (slabB t) 0).emb j)) (fun j => X1 ((rS (slabB t) 1).emb j)) (fun j => X1 ((rS (slabB t) 2).emb j))
    (fun j => X1 ((rS (slabB t) 3).emb j))
def DL : Vec F S8x32x128 .bf16 := fun i => lhsAt X1 (slabOf (i 0)) (ix2 (i 1) (i 2))

/-- The residual rows of a chunk of a slab. -/
def residAt (t : Fin T) (k : Fin 24) : FVec F S32x512 .bf16 :=
  resid (fun j => DL X1 ((rLhs t).emb j)) (fun j => DP X0 ((rP t k).emb j)) (fun j => X2 ((rB k).emb j)) (fun j => DX X3 ((rR t k).emb j))
def DR : Vec F S8x32x12288 .bf16 := fun i => residAt X0 X1 X2 X3 (slabOf (i 0)) (chunkOf (i 2)) (ix2 (i 1) (inChunk (i 2)))

def sumAcc (t : Fin T) (k : ℕ) : FVec F S32x128 .f32 :=
  upto (n := 24) (fun k acc => fold4 addf acc (extf .f32 (residAt X0 X1 X2 X3 t k) bitsLt_bf16_f32)) k zeros
def muAt (t : Fin T) : FVec F S32x1 .f32 := meanOf (sumAcc X0 X1 X2 X3 t 24)
def sqAcc (t : Fin T) (k : ℕ) : FVec F S32x128 .f32 :=
  upto (n := 24) (fun k acc => fold4 addf acc (sqOf (muAt X0 X1 X2 X3 t) (fun j => DR X0 X1 X2 X3 ((rR t k).emb j)))) k zeros
def rsAt (t : Fin T) : FVec F S32x1 .f32 := rsOf (sqAcc X0 X1 X2 X3 t 24)

/-- The normalised rows of a chunk of a slab. -/
def normAt (t : Fin T) (k : Fin 24) : FVec F S32x512 .f32 :=
  normOf (muAt X0 X1 X2 X3 t) (rsAt X0 X1 X2 X3 t) (fun j => DR X0 X1 X2 X3 ((rR t k).emb j)) (fun j => X4 ((rB k).emb j)) (fun j => X5 ((rB k).emb j))
def DY (t : Fin T) : Vec F S32x12288 .f32 := fun i => normAt X0 X1 X2 X3 X4 X5 t (chunkOf (i 1)) (ix2 (i 0) (inChunk (i 1)))
def maxAcc (t : Fin T) (k : ℕ) : FVec F S32x128 .f32 :=
  upto (n := 24) (fun k acc => fold4 maximumf acc (absf (normAt X0 X1 X2 X3 X4 X5 t k))) k zeros
def amAt (t : Fin T) : FVec F S32x128 .f32 := amaxOf (maxAcc X0 X1 X2 X3 X4 X5 t 24)

/-- The codes of a tile of a slab. -/
def codeAt (t : Fin T) (k : Fin 96) : FVec F S32x128 .fp8e4m3 :=
  codeOf (invOf (amAt X0 X1 X2 X3 X4 X5 t)) (fun j => DY X0 X1 X2 X3 X4 X5 t ((rL k).emb j))
def DC : Vec F S8x32x12288 .fp8e4m3 := fun i => codeAt X0 X1 X2 X3 X4 X5 (slabOf (i 0)) (tileOf (i 2)) (ix2 (i 1) (inTile (i 2)))

/-- The scale result after `n` slabs. -/
def scaleStep (t : Fin T) (o : Vec F S2x128 .f32) : Vec F S2x128 .f32 :=
  k0_pay333 (batchW (wd t)) (placed laneV rowV t (scaleOf (amAt X0 X1 X2 X3 X4 X5 t))) (iota .tc S2x128 32 [0] iota_S2x128_d0_w32) o
def DS (n : ℕ) : Vec F S2x128 .f32 := upto (n := T) (scaleStep X0 X1 X2 X3 X4 X5) n (k0_pay332 (F := F))

/-- The two results left in HBM. -/
def outR : Vec F S256x12288 .bf16 := fun i => DR X0 X1 X2 X3 (ix3 (inSlab (i 0)) (inRow (i 0)) (i 1))
def outC : Vec F S256x12288 .fp8e4m3 := fun i => DC X0 X1 X2 X3 X4 X5 (ix3 (inSlab (i 0)) (inRow (i 0)) (i 1))

end

/-! ## Where things lie -/

theorem wd_toNat : ∀ t : Fin T, (wd t).toNat = t.val := by decide +kernel

/-- The elements of a slab's slot in each of the kernel's slabbed buffers, and of its rows in each array. -/
def slotP (t : Fin T) : Finset S8x4x32x12288.Idx := (Rect.unit (s := S8x4x32x12288) (k0_off2 t) S1x4x32x12288.size (k0_off2_inb t)).set
def slot (t : Fin T) : Finset S8x32x12288.Idx := (Rect.unit (s := S8x32x12288) (k0_off5 t) S1x32x12288.size (k0_off5_inb t)).set
def rows3 (t : Fin T) : Finset S4x256x12288.Idx := (Rect.unit (s := S4x256x12288) (k0_off3 t) S4x32x12288.size (k0_off3_inb t)).set
def rows (t : Fin T) : Finset S256x12288.Idx := (Rect.unit (s := S256x12288) (k0_off6 t) S32x12288.size (k0_off6_inb t)).set

theorem mem_slotP (t : Fin T) (i : S8x4x32x12288.Idx) : i ∈ slotP t ↔ (i 0).val = t.val := by
  unfold slotP
  rw [Rect.mem_set_unit, k0_off2_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
    | 3 => exact ⟨Nat.zero_le _, lt_of_lt_of_eq (i 3).isLt (Nat.zero_add _).symm⟩
theorem mem_slot (t : Fin T) (i : S8x32x12288.Idx) : i ∈ slot t ↔ (i 0).val = t.val := by
  unfold slot
  rw [Rect.mem_set_unit, k0_off5_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
theorem mem_rows3 (t : Fin T) (i : S4x256x12288.Idx) : i ∈ rows3 t ↔ (inSlab (i 1)).val = t.val := by
  unfold rows3 inSlab
  rw [Rect.mem_set_unit, k0_off3_eq]
  constructor
  · intro h; have h0 := h 1; change 32 * t.val ≤ (i 1).val ∧ (i 1).val < 32 * t.val + 32 at h0; change (i 1).val / 32 = t.val; omega
  · intro h a
    change (i 1).val / 32 = t.val at h
    match a with
    | 0 => exact ⟨Nat.zero_le _, lt_of_lt_of_eq (i 0).isLt (Nat.zero_add _).symm⟩
    | 1 => change 32 * t.val ≤ (i 1).val ∧ (i 1).val < 32 * t.val + 32; omega
    | 2 => exact ⟨Nat.zero_le _, lt_of_lt_of_eq (i 2).isLt (Nat.zero_add _).symm⟩
theorem mem_rows (t : Fin T) (i : S256x12288.Idx) : i ∈ rows t ↔ (inSlab (i 0)).val = t.val := by
  unfold rows inSlab
  rw [Rect.mem_set_unit, k0_off6_eq]
  constructor
  · intro h; have h0 := h 0; change 32 * t.val ≤ (i 0).val ∧ (i 0).val < 32 * t.val + 32 at h0; change (i 0).val / 32 = t.val; omega
  · intro h a
    change (i 0).val / 32 = t.val at h
    match a with
    | 0 => change 32 * t.val ≤ (i 0).val ∧ (i 0).val < 32 * t.val + 32; omega
    | 1 => exact ⟨Nat.zero_le _, lt_of_lt_of_eq (i 1).isLt (Nat.zero_add _).symm⟩

/-- Slabs are disjoint and cover. -/
theorem disjoint_of_key {ι α : Type} {K : ι → Finset α} (key : α → ℕ) (num : ι → ℕ) (hnum : Function.Injective num)
    (h : ∀ t i, i ∈ K t ↔ key i = num t) (t t' : ι) (hne : t ≠ t') : Disjoint (K t) (K t') :=
  Finset.disjoint_left.mpr fun i hi hi' => hne (hnum (((h t i).mp hi).symm.trans ((h t' i).mp hi')))
theorem cover_of_key {α : Type} {K : Fin T → Finset α} (key : α → Fin 8)
    (h : ∀ t i, i ∈ K t ↔ (key i).val = t.val) (i : α) : ∃ t, i ∈ K t :=
  ⟨slabOf (key i), (h _ i).mpr rfl⟩

theorem slotP_disj (t t' : Fin T) (h : t ≠ t') : Disjoint (slotP t) (slotP t') := disjoint_of_key _ Fin.val Fin.val_injective mem_slotP t t' h
theorem slot_disj (t t' : Fin T) (h : t ≠ t') : Disjoint (slot t) (slot t') := disjoint_of_key _ Fin.val Fin.val_injective mem_slot t t' h
theorem rows3_disj (t t' : Fin T) (h : t ≠ t') : Disjoint (rows3 t) (rows3 t') := disjoint_of_key _ Fin.val Fin.val_injective mem_rows3 t t' h
theorem rows_disj (t t' : Fin T) (h : t ≠ t') : Disjoint (rows t) (rows t') := disjoint_of_key _ Fin.val Fin.val_injective mem_rows t t' h
theorem slotP_cover (i : S8x4x32x12288.Idx) : ∃ t, i ∈ slotP t := cover_of_key (fun i => (i 0 : Fin 8)) mem_slotP i
theorem slot_cover (i : S8x32x12288.Idx) : ∃ t, i ∈ slot t := cover_of_key (fun i => (i 0 : Fin 8)) mem_slot i
theorem rows3_cover (i : S4x256x12288.Idx) : ∃ t, i ∈ rows3 t := cover_of_key (fun i => inSlab (i 1)) mem_rows3 i
theorem rows_cover (i : S256x12288.Idx) : ∃ t, i ∈ rows t := cover_of_key (fun i => inSlab (i 0)) mem_rows i

theorem mem_rR (t : Fin T) (k : Fin 24) (i : S8x32x12288.Idx) : i ∈ (rR t k).set ↔ (i 0).val = t.val ∧ 512 * k.val ≤ (i 2).val ∧ (i 2).val < 512 * k.val + 512 := by
  rw [Rect.mem_set_unit]
  have hw := wd_toNat t
  constructor
  · intro h
    have h0 := h 0; change (wd t).toNat ≤ (i 0).val ∧ (i 0).val < (wd t).toNat + 1 at h0
    have h2 := h 2; change 512 * k.val ≤ (i 2).val ∧ (i 2).val < 512 * k.val + 512 at h2
    omega
  · intro h a
    match a with
    | 0 => change (wd t).toNat ≤ (i 0).val ∧ (i 0).val < (wd t).toNat + 1; omega
    | 1 => exact ⟨Nat.zero_le _, lt_of_lt_of_eq (i 1).isLt (Nat.zero_add _).symm⟩
    | 2 => exact h.2
theorem mem_rC (t : Fin T) (k : Fin 96) (i : S8x32x12288.Idx) : i ∈ (rC t k).set ↔ (i 0).val = t.val ∧ 128 * k.val ≤ (i 2).val ∧ (i 2).val < 128 * k.val + 128 := by
  rw [Rect.mem_set_unit]
  have hw := wd_toNat t
  constructor
  · intro h
    have h0 := h 0; change (wd t).toNat ≤ (i 0).val ∧ (i 0).val < (wd t).toNat + 1 at h0
    have h2 := h 2; change 128 * k.val ≤ (i 2).val ∧ (i 2).val < 128 * k.val + 128 at h2
    omega
  · intro h a
    match a with
    | 0 => change (wd t).toNat ≤ (i 0).val ∧ (i 0).val < (wd t).toNat + 1; omega
    | 1 => exact ⟨Nat.zero_le _, lt_of_lt_of_eq (i 1).isLt (Nat.zero_add _).symm⟩
    | 2 => exact h.2
theorem mem_rY (k : Fin 24) (i : S32x12288.Idx) : i ∈ (rY k).set ↔ 512 * k.val ≤ (i 1).val ∧ (i 1).val < 512 * k.val + 512 := by
  rw [Rect.mem_set_unit]
  constructor
  · intro h; exact h 1
  · intro h a
    match a with
    | 0 => exact ⟨Nat.zero_le _, lt_of_lt_of_eq (i 0).isLt (Nat.zero_add _).symm⟩
    | 1 => exact h
theorem mem_rLhs (t : Fin T) (i : S8x32x128.Idx) : i ∈ (rLhs t).set ↔ (i 0).val = t.val := by
  rw [Rect.mem_set_unit, k0_off7_eq]
  constructor
  · intro h; have h0 := h 0; change t.val ≤ (i 0).val ∧ (i 0).val < t.val + 1 at h0; omega
  · intro h a
    match a with
    | 0 => change t.val ≤ (i 0).val ∧ (i 0).val < t.val + 1; omega
    | 1 => exact ⟨Nat.zero_le _, lt_of_lt_of_eq (i 1).isLt (Nat.zero_add _).symm⟩
    | 2 => exact ⟨Nat.zero_le _, lt_of_lt_of_eq (i 2).isLt (Nat.zero_add _).symm⟩
theorem mem_rP (t : Fin T) (k : Fin 24) (i : S8x4x32x12288.Idx) (h : i ∈ (rP t k).set) : (i 0).val = t.val := by
  rw [Rect.mem_set_unit] at h
  have hw := wd_toNat t
  have h0 := h 0; change (wd t).toNat ≤ (i 0).val ∧ (i 0).val < (wd t).toNat + 1 at h0
  omega

theorem rP_sub (t : Fin T) (k : Fin 24) : (rP t k).set ⊆ slotP t := fun i hi => (mem_slotP t i).mpr (mem_rP t k i hi)
theorem rR_sub (t : Fin T) (k : Fin 24) : (rR t k).set ⊆ slot t := fun i hi => (mem_slot t i).mpr ((mem_rR t k i).mp hi).1
theorem rC_sub (t : Fin T) (k : Fin 96) : (rC t k).set ⊆ slot t := fun i hi => (mem_slot t i).mpr ((mem_rC t k i).mp hi).1

/-! Placements, by coordinates. -/

theorem emb_rP (t : Fin T) (k : Fin 24) (j : S1x4x32x512.Idx) :
    (rP t k).emb j = (ix4 ⟨t.val, slab_lt t⟩ (j 1 : Fin 4) (j 2 : Fin 32) (⟨512 * k.val + (j 3).val, by have := k.isLt; have := (j 3).isLt; change (j 3).val < 512 at this; omega⟩ : Fin 12288) : S8x4x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => exact Nat.zero_add _
  | 3 => rfl
theorem emb_rR (t : Fin T) (k : Fin 24) (j : S1x32x512.Idx) :
    (rR t k).emb j = (ix3 ⟨t.val, slab_lt t⟩ (j 1 : Fin 32) (⟨512 * k.val + (j 2).val, by have := k.isLt; have := (j 2).isLt; change (j 2).val < 512 at this; omega⟩ : Fin 12288) : S8x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => rfl
theorem emb_rC (t : Fin T) (k : Fin 96) (j : S1x32x128.Idx) :
    (rC t k).emb j = (ix3 ⟨t.val, slab_lt t⟩ (j 1 : Fin 32) (⟨128 * k.val + (j 2).val, by have := k.isLt; have := (j 2).isLt; change (j 2).val < 128 at this; omega⟩ : Fin 12288) : S8x32x12288.Idx) := by
  funext a
  refine Fin.ext ?_
  rw [ValueKit.rect_emb_unit_val]
  have hw := wd_toNat t
  match a with
  | 0 => have := (j 0).isLt; change (j 0).val < 1 at this; change (wd t).toNat + (j 0).val = t.val; omega
  | 1 => exact Nat.zero_add _
  | 2 => rfl
theorem emb_rY (k : Fin 24) (j : S32x512.Idx) :
    (rY k).emb j = (ix2 (j 0 : Fin 32) (⟨512 * k.val + (j 1).val, by have := k.isLt; have := (j 1).isLt; change (j 1).val < 512 at this; omega⟩ : Fin 12288) : S32x12288.Idx) := by
  funext a
  refine Fin.ext ?_
  rw [ValueKit.rect_emb_unit_val]
  match a with
  | 0 => exact Nat.zero_add _
  | 1 => rfl
theorem emb_rB (k : Fin 24) (j : S1x512.Idx) :
    (rB k).emb j = (ix2 (0 : Fin 1) (⟨512 * k.val + (j 1).val, by have := k.isLt; have := (j 1).isLt; change (j 1).val < 512 at this; omega⟩ : Fin 12288) : S1x12288.Idx) := by
  funext a
  refine Fin.ext ?_
  rw [ValueKit.rect_emb_unit_val]
  match a with
  | 0 => have := (j 0).isLt; change (j 0).val < 1 at this; change 0 + (j 0).val = 0; omega
  | 1 => rfl
theorem emb_rL (k : Fin 96) (j : S32x128.Idx) :
    (rL k).emb j = (ix2 (j 0 : Fin 32) (⟨128 * k.val + (j 1).val, by have := k.isLt; have := (j 1).isLt; change (j 1).val < 128 at this; omega⟩ : Fin 12288) : S32x12288.Idx) := by
  funext a
  refine Fin.ext ?_
  rw [ValueKit.rect_emb_unit_val]
  match a with
  | 0 => exact Nat.zero_add _
  | 1 => rfl
theorem emb_rLhs (t : Fin T) (j : S1x32x128.Idx) :
    (rLhs t).emb j = (ix3 ⟨t.val, slab_lt t⟩ (j 1 : Fin 32) (j 2 : Fin 128) : S8x32x128.Idx) := by
  funext a
  refine Fin.ext ?_
  rw [ValueKit.rect_emb_unit_val]
  have ho := congrFun (k0_off7_eq t)
  match a with
  | 0 =>
    have := (j 0).isLt; change (j 0).val < 1 at this
    have h0 : k0_off7 t 0 = t.val := ho 0
    change k0_off7 t 0 + (j 0).val = t.val; omega
  | 1 =>
    have h1 : k0_off7 t 1 = 0 := ho 1
    change k0_off7 t 1 + (j 1).val = (j 1).val; omega
  | 2 =>
    have h2 : k0_off7 t 2 = 0 := ho 2
    change k0_off7 t 2 + (j 2).val = (j 2).val; omega

theorem slabOf_mk (t : Fin T) : slabOf ⟨t.val, slab_lt t⟩ = t := Fin.ext rfl
theorem chunkOf_mk (k : Fin 24) (j : ℕ) (hj : j < 512) (h : 512 * k.val + j < 12288) : chunkOf ⟨512 * k.val + j, h⟩ = k :=
  Fin.ext (by simp only [chunkOf]; omega)
theorem inChunk_mk (k : Fin 24) (j : ℕ) (hj : j < 512) (h : 512 * k.val + j < 12288) : inChunk ⟨512 * k.val + j, h⟩ = ⟨j, hj⟩ :=
  Fin.ext (by simp only [inChunk]; omega)
theorem tileOf_mk (k : Fin 96) (j : ℕ) (hj : j < 128) (h : 128 * k.val + j < 12288) : tileOf ⟨128 * k.val + j, h⟩ = k :=
  Fin.ext (by simp only [tileOf]; omega)
theorem inTile_mk (k : Fin 96) (j : ℕ) (hj : j < 128) (h : 128 * k.val + j < 12288) : inTile ⟨128 * k.val + j, h⟩ = ⟨j, hj⟩ :=
  Fin.ext (by simp only [inTile]; omega)

/-! What is stored at each chunk is what the whole buffer's function says there. -/

section
variable (X0 : Vec F S4x256x12288 .fp8e4m3) (X1 : Vec F S4x2x128 .f32) (X2 : Vec F S1x12288 .f32) (X3 : Vec F S256x12288 .bf16)
  (X4 X5 : Vec F S1x12288 .f32)

theorem ix2_eta {a b : ℕ} (x : Fin a) (y : Fin b) (j : (⟨2, ![a, b]⟩ : Shape).Idx) (h0 : j 0 = x) (h1 : j 1 = y) : ix2 x y = j := by
  funext d
  match d with
  | 0 => exact h0.symm
  | 1 => exact h1.symm
theorem ix3_one_eta {a b : ℕ} (j : (⟨3, ![1, a, b]⟩ : Shape).Idx) : ix3 (⟨0, Nat.one_pos⟩ : Fin 1) (j 1 : Fin a) (j 2 : Fin b) = j := by
  funext d
  match d with
  | 0 => exact Fin.ext (by have := (j 0).isLt; change (j 0).val < 1 at this; change 0 = (j 0).val; omega)
  | 1 => rfl
  | 2 => rfl

theorem DR_emb (t : Fin T) (k : Fin 24) (j : S1x32x512.Idx) :
    DR X0 X1 X2 X3 ((rR t k).emb j) = shapeCast S1x32x512 (residAt X0 X1 X2 X3 t k) shapeCasts_S32x512_S1x32x512 j := by
  conv_rhs => rw [← ix3_one_eta j]
  erw [shapeCast_ab_1ab_apply]
  rw [emb_rR]
  unfold DR
  have h2 : (j 2).val < 512 := (j 2).isLt
  change residAt X0 X1 X2 X3 (slabOf ⟨t.val, slab_lt t⟩) (chunkOf ⟨512 * k.val + (j 2).val, _⟩) (ix2 (j 1) (inChunk ⟨512 * k.val + (j 2).val, _⟩)) = _
  rw [slabOf_mk, chunkOf_mk k _ h2, inChunk_mk k _ h2]
  rfl

theorem DC_emb (t : Fin T) (k : Fin 96) (j : S1x32x128.Idx) :
    DC X0 X1 X2 X3 X4 X5 ((rC t k).emb j) = shapeCast S1x32x128 (codeAt X0 X1 X2 X3 X4 X5 t k) shapeCasts_S32x128_S1x32x128 j := by
  conv_rhs => rw [← ix3_one_eta j]
  erw [shapeCast_ab_1ab_apply]
  rw [emb_rC]
  unfold DC
  have h2 : (j 2).val < 128 := (j 2).isLt
  change codeAt X0 X1 X2 X3 X4 X5 (slabOf ⟨t.val, slab_lt t⟩) (tileOf ⟨128 * k.val + (j 2).val, _⟩) (ix2 (j 1) (inTile ⟨128 * k.val + (j 2).val, _⟩)) = _
  rw [slabOf_mk, tileOf_mk k _ h2, inTile_mk k _ h2]
  rfl

theorem DL_emb (t : Fin T) (j : S1x32x128.Idx) :
    DL X1 ((rLhs t).emb j) = shapeCast S1x32x128 (lhsAt X1 t) shapeCasts_S32x128_S1x32x128 j := by
  conv_rhs => rw [← ix3_one_eta j]
  erw [shapeCast_ab_1ab_apply]
  rw [emb_rLhs]
  unfold DL
  change lhsAt X1 (slabOf ⟨t.val, slab_lt t⟩) (ix2 (j 1) (j 2)) = _
  rw [slabOf_mk]

theorem DY_emb (t : Fin T) (k : Fin 24) (j : S32x512.Idx) :
    DY X0 X1 X2 X3 X4 X5 t ((rY k).emb j) = shapeCast S32x512 (normAt X0 X1 X2 X3 X4 X5 t k) shapeCasts_S32x512_S32x512 j := by
  rw [shapeCast_self, emb_rY]
  unfold DY
  have h2 : (j 1).val < 512 := (j 1).isLt
  change normAt X0 X1 X2 X3 X4 X5 t (chunkOf ⟨512 * k.val + (j 1).val, _⟩) (ix2 (j 0) (inChunk ⟨512 * k.val + (j 1).val, _⟩)) = _
  rw [chunkOf_mk k _ h2, inChunk_mk k _ h2]
  congr 1
  exact ix2_eta _ _ j rfl rfl

end

end Cert.KernelIdeal.Hand

end
-- ==== Proof.Ideal.Chunks.lean ====
/-
  What one chunk of each walk does, by the parts of the buffers it holds: by an
  invariant over the chunks done, each at the value the whole buffer has there.
-/
module

public import proofs.«01_k».proof.Proof.Ideal.Values
public import Idealize.ShloMosaic.Lib.Pipeline.FrameBody

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F] [Named F]

local notation "𝕄" => MT nD τ sig Unit (Elt F) ℕ (Pipeline.UD sig nD τ) ℕ

/-- The first `n` columns from `D`, the others from `d`: a buffer that a walk has reached column `n` of. -/
def over {s : Shape} {e : EltTy} (key : s.Idx → ℕ) (n : ℕ) (D d : Vec F s e) : Vec F s e := fun i => if key i < n then D i else d i

theorem over_zero {s : Shape} {e : EltTy} (key : s.Idx → ℕ) (D d : Vec F s e) : over key 0 D d = d :=
  funext fun i => if_neg (Nat.not_lt_zero _)
theorem over_all {s : Shape} {e : EltTy} (key : s.Idx → ℕ) (n : ℕ) (D d : Vec F s e) (h : ∀ i, key i < n) : over key n D d = D :=
  funext fun i => if_pos (h i)

/-- The column of an element of a slabbed buffer; of the normalised rows. -/
def col3 (i : S8x32x12288.Idx) : ℕ := (i 2).val
def col2 (i : S32x12288.Idx) : ℕ := (i 1).val
theorem col3_lt (i : S8x32x12288.Idx) : col3 i < 12288 := (i 2).isLt
theorem col2_lt (i : S32x12288.Idx) : col2 i < 12288 := (i 1).isLt

theorem over_rR_on (D d : Vec F S8x32x12288 .bf16) (t : Fin T) (k : Fin 24) (j : S1x32x512.Idx) :
    over col3 (512 * (k.val + 1)) D d ((rR t k).emb j) = D ((rR t k).emb j) := by
  refine if_pos ?_
  have h2 : (j 2).val < 512 := (j 2).isLt
  rw [emb_rR]
  change 512 * k.val + (j 2).val < _
  omega
theorem over_rR_off (D d : Vec F S8x32x12288 .bf16) (t : Fin T) (k : Fin 24) (i : S8x32x12288.Idx) (hi : i ∈ slot t) (hr : i ∉ (rR t k).set) :
    over col3 (512 * (k.val + 1)) D d i = over col3 (512 * k.val) D d i := by
  have h0 := (mem_slot t i).mp hi
  have hn : ¬ (512 * k.val ≤ (i 2).val ∧ (i 2).val < 512 * k.val + 512) := fun h => hr ((mem_rR t k i).mpr ⟨h0, h.1, h.2⟩)
  unfold over col3
  by_cases h : (i 2).val < 512 * k.val
  · rw [if_pos h, if_pos (by omega)]
  · rw [if_neg h, if_neg (by omega)]
theorem over_rC_on (D d : Vec F S8x32x12288 .fp8e4m3) (t : Fin T) (k : Fin 96) (j : S1x32x128.Idx) :
    over col3 (128 * (k.val + 1)) D d ((rC t k).emb j) = D ((rC t k).emb j) := by
  refine if_pos ?_
  have h2 : (j 2).val < 128 := (j 2).isLt
  rw [emb_rC]
  change 128 * k.val + (j 2).val < _
  omega
theorem over_rC_off (D d : Vec F S8x32x12288 .fp8e4m3) (t : Fin T) (k : Fin 96) (i : S8x32x12288.Idx) (hi : i ∈ slot t) (hr : i ∉ (rC t k).set) :
    over col3 (128 * (k.val + 1)) D d i = over col3 (128 * k.val) D d i := by
  have h0 := (mem_slot t i).mp hi
  have hn : ¬ (128 * k.val ≤ (i 2).val ∧ (i 2).val < 128 * k.val + 128) := fun h => hr ((mem_rC t k i).mpr ⟨h0, h.1, h.2⟩)
  unfold over col3
  by_cases h : (i 2).val < 128 * k.val
  · rw [if_pos h, if_pos (by omega)]
  · rw [if_neg h, if_neg (by omega)]
theorem over_rY_on (D d : Vec F S32x12288 .f32) (k : Fin 24) (j : S32x512.Idx) :
    over col2 (512 * (k.val + 1)) D d ((rY k).emb j) = D ((rY k).emb j) := by
  refine if_pos ?_
  have h2 : (j 1).val < 512 := (j 1).isLt
  rw [emb_rY]
  change 512 * k.val + (j 1).val < _
  omega
theorem over_rY_off (D d : Vec F S32x12288 .f32) (k : Fin 24) (i : S32x12288.Idx) (hr : i ∉ (rY k).set) :
    over col2 (512 * (k.val + 1)) D d i = over col2 (512 * k.val) D d i := by
  have hn : ¬ (512 * k.val ≤ (i 1).val ∧ (i 1).val < 512 * k.val + 512) := fun h => hr ((mem_rY k i).mpr h)
  unfold over col2
  by_cases h : (i 1).val < 512 * k.val
  · rw [if_pos h, if_pos (by omega)]
  · rw [if_neg h, if_neg (by omega)]

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD) (t : Fin T) (q : PosShare TreeShare) (d11 : Vec F S8x32x12288 .bf16) (d12 : Vec F S8x32x12288 .fp8e4m3) (d13 : Vec F S32x12288 .f32)

theorem sumAcc_succ (k : Fin 24) : sumAcc X0 X1 X2 X3 t (k.val + 1)
    = fold4 addf (sumAcc X0 X1 X2 X3 t k.val) (extf .f32 (residAt X0 X1 X2 X3 t k) bitsLt_bf16_f32) := by
  unfold sumAcc
  rw [upto_succ]
theorem sqAcc_succ (k : Fin 24) : sqAcc X0 X1 X2 X3 t (k.val + 1)
    = fold4 addf (sqAcc X0 X1 X2 X3 t k.val) (sqOf (muAt X0 X1 X2 X3 t) (fun j => DR X0 X1 X2 X3 ((rR t k).emb j))) := by
  unfold sqAcc
  rw [upto_succ]
theorem maxAcc_succ (k : Fin 24) : maxAcc X0 X1 X2 X3 X4 X5 t (k.val + 1)
    = fold4 maximumf (maxAcc X0 X1 X2 X3 X4 X5 t k.val) (absf (normAt X0 X1 X2 X3 X4 X5 t k)) := by
  unfold maxAcc
  rw [upto_succ]

/-! ## The chunks -/

def sumI (k : ℕ) (acc : FVec F S32x128 .f32) : sProp 𝕄 :=
  iprop(⌜acc = sumAcc X0 X1 X2 X3 t k⌝ ∗ part (c : Thread nD τ) arg9 (slotP t) fullShare (DP X0) ∗ part (c : Thread nD τ) arg16 Finset.univ fullShare X2
    ∗ part (c : Thread nD τ) arg10 (slot t) fullShare (DX X3) ∗ part (c : Thread nD τ) arg11 (slot t) fullShare (over col3 (512 * k) (DR X0 X1 X2 X3) d11))

theorem sumChunk_run (k : Fin 24) (acc : FVec F S32x128 .f32) :
    sumI arg9 arg10 arg11 arg16 X0 X1 X2 X3 c t d11 k.val acc
      ⊢ wp frame (wpE (defs₀ (F := F)) Variants.none c none) Set.univ
          (sumChunk arg9 arg10 arg11 harg11 arg16 t (fun j => DL X1 ((rLhs t).emb j)) k acc)
          (sumI arg9 arg10 arg11 arg16 X0 X1 X2 X3 c t d11 (k.val + 1)) := by
  unfold sumI sumChunk
  simp only [Prog.bind_lift, Prog.pure_eq_ret]
  iintro ⟨%ha, HP, HB, HX, HR⟩
  iapply (wp_loadPart Variants.none (c : Thread nD τ) none (rP_sub t k)) $$ HP
  iintro HP
  iapply (wp_loadPart Variants.none (c : Thread nD τ) none (Finset.subset_univ _)) $$ HB
  iintro HB
  iapply (wp_loadPart Variants.none (c : Thread nD τ) none (rR_sub t k)) $$ HX
  iintro HX
  iapply (wp_loadPart Variants.none (c : Thread nD τ) none (rR_sub t k)) $$ HR
  iintro HR
  iapply (wp_storePart Variants.none (c : Thread nD τ) none (Y := over col3 (512 * (k.val + 1)) (DR X0 X1 X2 X3) d11) (rR_sub t k)
    (fun j => (over_rR_on _ _ t k j).trans (DR_emb X0 X1 X2 X3 t k j)) (over_rR_off _ _ t k)) $$ HR
  iintro HR
  iapply (le_wp_ret frame (wpE (defs₀ (F := F)) Variants.none c none) Set.univ _ _)
  isplitr
  · ipureintro
    rw [ha]
    exact (sumAcc_succ X0 X1 X2 X3 t k).symm
  isplitl [HP]; · iexact HP
  isplitl [HB]; · iexact HB
  isplitl [HX]; · iexact HX
  iexact HR

def sqI (k : ℕ) (acc : FVec F S32x128 .f32) : sProp 𝕄 :=
  iprop(⌜acc = sqAcc X0 X1 X2 X3 t k⌝ ∗ part (c : Thread nD τ) arg11 (slot t) q (DR X0 X1 X2 X3))

theorem sqChunk_run (k : Fin 24) (acc : FVec F S32x128 .f32) :
    sqI arg11 X0 X1 X2 X3 c t q k.val acc
      ⊢ wp frame (wpE (defs₀ (F := F)) Variants.none c none) Set.univ (sqChunk arg11 t (muAt X0 X1 X2 X3 t) k acc)
          (sqI arg11 X0 X1 X2 X3 c t q (k.val + 1)) := by
  unfold sqI sqChunk
  simp only [Prog.bind_lift, Prog.pure_eq_ret]
  iintro ⟨%ha, HR⟩
  iapply (wp_loadPart Variants.none (c : Thread nD τ) none (rR_sub t k)) $$ HR
  iintro HR
  iapply (le_wp_ret frame (wpE (defs₀ (F := F)) Variants.none c none) Set.univ _ _)
  isplitr
  · ipureintro
    rw [ha]
    exact (sqAcc_succ X0 X1 X2 X3 t k).symm
  iexact HR

def normI (k : ℕ) (acc : FVec F S32x128 .f32) : sProp 𝕄 :=
  iprop(⌜acc = maxAcc X0 X1 X2 X3 X4 X5 t k⌝ ∗ part (c : Thread nD τ) arg11 (slot t) q (DR X0 X1 X2 X3)
    ∗ part (c : Thread nD τ) arg17 Finset.univ fullShare X4 ∗ part (c : Thread nD τ) arg18 Finset.univ fullShare X5
    ∗ part (c : Thread nD τ) arg13 Finset.univ fullShare (over col2 (512 * k) (DY X0 X1 X2 X3 X4 X5 t) d13))

theorem normChunk_run (k : Fin 24) (acc : FVec F S32x128 .f32) :
    normI arg11 arg13 arg17 arg18 X0 X1 X2 X3 X4 X5 c t q d13 k.val acc
      ⊢ wp frame (wpE (defs₀ (F := F)) Variants.none c none) Set.univ
          (normChunk arg11 arg13 arg17 arg18 t (muAt X0 X1 X2 X3 t) (rsAt X0 X1 X2 X3 t) k acc)
          (normI arg11 arg13 arg17 arg18 X0 X1 X2 X3 X4 X5 c t q d13 (k.val + 1)) := by
  unfold normI normChunk
  simp only [Prog.bind_lift, Prog.pure_eq_ret]
  iintro ⟨%ha, HR, HG, HB, HY⟩
  iapply (wp_loadPart Variants.none (c : Thread nD τ) none (rR_sub t k)) $$ HR
  iintro HR
  iapply (wp_loadPart Variants.none (c : Thread nD τ) none (Finset.subset_univ _)) $$ HG
  iintro HG
  iapply (wp_loadPart Variants.none (c : Thread nD τ) none (Finset.subset_univ _)) $$ HB
  iintro HB
  iapply (wp_loadPart Variants.none (c : Thread nD τ) none (Finset.subset_univ _)) $$ HY
  iintro HY
  iapply (wp_storePart Variants.none (c : Thread nD τ) none (Y := over col2 (512 * (k.val + 1)) (DY X0 X1 X2 X3 X4 X5 t) d13) (Finset.subset_univ _)
    (fun j => (over_rY_on _ _ k j).trans (DY_emb X0 X1 X2 X3 X4 X5 t k j)) (fun i _ h => over_rY_off _ _ k i h)) $$ HY
  iintro HY
  iapply (le_wp_ret frame (wpE (defs₀ (F := F)) Variants.none c none) Set.univ _ _)
  isplitr
  · ipureintro
    rw [ha]
    exact (maxAcc_succ X0 X1 X2 X3 X4 X5 t k).symm
  isplitl [HR]; · iexact HR
  isplitl [HG]; · iexact HG
  isplitl [HB]; · iexact HB
  iexact HY

def codeI (k : ℕ) (_ : PUnit.{1}) : sProp 𝕄 :=
  iprop(part (c : Thread nD τ) arg13 Finset.univ fullShare (DY X0 X1 X2 X3 X4 X5 t)
    ∗ part (c : Thread nD τ) arg12 (slot t) fullShare (over col3 (128 * k) (DC X0 X1 X2 X3 X4 X5) d12))

theorem codeTile_run (k : Fin 96) (u : PUnit.{1}) :
    codeI arg12 arg13 X0 X1 X2 X3 X4 X5 c t d12 k.val u
      ⊢ wp frame (wpE (defs₀ (F := F)) Variants.none c none) Set.univ
          (codeTile arg12 harg12 arg13 t (invOf (amAt X0 X1 X2 X3 X4 X5 t)) k u)
          (codeI arg12 arg13 X0 X1 X2 X3 X4 X5 c t d12 (k.val + 1)) := by
  unfold codeI codeTile
  simp only [Prog.bind_lift]
  unfold Prog.lift
  iintro ⟨HY, HC⟩
  iapply (wp_loadPart Variants.none (c : Thread nD τ) none (Finset.subset_univ _)) $$ HY
  iintro HY
  iapply (wp_loadPart Variants.none (c : Thread nD τ) none (rC_sub t k)) $$ HC
  iintro HC
  iapply (wp_storePart Variants.none (c : Thread nD τ) none (Y := over col3 (128 * (k.val + 1)) (DC X0 X1 X2 X3 X4 X5) d12) (rC_sub t k)
    (fun j => (over_rC_on _ _ t k j).trans (DC_emb X0 X1 X2 X3 X4 X5 t k j)) (over_rC_off _ _ t k)) $$ HC
  iintro HC
  iapply (le_wp_ret frame (wpE (defs₀ (F := F)) Variants.none c none) Set.univ _ _)
  isplitl [HY]; · iexact HY
  iexact HC

end

end Cert.KernelIdeal.Hand

end
-- ==== Proof.Ideal.TripRun.lean ====
/-
  What one trip of the loop does, by the parts of the buffers it holds: it waits for its slab's two copies in, runs the
  four walks, and starts its slab's two copies out.
-/
module

public import proofs.«01_k».proof.Proof.Ideal.Chunks
public import Idealize.ShloMosaic.Lib.Pipeline.FrameBody

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F] [Named F]

local notation "𝕄" => MT nD τ sig Unit (Elt F) ℕ (Pipeline.UD sig nD τ) ℕ

abbrev EC : UEmb Counters 𝕄 := countersEmb (U := Pipeline.UD sig nD τ)

/-! ## A slab's part and its squeezed slice -/

section
variable {c : Thread nD τ} {sp : Space} {sh s' : Shape} {e : EltTy} {m : Memref sig c.2.kind sp sh e} {r : Rect sh} {hr : ∀ a, r.stride a = 1}
  {h : r.shape.Squeezes s'} {q : PosShare TreeShare}

theorem slab_in {X : sh.Idx → Elt F e} :
    (part c m r.set q X : sProp 𝕄) ⊢ owns c ((m.slice r hr).squeeze s' h) q (fun i => X (r.emb (Shape.reshapeEquiv h.numel_eq i))) :=
  owns_slice_of_part.trans owns_squeeze

theorem slab_out {X : sh.Idx → Elt F e} {Y : s'.Idx → Elt F e} (hY : ∀ i, Y i = X (r.emb (Shape.reshapeEquiv h.numel_eq i))) :
    (owns c ((m.slice r hr).squeeze s' h) q Y : sProp 𝕄) ⊢ part c m r.set q X :=
  owns_of_squeeze.trans (part_of_owns_slice fun j => (hY _).trans (by rw [Equiv.apply_symm_apply]))
end

/-! ## Where a slab's slot and its rows lie -/

theorem emb_slotP (t : Fin T) (i : S4x32x12288.Idx) :
    (Rect.unit (s := S8x4x32x12288) (k0_off2 t) S1x4x32x12288.size (k0_off2_inb t)).emb (Shape.reshapeEquiv squeezes_S1x4x32x12288_S4x32x12288.numel_eq i)
      = (ix4 ⟨t.val, slab_lt t⟩ (i 0 : Fin 4) (i 1 : Fin 32) (i 2 : Fin 12288) : S8x4x32x12288.Idx) := by
  rw [Shape.reshapeEquiv_cons_one]
  funext a
  refine Fin.ext ?_
  rw [ValueKit.rect_emb_unit_val]
  have ho := congrFun (k0_off2_eq t)
  match a with
  | 0 => have h : k0_off2 t 0 = t.val := ho 0; change k0_off2 t 0 + 0 = t.val; omega
  | 1 => have h : k0_off2 t 1 = 0 := ho 1; change k0_off2 t 1 + (i 0).val = (i 0).val; omega
  | 2 => have h : k0_off2 t 2 = 0 := ho 2; change k0_off2 t 2 + (i 1).val = (i 1).val; omega
  | 3 => have h : k0_off2 t 3 = 0 := ho 3; change k0_off2 t 3 + (i 2).val = (i 2).val; omega
theorem emb_slot (t : Fin T) (i : S32x12288.Idx) :
    (Rect.unit (s := S8x32x12288) (k0_off5 t) S1x32x12288.size (k0_off5_inb t)).emb (Shape.reshapeEquiv squeezes_S1x32x12288_S32x12288.numel_eq i)
      = (ix3 ⟨t.val, slab_lt t⟩ (i 0 : Fin 32) (i 1 : Fin 12288) : S8x32x12288.Idx) := by
  rw [Shape.reshapeEquiv_cons_one]
  funext a
  refine Fin.ext ?_
  rw [ValueKit.rect_emb_unit_val]
  have ho := congrFun (k0_off5_eq t)
  match a with
  | 0 => have h : k0_off5 t 0 = t.val := ho 0; change k0_off5 t 0 + 0 = t.val; omega
  | 1 => have h : k0_off5 t 1 = 0 := ho 1; change k0_off5 t 1 + (i 0).val = (i 0).val; omega
  | 2 => have h : k0_off5 t 2 = 0 := ho 2; change k0_off5 t 2 + (i 1).val = (i 1).val; omega
theorem emb_rows3 (t : Fin T) (i : S4x32x12288.Idx) :
    (Rect.unit (s := S4x256x12288) (k0_off3 t) S4x32x12288.size (k0_off3_inb t)).emb i
      = (ix3 (i 0 : Fin 4) (rowOf ⟨t.val, slab_lt t⟩ (i 1)) (i 2 : Fin 12288) : S4x256x12288.Idx) := by
  funext a
  refine Fin.ext ?_
  rw [ValueKit.rect_emb_unit_val]
  have ho := congrFun (k0_off3_eq t)
  match a with
  | 0 => have h : k0_off3 t 0 = 0 := ho 0; change k0_off3 t 0 + (i 0).val = (i 0).val; omega
  | 1 => have h : k0_off3 t 1 = 32 * t.val := ho 1; change k0_off3 t 1 + (i 1).val = 32 * t.val + (i 1).val; omega
  | 2 => have h : k0_off3 t 2 = 0 := ho 2; change k0_off3 t 2 + (i 2).val = (i 2).val; omega
theorem emb_rows (t : Fin T) (i : S32x12288.Idx) :
    (Rect.unit (s := S256x12288) (k0_off6 t) S32x12288.size (k0_off6_inb t)).emb i
      = (ix2 (rowOf ⟨t.val, slab_lt t⟩ (i 0)) (i 1 : Fin 12288) : S256x12288.Idx) := by
  funext a
  refine Fin.ext ?_
  rw [ValueKit.rect_emb_unit_val]
  have ho := congrFun (k0_off6_eq t)
  match a with
  | 0 => have h : k0_off6 t 0 = 32 * t.val := ho 0; change k0_off6 t 0 + (i 0).val = 32 * t.val + (i 0).val; omega
  | 1 => have h : k0_off6 t 1 = 0 := ho 1; change k0_off6 t 1 + (i 1).val = (i 1).val; omega
theorem mem_rYs (i : S2x128.Idx) : i ∈ rYs.set := by
  rw [Rect.mem_set_unit]
  intro a
  match a with
  | 0 => exact ⟨Nat.zero_le _, lt_of_lt_of_eq (i 0).isLt (Nat.zero_add _).symm⟩
  | 1 => exact ⟨Nat.zero_le _, lt_of_lt_of_eq (i 1).isLt (Nat.zero_add _).symm⟩
theorem emb_rYs (j : S2x128.Idx) : rYs.emb j = (j : S2x128.Idx) := by
  funext a
  refine Fin.ext ?_
  rw [ValueKit.rect_emb_unit_val]
  match a with
  | 0 => exact Nat.zero_add _
  | 1 => exact Nat.zero_add _

section
variable (X0 : Vec F S4x256x12288 .fp8e4m3) (X1 : Vec F S4x2x128 .f32) (X2 : Vec F S1x12288 .f32) (X3 : Vec F S256x12288 .bf16)
  (X4 X5 : Vec F S1x12288 .f32) (t : Fin T)

theorem DP_slab (i : S4x32x12288.Idx) : X0 ((Rect.unit (s := S4x256x12288) (k0_off3 t) S4x32x12288.size (k0_off3_inb t)).emb i)
    = DP X0 ((Rect.unit (s := S8x4x32x12288) (k0_off2 t) S1x4x32x12288.size (k0_off2_inb t)).emb (Shape.reshapeEquiv squeezes_S1x4x32x12288_S4x32x12288.numel_eq i)) := by
  rw [emb_rows3, emb_slotP]; rfl
theorem DX_slab (i : S32x12288.Idx) : X3 ((Rect.unit (s := S256x12288) (k0_off6 t) S32x12288.size (k0_off6_inb t)).emb i)
    = DX X3 ((Rect.unit (s := S8x32x12288) (k0_off5 t) S1x32x12288.size (k0_off5_inb t)).emb (Shape.reshapeEquiv squeezes_S1x32x12288_S32x12288.numel_eq i)) := by
  rw [emb_rows, emb_slot]; rfl
theorem outR_slab (i : S32x12288.Idx) : DR X0 X1 X2 X3 ((Rect.unit (s := S8x32x12288) (k0_off5 t) S1x32x12288.size (k0_off5_inb t)).emb (Shape.reshapeEquiv squeezes_S1x32x12288_S32x12288.numel_eq i))
    = outR X0 X1 X2 X3 ((Rect.unit (s := S256x12288) (k0_off6 t) S32x12288.size (k0_off6_inb t)).emb i) := by
  rw [emb_rows, emb_slot]
  unfold outR
  exact congrArg₂ (fun a b => DR X0 X1 X2 X3 (ix3 a b (i 1 : Fin 12288))) (inSlab_rowOf _ _).symm (inRow_rowOf _ _).symm
theorem outC_slab (i : S32x12288.Idx) : DC X0 X1 X2 X3 X4 X5 ((Rect.unit (s := S8x32x12288) (k0_off5 t) S1x32x12288.size (k0_off5_inb t)).emb (Shape.reshapeEquiv squeezes_S1x32x12288_S32x12288.numel_eq i))
    = outC X0 X1 X2 X3 X4 X5 ((Rect.unit (s := S256x12288) (k0_off6 t) S32x12288.size (k0_off6_inb t)).emb i) := by
  rw [emb_rows, emb_slot]
  unfold outC
  exact congrArg₂ (fun a b => DC X0 X1 X2 X3 X4 X5 (ix3 a b (i 1 : Fin 12288))) (inSlab_rowOf _ _).symm (inRow_rowOf _ _).symm
theorem DS_succ : DS X0 X1 X2 X3 X4 X5 (t.val + 1) = scaleStep X0 X1 X2 X3 X4 X5 t (DS X0 X1 X2 X3 X4 X5 t.val) := by
  unfold DS
  rw [upto_succ]
end

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD) (t : Fin T)

/-! ## The four copies of a slab, in flight -/

def flyP : sProp 𝕄 := Flight EC (c : Thread nD τ) (.dma (cellP arg19 t)) () (slabP arg9 t).view.dmaCredit
  iprop(part (c : Thread nD τ) arg9 (slotP t) fullShare (DP X0) ∗ part (c : Thread nD τ) arg0 (rows3 t) fullShare X0)
def flyX : sProp 𝕄 := Flight EC (c : Thread nD τ) (.dma (cellX arg19 t)) () (slabX arg10 t).view.dmaCredit
  iprop(part (c : Thread nD τ) arg10 (slot t) fullShare (DX X3) ∗ part (c : Thread nD τ) arg3 (rows t) fullShare X3)
def flyR : sProp 𝕄 := Flight EC (c : Thread nD τ) (.dma (cellR arg21 t)) () (rowsR arg6 t).view.dmaCredit
  iprop(part (c : Thread nD τ) arg6 (rows t) fullShare (outR X0 X1 X2 X3) ∗ part (c : Thread nD τ) arg11 (slot t) fullShare.left (DR X0 X1 X2 X3))
def flyC : sProp 𝕄 := Flight EC (c : Thread nD τ) (.dma (cellC arg22 t)) () (rowsC arg7 t).view.dmaCredit
  iprop(part (c : Thread nD τ) arg7 (rows t) fullShare (outC X0 X1 X2 X3 X4 X5) ∗ part (c : Thread nD τ) arg12 (slot t) fullShare (DC X0 X1 X2 X3 X4 X5))

theorem S4x32x12288_pos : 0 < S4x32x12288.numel := by decide
theorem S32x12288_pos : 0 < S32x12288.numel := by decide

section

theorem startP_run {α : Type} {Q : α → sProp 𝕄} {hsrc : (rowsP arg0 t).view.WordExact} {hdst : (slabP arg9 t).view.WordExact} {hsem : DmaTarget.Typed (nD := nD) (τ := τ) (p := .tc) .hbm (.dma (cellP arg19 t)) (.here (slabP arg9 t))}
    {k : PUnit → Prog (TpuEff nD τ sig (Elt F) Λ₀ .tc) α} {d : Vec F S8x4x32x12288 .fp8e4m3} :
    iprop(part (c : Thread nD τ) arg0 (rows3 t) fullShare X0 ∗ part (c : Thread nD τ) arg9 (slotP t) fullShare d ∗ semVal ((c : Thread nD τ), .dma (cellP arg19 t)) 0)
      ⊢ iprop((flyP arg0 arg9 arg19 X0 c t -∗ wp frame (wpE (defs₀ (F := F)) Variants.none c none) Set.univ (k ⟨⟩) Q)
        -∗ wp frame (wpE (defs₀ (F := F)) Variants.none c none) Set.univ (.op (.enqueueDma (rowsP arg0 t) (.here (slabP arg9 t)) (.dma (cellP arg19 t)) hsrc hdst hsem) k) Q) := by
  unfold flyP rows3 slotP
  have e0 : (part (c : Thread nD τ) arg0 (Rect.unit (s := S4x256x12288) (k0_off3 t) S4x32x12288.size (k0_off3_inb t)).set fullShare X0 : sProp 𝕄) ⊢ owns (c : Thread nD τ) (rowsP arg0 t) fullShare (fun j => X0 ((Rect.unit (s := S4x256x12288) (k0_off3 t) S4x32x12288.size (k0_off3_inb t)).emb j)) := owns_slice_of_part
  have e9 : (part (c : Thread nD τ) arg9 (Rect.unit (s := S8x4x32x12288) (k0_off2 t) S1x4x32x12288.size (k0_off2_inb t)).set fullShare d : sProp 𝕄) ⊢ owns (c : Thread nD τ) (slabP arg9 t) fullShare (fun j => d ((Rect.unit (s := S8x4x32x12288) (k0_off2 t) S1x4x32x12288.size (k0_off2_inb t)).emb (Shape.reshapeEquiv squeezes_S1x4x32x12288_S4x32x12288.numel_eq j))) := slab_in
  iintro ⟨H0, H9, Hs⟩ Hk
  ihave H0 := e0 $$ H0
  ihave H9 := e9 $$ H9
  iapply (wp_startCopy Variants.none (c : Thread nD τ) none EC () S4x32x12288_pos) $$ [H0 H9 Hs]
  · isplitl [H0]; · iexact H0
    isplitl [H9]; · iexact H9
    iexact Hs
  iintro HF
  iapply Hk
  refine Flight_mono EC (c : Thread nD τ) ?_
  exact BIClass.sep_mono (slab_out (DP_slab X0 t)) (part_of_owns_slice fun _ => rfl)

theorem startX_run {α : Type} {Q : α → sProp 𝕄} {hsrc : (rowsX arg3 t).view.WordExact} {hdst : (slabX arg10 t).view.WordExact} {hsem : DmaTarget.Typed (nD := nD) (τ := τ) (p := .tc) .hbm (.dma (cellX arg19 t)) (.here (slabX arg10 t))}
    {k : PUnit → Prog (TpuEff nD τ sig (Elt F) Λ₀ .tc) α} {d : Vec F S8x32x12288 .bf16} :
    iprop(part (c : Thread nD τ) arg3 (rows t) fullShare X3 ∗ part (c : Thread nD τ) arg10 (slot t) fullShare d ∗ semVal ((c : Thread nD τ), .dma (cellX arg19 t)) 0)
      ⊢ iprop((flyX arg3 arg10 arg19 X3 c t -∗ wp frame (wpE (defs₀ (F := F)) Variants.none c none) Set.univ (k ⟨⟩) Q)
        -∗ wp frame (wpE (defs₀ (F := F)) Variants.none c none) Set.univ (.op (.enqueueDma (rowsX arg3 t) (.here (slabX arg10 t)) (.dma (cellX arg19 t)) hsrc hdst hsem) k) Q) := by
  unfold flyX rows slot
  have e0 : (part (c : Thread nD τ) arg3 (Rect.unit (s := S256x12288) (k0_off6 t) S32x12288.size (k0_off6_inb t)).set fullShare X3 : sProp 𝕄) ⊢ owns (c : Thread nD τ) (rowsX arg3 t) fullShare (fun j => X3 ((Rect.unit (s := S256x12288) (k0_off6 t) S32x12288.size (k0_off6_inb t)).emb j)) := owns_slice_of_part
  have e9 : (part (c : Thread nD τ) arg10 (Rect.unit (s := S8x32x12288) (k0_off5 t) S1x32x12288.size (k0_off5_inb t)).set fullShare d : sProp 𝕄) ⊢ owns (c : Thread nD τ) (slabX arg10 t) fullShare (fun j => d ((Rect.unit (s := S8x32x12288) (k0_off5 t) S1x32x12288.size (k0_off5_inb t)).emb (Shape.reshapeEquiv squeezes_S1x32x12288_S32x12288.numel_eq j))) := slab_in
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (slab_out (DX_slab X3 t)) (part_of_owns_slice fun _ => rfl)

theorem startR_run {α : Type} {Q : α → sProp 𝕄} {hsrc : (slabR arg11 t).view.WordExact} {hdst : (rowsR arg6 t).view.WordExact} {hsem : DmaTarget.Typed (nD := nD) (τ := τ) (p := .tc) .vmem (.dma (cellR arg21 t)) (.here (rowsR arg6 t))}
    {k : PUnit → Prog (TpuEff nD τ sig (Elt F) Λ₀ .tc) α} {d : Vec F S256x12288 .bf16} :
    iprop(part (c : Thread nD τ) arg11 (slot t) fullShare.left (DR X0 X1 X2 X3) ∗ part (c : Thread nD τ) arg6 (rows t) fullShare d ∗ semVal ((c : Thread nD τ), .dma (cellR arg21 t)) 0)
      ⊢ iprop((flyR arg6 arg11 arg21 X0 X1 X2 X3 c t -∗ wp frame (wpE (defs₀ (F := F)) Variants.none c none) Set.univ (k ⟨⟩) Q)
        -∗ wp frame (wpE (defs₀ (F := F)) Variants.none c none) Set.univ (.op (.enqueueDma (slabR arg11 t) (.here (rowsR arg6 t)) (.dma (cellR arg21 t)) hsrc hdst hsem) k) Q) := by
  unfold flyR rows slot
  have e0 : (part (c : Thread nD τ) arg11 (Rect.unit (s := S8x32x12288) (k0_off5 t) S1x32x12288.size (k0_off5_inb t)).set fullShare.left (DR X0 X1 X2 X3) : sProp 𝕄) ⊢ owns (c : Thread nD τ) (slabR arg11 t) fullShare.left (fun j => (DR X0 X1 X2 X3) ((Rect.unit (s := S8x32x12288) (k0_off5 t) S1x32x12288.size (k0_off5_inb t)).emb (Shape.reshapeEquiv squeezes_S1x32x12288_S32x12288.numel_eq j))) := slab_in
  have e9 : (part (c : Thread nD τ) arg6 (Rect.unit (s := S256x12288) (k0_off6 t) S32x12288.size (k0_off6_inb t)).set fullShare d : sProp 𝕄) ⊢ owns (c : Thread nD τ) (rowsR arg6 t) fullShare (fun j => d ((Rect.unit (s := S256x12288) (k0_off6 t) S32x12288.size (k0_off6_inb t)).emb j)) := owns_slice_of_part
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (part_of_owns_slice (outR_slab X0 X1 X2 X3 t)) (slab_out fun _ => rfl)

theorem startC_run {α : Type} {Q : α → sProp 𝕄} {hsrc : (slabC arg12 t).view.WordExact} {hdst : (rowsC arg7 t).view.WordExact} {hsem : DmaTarget.Typed (nD := nD) (τ := τ) (p := .tc) .vmem (.dma (cellC arg22 t)) (.here (rowsC arg7 t))}
    {k : PUnit → Prog (TpuEff nD τ sig (Elt F) Λ₀ .tc) α} {d : Vec F S256x12288 .fp8e4m3} :
    iprop(part (c : Thread nD τ) arg12 (slot t) fullShare (DC X0 X1 X2 X3 X4 X5) ∗ part (c : Thread nD τ) arg7 (rows t) fullShare d ∗ semVal ((c : Thread nD τ), .dma (cellC arg22 t)) 0)
      ⊢ iprop((flyC arg7 arg12 arg22 X0 X1 X2 X3 X4 X5 c t -∗ wp frame (wpE (defs₀ (F := F)) Variants.none c none) Set.univ (k ⟨⟩) Q)
        -∗ wp frame (wpE (defs₀ (F := F)) Variants.none c none) Set.univ (.op (.enqueueDma (slabC arg12 t) (.here (rowsC arg7 t)) (.dma (cellC arg22 t)) hsrc hdst hsem) k) Q) := by
  unfold flyC rows slot
  have e0 : (part (c : Thread nD τ) arg12 (Rect.unit (s := S8x32x12288) (k0_off5 t) S1x32x12288.size (k0_off5_inb t)).set fullShare (DC X0 X1 X2 X3 X4 X5) : sProp 𝕄) ⊢ owns (c : Thread nD τ) (slabC arg12 t) fullShare (fun j => (DC X0 X1 X2 X3 X4 X5) ((Rect.unit (s := S8x32x12288) (k0_off5 t) S1x32x12288.size (k0_off5_inb t)).emb (Shape.reshapeEquiv squeezes_S1x32x12288_S32x12288.numel_eq j))) := slab_in
  have e9 : (part (c : Thread nD τ) arg7 (Rect.unit (s := S256x12288) (k0_off6 t) S32x12288.size (k0_off6_inb t)).set fullShare d : sProp 𝕄) ⊢ owns (c : Thread nD τ) (rowsC arg7 t) fullShare (fun j => d ((Rect.unit (s := S256x12288) (k0_off6 t) S32x12288.size (k0_off6_inb t)).emb j)) := owns_slice_of_part
  iintro ⟨H0, H9, Hs⟩ Hk
  ihave H0 := e0 $$ H0
  ihave H9 := e9 $$ H9
  iapply (wp_startCopy Variants.none (c : Thread nD τ) none EC () S32x12288_pos) $$ [H0 H9 Hs]
  · isplitl [H0]; · iexact H0
    isplitl [H9]; · iexact H9
    iexact Hs
  iintro HF
  iapply Hk
  refine Flight_mono EC (c : Thread nD τ) ?_
  exact BIClass.sep_mono (part_of_owns_slice (outC_slab X0 X1 X2 X3 X4 X5 t)) (slab_out fun _ => rfl)

end

/-! ## The trip -/

/-- A slab before its trip: its copies in on their way, room for its residual and its codes, in the kernel's buffers and in the
    results, and its two cells for the copies out. -/
def ready : sProp 𝕄 :=
  iprop(flyP arg0 arg9 arg19 X0 c t ∗ flyX arg3 arg10 arg19 X3 c t
    ∗ (∃ d, part (c : Thread nD τ) arg11 (slot t) fullShare d) ∗ (∃ d, part (c : Thread nD τ) arg12 (slot t) fullShare d)
    ∗ (∃ d, part (c : Thread nD τ) arg6 (rows t) fullShare d) ∗ (∃ d, part (c : Thread nD τ) arg7 (rows t) fullShare d)
    ∗ semVal ((c : Thread nD τ), .dma (cellR arg21 t)) 0 ∗ semVal ((c : Thread nD τ), .dma (cellC arg22 t)) 0)

/-- A slab after its trip: its inputs back, its copies out on their way. -/
def done : sProp 𝕄 :=
  iprop(part (c : Thread nD τ) arg9 (slotP t) fullShare (DP X0) ∗ part (c : Thread nD τ) arg10 (slot t) fullShare (DX X3)
    ∗ part (c : Thread nD τ) arg0 (rows3 t) fullShare X0 ∗ part (c : Thread nD τ) arg3 (rows t) fullShare X3
    ∗ semVal ((c : Thread nD τ), .dma (cellP arg19 t)) 0 ∗ semVal ((c : Thread nD τ), .dma (cellX arg19 t)) 0
    ∗ flyR arg6 arg11 arg21 X0 X1 X2 X3 c t ∗ part (c : Thread nD τ) arg11 (slot t) fullShare.right (DR X0 X1 X2 X3)
    ∗ flyC arg7 arg12 arg22 X0 X1 X2 X3 X4 X5 c t)

/-- What every trip uses: the left operands, the three vectors, the normalised rows' buffer, the scale result after `n`
    slabs. -/
def common (n : ℕ) : sProp 𝕄 :=
  iprop(part (c : Thread nD τ) arg14 Finset.univ fullShare (DL X1) ∗ part (c : Thread nD τ) arg16 Finset.univ fullShare X2
    ∗ part (c : Thread nD τ) arg17 Finset.univ fullShare X4 ∗ part (c : Thread nD τ) arg18 Finset.univ fullShare X5
    ∗ (∃ d, part (c : Thread nD τ) arg13 Finset.univ fullShare d)
    ∗ part (c : Thread nD τ) arg8 Finset.univ fullShare (DS X0 X1 X2 X3 X4 X5 n) ∗ (∃ W, owes (c : Thread nD τ) 0 W))

theorem trip_run :
    iprop(ready arg0 arg3 arg6 arg7 arg9 arg10 arg11 arg12 arg19 arg21 arg22 X0 X3 c t ∗ common arg8 arg13 arg14 arg16 arg17 arg18 X0 X1 X2 X3 X4 X5 c t.val)
      ⊢ wp frame (wpE (defs₀ (F := F)) Variants.none c none) Set.univ
          (trip arg0 harg0 arg3 harg3 arg6 harg6 arg7 harg7 arg8 arg9 harg9 arg10 harg10 arg11 harg11 arg12 harg12 arg13 arg14 arg16 arg17 arg18 arg19 arg21 arg22 laneV rowV t)
          (fun _ => iprop(done arg0 arg3 arg6 arg7 arg9 arg10 arg11 arg12 arg19 arg21 arg22 X0 X1 X2 X3 X4 X5 c t
            ∗ common arg8 arg13 arg14 arg16 arg17 arg18 X0 X1 X2 X3 X4 X5 c (t.val + 1))) := by
  unfold trip ready common
  simp only [Prog.bind_lift, Prog.pure_eq_ret]
  iintro ⟨⟨HfP, HfX, ⟨%d11, H11⟩, ⟨%d12, H12⟩, ⟨%d6, H6⟩, ⟨%d7, H7⟩, HsR, HsC⟩, HL, H16, H17, H18, ⟨%d13, H13⟩, H8, ⟨%W, HW⟩⟩
  unfold flyP flyX
  iapply (wp_waitLocal EC Variants.none (c : Thread nD τ) none () rfl) $$ [HfP HW]
  · isplitl [HfP]; · iexact HfP
    iexact HW
  iintro ⟨⟨H9, H0⟩, HsP, HW⟩
  iapply (wp_waitLocal EC Variants.none (c : Thread nD τ) none () rfl) $$ [HfX HW]
  · isplitl [HfX]; · iexact HfX
    iexact HW
  iintro ⟨⟨H10, H3⟩, HsX, HW⟩
  iapply (wp_loadPart Variants.none (c : Thread nD τ) none (Finset.subset_univ _)) $$ HL
  iintro HL
  -- the residual
  iapply (wp_walk_bind frame (wpE (defs₀ (F := F)) Variants.none c none) Set.univ
    (sumI arg9 arg10 arg11 arg16 X0 X1 X2 X3 c t d11) (sumChunk_run arg9 arg10 arg11 harg11 arg16 X0 X1 X2 X3 c t d11)) $$ [H9 H16 H10 H11]
  · unfold sumI
    rw [Nat.mul_zero, over_zero]
    isplitr; · ipureintro; rfl
    isplitl [H9]; · iexact H9
    isplitl [H16]; · iexact H16
    isplitl [H10]; · iexact H10
    iexact H11
  iintro %acc HI
  unfold sumI
  rw [over_all col3 _ _ _ col3_lt]
  icases HI with ⟨%ha, H9, H16, H10, H11⟩
  subst ha
  ihave H11 := part_halves $$ H11
  icases H11 with ⟨H11a, H11b⟩
  iapply (startR_run arg6 arg11 arg21 X0 X1 X2 X3 c t) $$ [H11a H6 HsR]
  · isplitl [H11a]; · iexact H11a
    isplitl [H6]; · iexact H6
    iexact HsR
  iintro HfR
  -- the squared deviations
  iapply (wp_walk_bind frame (wpE (defs₀ (F := F)) Variants.none c none) Set.univ
    (sqI arg11 X0 X1 X2 X3 c t fullShare.right) (sqChunk_run arg11 X0 X1 X2 X3 c t fullShare.right)) $$ [H11b]
  · unfold sqI
    isplitr; · ipureintro; rfl
    iexact H11b
  iintro %acc HI
  unfold sqI
  icases HI with ⟨%ha, H11b⟩
  subst ha
  -- the normalised rows
  iapply (wp_walk_bind frame (wpE (defs₀ (F := F)) Variants.none c none) Set.univ
    (normI arg11 arg13 arg17 arg18 X0 X1 X2 X3 X4 X5 c t fullShare.right d13)
    (normChunk_run arg11 arg13 arg17 arg18 X0 X1 X2 X3 X4 X5 c t fullShare.right d13)) $$ [H11b H17 H18 H13]
  · unfold normI
    rw [Nat.mul_zero, over_zero]
    isplitr; · ipureintro; rfl
    isplitl [H11b]; · iexact H11b
    isplitl [H17]; · iexact H17
    isplitl [H18]; · iexact H18
    iexact H13
  iintro %acc HI
  unfold normI
  rw [over_all col2 _ _ _ col2_lt]
  icases HI with ⟨%ha, H11b, H17, H18, H13⟩
  subst ha
  -- the codes
  iapply (wp_walk_bind frame (wpE (defs₀ (F := F)) Variants.none c none) Set.univ
    (codeI arg12 arg13 X0 X1 X2 X3 X4 X5 c t d12)
    (codeTile_run arg12 harg12 arg13 X0 X1 X2 X3 X4 X5 c t d12)) $$ [H12 H13]
  · unfold codeI
    rw [Nat.mul_zero, over_zero]
    isplitl [H13]; · iexact H13
    iexact H12
  iintro %_ HI
  unfold codeI
  rw [over_all col3 _ _ _ col3_lt]
  icases HI with ⟨H13, H12⟩
  -- the scales
  iapply (wp_loadPart Variants.none (c : Thread nD τ) none (Finset.subset_univ _)) $$ H8
  iintro H8
  iapply (wp_loadPart Variants.none (c : Thread nD τ) none (Finset.subset_univ _)) $$ H8
  iintro H8
  iapply (wp_storePart Variants.none (c : Thread nD τ) none (Y := DS X0 X1 X2 X3 X4 X5 (t.val + 1)) (Finset.subset_univ _) ?_ ?_) $$ H8
  · intro j
    rw [DS_succ]
    erw [emb_rYs]
    unfold scaleStep
    congr 1
    funext j
    exact congrArg _ (emb_rYs j).symm
  · intro i _ hi
    exact absurd (mem_rYs i) hi
  iintro H8
  iapply (startC_run arg7 arg12 arg22 X0 X1 X2 X3 X4 X5 c t) $$ [H12 H7 HsC]
  · isplitl [H12]; · iexact H12
    isplitl [H7]; · iexact H7
    iexact HsC
  iintro HfC
  iapply (le_wp_ret frame (wpE (defs₀ (F := F)) Variants.none c none) Set.univ _ _)
  isplitl [H9 H10 H0 H3 HsP HsX HfR H11b HfC]
  · unfold done
    isplitl [H9]; · iexact H9
    isplitl [H10]; · iexact H10
    isplitl [H0]; · iexact H0
    isplitl [H3]; · iexact H3
    isplitl [HsP]; · iexact HsP
    isplitl [HsX]; · iexact HsX
    isplitl [HfR]; · iexact HfR
    isplitl [H11b]; · iexact H11b
    iexact HfC
  isplitl [HL]; · iexact HL
  isplitl [H16]; · iexact H16
  isplitl [H17]; · iexact H17
  isplitl [H18]; · iexact H18
  isplitl [H13]; · iexists _; iexact H13
  isplitl [H8]; · iexact H8
  iexists _; iexact HW

end

end Cert.KernelIdeal.Hand

end
-- ==== Proof.Ideal.BodyRun.lean ====
/-
  What the body does, by the parts of the buffers it holds: from its six arguments, its buffers and its semaphore
  cells at zero to the three results.
-/
module

public import proofs.«01_k».proof.Proof.Ideal.TripRun
public import Idealize.ShloMosaic.Lib.Pipeline.FrameBody

@[expose] public section

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.ValueIdx

variable {F : FTy → Type} [FloatOps F] [Named F]

local notation "𝕄" => MT nD τ sig Unit (Elt F) ℕ (Pipeline.UD sig nD τ) ℕ

/-! ## The walks around the loop -/

section
variable (arg0 : Memref sig .tc .hbm S4x256x12288 .fp8e4m3) (harg0 : arg0.IsWhole) (arg1 : Memref sig .tc .hbm S4x2x128 .f32) (harg1 : arg1.IsWhole) (arg2 : Memref sig .tc .hbm S1x12288 .f32) (harg2 : arg2.IsWhole) (arg3 : Memref sig .tc .hbm S256x12288 .bf16) (harg3 : arg3.IsWhole) (arg4 : Memref sig .tc .hbm S1x12288 .f32) (harg4 : arg4.IsWhole) (arg5 : Memref sig .tc .hbm S1x12288 .f32) (harg5 : arg5.IsWhole) (arg6 : Memref sig .tc .hbm S256x12288 .bf16) (harg6 : arg6.IsWhole) (arg7 : Memref sig .tc .hbm S256x12288 .fp8e4m3) (harg7 : arg7.IsWhole) (arg8 : Memref sig .tc .vmem S2x128 .f32) (harg8 : arg8.IsWhole) (arg9 : Memref sig .tc .vmem S8x4x32x12288 .fp8e4m3) (harg9 : arg9.IsWhole) (arg10 : Memref sig .tc .vmem S8x32x12288 .bf16) (harg10 : arg10.IsWhole) (arg11 : Memref sig .tc .vmem S8x32x12288 .bf16) (harg11 : arg11.IsWhole) (arg12 : Memref sig .tc .vmem S8x32x12288 .fp8e4m3) (harg12 : arg12.IsWhole) (arg13 : Memref sig .tc .vmem S32x12288 .f32) (harg13 : arg13.IsWhole) (arg14 : Memref sig .tc .vmem S8x32x128 .bf16) (harg14 : arg14.IsWhole) (arg15 : Memref sig .tc .vmem S4x2x128 .f32) (harg15 : arg15.IsWhole) (arg16 : Memref sig .tc .vmem S1x12288 .f32) (harg16 : arg16.IsWhole) (arg17 : Memref sig .tc .vmem S1x12288 .f32) (harg17 : arg17.IsWhole) (arg18 : Memref sig .tc .vmem S1x12288 .f32) (harg18 : arg18.IsWhole) (arg19 : DmaSems sig S2x8) (arg20 : DmaSems sig S4) (arg21 : DmaSems sig S8) (arg22 : DmaSems sig S8)
variable (X0 : Vec F S4x256x12288 .fp8e4m3) (X1 : Vec F S4x2x128 .f32) (X2 : Vec F S1x12288 .f32) (X3 : Vec F S256x12288 .bf16)
  (X4 X5 : Vec F S1x12288 .f32)
variable (c : Dev nD)

/-- A slab before its copies in start; while they are on their way; after its copies out. -/
def waiting (t : Fin T) : sProp 𝕄 :=
  iprop(part (c : Thread nD τ) arg0 (rows3 t) fullShare X0 ∗ part (c : Thread nD τ) arg3 (rows t) fullShare X3 ∗ (∃ d, part (c : Thread nD τ) arg9 (slotP t) fullShare d) ∗ (∃ d, part (c : Thread nD τ) arg10 (slot t) fullShare d) ∗ semVal ((c : Thread nD τ), .dma (cellP arg19 t)) 0 ∗ semVal ((c : Thread nD τ), .dma (cellX arg19 t)) 0)
def flying (t : Fin T) : sProp 𝕄 := iprop(flyP arg0 arg9 arg19 X0 c t ∗ flyX arg3 arg10 arg19 X3 c t)
def back (t : Fin T) : sProp 𝕄 :=
  iprop(part (c : Thread nD τ) arg0 (rows3 t) fullShare X0 ∗ part (c : Thread nD τ) arg3 (rows t) fullShare X3 ∗ part (c : Thread nD τ) arg6 (rows t) fullShare (outR X0 X1 X2 X3) ∗ part (c : Thread nD τ) arg7 (rows t) fullShare (outC X0 X1 X2 X3 X4 X5) ∗ part (c : Thread nD τ) arg9 (slotP t) fullShare (DP X0) ∗ part (c : Thread nD τ) arg10 (slot t) fullShare (DX X3) ∗ part (c : Thread nD τ) arg11 (slot t) fullShare (DR X0 X1 X2 X3) ∗ part (c : Thread nD τ) arg12 (slot t) fullShare (DC X0 X1 X2 X3 X4 X5) ∗ semVal ((c : Thread nD τ), .dma (cellP arg19 t)) 0 ∗ semVal ((c : Thread nD τ), .dma (cellX arg19 t)) 0 ∗ semVal ((c : Thread nD τ), .dma (cellR arg21 t)) 0 ∗ semVal ((c : Thread nD τ), .dma (cellC arg22 t)) 0)

theorem startIn_run (t : Fin T) :
    iprop(waiting arg0 arg3 arg9 arg10 arg19 X0 X3 c t ∗ (∃ W, owes (c : Thread nD τ) 0 W))
      ⊢ wp frame (wpE (defs₀ (F := F)) Variants.none c none) Set.univ (startIn arg0 harg0 arg3 harg3 arg9 harg9 arg10 harg10 arg19 t)
          (fun _ => iprop(flying arg0 arg3 arg9 arg10 arg19 X0 X3 c t ∗ (∃ W, owes (c : Thread nD τ) 0 W))) := by
  unfold startIn waiting
  simp only [Prog.bind_lift, Prog.pure_eq_ret]
  iintro ⟨⟨H0, H3, ⟨%d9, H9⟩, ⟨%d10, H10⟩, HsP, HsX⟩, HW⟩
  iapply (startP_run arg0 arg9 arg19 X0 c t) $$ [H0 H9 HsP]
  · isplitl [H0]; · iexact H0
    isplitl [H9]; · iexact H9
    iexact HsP
  iintro HfP
  iapply (startX_run arg3 arg10 arg19 X3 c t) $$ [H3 H10 HsX]
  · isplitl [H3]; · iexact H3
    isplitl [H10]; · iexact H10
    iexact HsX
  iintro HfX
  iapply (le_wp_ret frame (wpE (defs₀ (F := F)) Variants.none c none) Set.univ _ _)
  isplitl [HfP HfX]
  · unfold flying
    isplitl [HfP]; · iexact HfP
    iexact HfX
  iexact HW

theorem awaitOut_run (t : Fin T) :
    iprop(done arg0 arg3 arg6 arg7 arg9 arg10 arg11 arg12 arg19 arg21 arg22 X0 X1 X2 X3 X4 X5 c t ∗ (∃ W, owes (c : Thread nD τ) 0 W))
      ⊢ wp frame (wpE (defs₀ (F := F)) Variants.none c none) Set.univ (awaitOut arg6 harg6 arg7 harg7 arg11 harg11 arg12 harg12 arg21 arg22 t)
          (fun _ => iprop(back arg0 arg3 arg6 arg7 arg9 arg10 arg11 arg12 arg19 arg21 arg22 X0 X1 X2 X3 X4 X5 c t ∗ (∃ W, owes (c : Thread nD τ) 0 W))) := by
  unfold awaitOut done
  simp only [Prog.bind_lift, Prog.pure_eq_ret]
  iintro ⟨⟨H9, H10, H0, H3, HsP, HsX, HfR, H11b, HfC⟩, ⟨%W, HW⟩⟩
  unfold flyR flyC
  iapply (wp_waitLocal EC Variants.none (c : Thread nD τ) none () rfl) $$ [HfR HW]
  · isplitl [HfR]; · iexact HfR
    iexact HW
  iintro ⟨⟨H6, H11a⟩, HsR, HW⟩
  iapply (wp_waitLocal EC Variants.none (c : Thread nD τ) none () rfl) $$ [HfC HW]
  · isplitl [HfC]; · iexact HfC
    iexact HW
  iintro ⟨⟨H7, H12⟩, HsC, HW⟩
  iapply (le_wp_ret frame (wpE (defs₀ (F := F)) Variants.none c none) Set.univ _ _)
  isplitr [HW]; swap; · iexists _; iexact HW
  unfold back
  isplitl [H0]; · iexact H0
  isplitl [H3]; · iexact H3
  isplitl [H6]; · iexact H6
  isplitl [H7]; · iexact H7
  isplitl [H9]; · iexact H9
  isplitl [H10]; · iexact H10
  isplitl [H11a H11b]
  · iapply part_of_halves
    isplitl [H11a]; · iexact H11a
    iexact H11b
  isplitl [H12]; · iexact H12
  isplitl [HsP]; · iexact HsP
  isplitl [HsX]; · iexact HsX
  isplitl [HsR]; · iexact HsR
  iexact HsC

/-- The slab of an element of the left operands' buffer. -/
def slab3 (i : S8x32x128.Idx) : ℕ := (i 0).val

/-- The left operands of the first `n` slabs are built. -/
def lhsI (d : Vec F S8x32x128 .bf16) (n : ℕ) : sProp 𝕄 :=
  iprop(part (c : Thread nD τ) arg15 Finset.univ fullShare X1 ∗ part (c : Thread nD τ) arg14 Finset.univ fullShare (over slab3 n (DL X1) d))

theorem buildLhs_run (d : Vec F S8x32x128 .bf16) (t : Fin T) (a : PUnit.{1}) :
    lhsI arg14 arg15 X1 c d t.val ⊢ wp frame (wpE (defs₀ (F := F)) Variants.none c none) Set.univ (buildLhs arg14 harg14 arg15 t) (fun _ => lhsI arg14 arg15 X1 c d (t.val + 1)) := by
  unfold buildLhs lhsI
  simp only [Prog.bind_lift, Prog.pure_eq_ret]
  iintro ⟨H15, H14⟩
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H15
  iintro H15
  iapply (wp_loadPart Variants.none (c : Thread nD τ) none (Finset.subset_univ _)) $$ H14
  iintro H14
  iapply (wp_storePart Variants.none (c : Thread nD τ) none (Y := over slab3 (t.val + 1) (DL X1) d) (Finset.subset_univ _) ?_ ?_) $$ H14
  · intro j
    refine Eq.trans (if_pos ?_) (DL_emb X1 t j)
    rw [emb_rLhs]
    exact Nat.lt_succ_self _
  · intro i _ hi
    have h : ¬ (i 0).val = t.val := fun h => hi ((mem_rLhs t i).mpr h)
    unfold over slab3
    by_cases h' : (i 0).val < t.val
    · rw [if_pos h', if_pos (by omega)]
    · rw [if_neg h', if_neg (by omega)]
  iintro H14
  iapply (le_wp_ret frame (wpE (defs₀ (F := F)) Variants.none c none) Set.univ _ _)
  isplitl [H15]; · iexact H15
  iexact H14

/-! ## Families of slabs -/

theorem merge {n : ℕ} {P Q : sProp 𝕄} {A B : Fin n → sProp 𝕄} (h₁ : P ⊢ bigSep Finset.univ fun t => A t) (h₂ : Q ⊢ bigSep Finset.univ fun t => B t) :
    iprop(P ∗ Q) ⊢ (bigSep Finset.univ fun t => iprop(A t ∗ B t)) :=
  (BIClass.sep_mono h₁ h₂).trans (Entails.of_eq (bigSep_sep _ _ _).symm)
theorem itself {n : ℕ} {A : Fin n → sProp 𝕄} : (bigSep Finset.univ fun t => A t) ⊢ bigSep Finset.univ fun t => A t := .rfl
theorem unmerge {n : ℕ} {P Q : sProp 𝕄} {A B : Fin n → sProp 𝕄} (h₁ : (bigSep Finset.univ fun t => A t) ⊢ P) (h₂ : (bigSep Finset.univ fun t => B t) ⊢ Q) :
    (bigSep Finset.univ fun t => iprop(A t ∗ B t)) ⊢ iprop(P ∗ Q) :=
  (Entails.of_eq (bigSep_sep _ _ _)).trans (BIClass.sep_mono h₁ h₂)

theorem waiting_of :
    iprop(part (c : Thread nD τ) arg0 Finset.univ fullShare X0 ∗ part (c : Thread nD τ) arg3 Finset.univ fullShare X3 ∗ (∃ d, part (c : Thread nD τ) arg9 Finset.univ fullShare d) ∗ (∃ d, part (c : Thread nD τ) arg10 Finset.univ fullShare d) ∗ (bigSep Finset.univ fun t : Fin T => semVal ((c : Thread nD τ), .dma (cellP arg19 t)) 0) ∗ (bigSep Finset.univ fun t : Fin T => semVal ((c : Thread nD τ), .dma (cellX arg19 t)) 0))
      ⊢ (bigSep Finset.univ (waiting arg0 arg3 arg9 arg10 arg19 X0 X3 c) : sProp 𝕄) := by
  exact merge (part_split rows3_disj rows3_cover) (merge (part_split rows_disj rows_cover)
    (merge (part_split_any slotP_disj slotP_cover) (merge (part_split_any slot_disj slot_cover) (merge .rfl .rfl))))

theorem ready_of :
    iprop((bigSep Finset.univ (flying arg0 arg3 arg9 arg10 arg19 X0 X3 c)) ∗ (∃ d, part (c : Thread nD τ) arg11 Finset.univ fullShare d) ∗ (∃ d, part (c : Thread nD τ) arg12 Finset.univ fullShare d) ∗ (∃ d, part (c : Thread nD τ) arg6 Finset.univ fullShare d) ∗ (∃ d, part (c : Thread nD τ) arg7 Finset.univ fullShare d) ∗ (bigSep Finset.univ fun t : Fin T => semVal ((c : Thread nD τ), .dma (cellR arg21 t)) 0) ∗ (bigSep Finset.univ fun t : Fin T => semVal ((c : Thread nD τ), .dma (cellC arg22 t)) 0))
      ⊢ (bigSep Finset.univ (ready arg0 arg3 arg6 arg7 arg9 arg10 arg11 arg12 arg19 arg21 arg22 X0 X3 c) : sProp 𝕄) := by
  have h := merge (itself (A := fun t : Fin T => flyP arg0 arg9 arg19 X0 c t)) (merge (itself (A := fun t : Fin T => flyX arg3 arg10 arg19 X3 c t))
    (merge (part_split_any (c := (c : Thread nD τ)) (m := arg11) (q := fullShare) slot_disj slot_cover) (merge (part_split_any (c := (c : Thread nD τ)) (m := arg12) (q := fullShare) slot_disj slot_cover)
    (merge (part_split_any (c := (c : Thread nD τ)) (m := arg6) (q := fullShare) rows_disj rows_cover) (merge (part_split_any (c := (c : Thread nD τ)) (m := arg7) (q := fullShare) rows_disj rows_cover)
    (merge (itself (A := fun t : Fin T => semVal ((c : Thread nD τ), .dma (cellR arg21 t)) 0)) (itself (A := fun t : Fin T => semVal ((c : Thread nD τ), .dma (cellC arg22 t)) 0))))))))
  have h' := unmerge (itself (A := fun t : Fin T => flyP arg0 arg9 arg19 X0 c t)) (itself (A := fun t : Fin T => flyX arg3 arg10 arg19 X3 c t))
  iintro ⟨HF, H11, H12, H6, H7, HR, HC⟩
  have h'' : (bigSep Finset.univ (flying arg0 arg3 arg9 arg10 arg19 X0 X3 c) : sProp 𝕄) ⊢ _ := h'
  ihave HF := h'' $$ HF
  icases HF with ⟨HP, HX⟩
  iapply h
  isplitl [HP]; · iexact HP
  isplitl [HX]; · iexact HX
  isplitl [H11]; · iexact H11
  isplitl [H12]; · iexact H12
  isplitl [H6]; · iexact H6
  isplitl [H7]; · iexact H7
  isplitl [HR]; · iexact HR
  iexact HC

instance : Nonempty (Fin T) := ⟨slabOf 0⟩

theorem of_back :
    (bigSep Finset.univ (back arg0 arg3 arg6 arg7 arg9 arg10 arg11 arg12 arg19 arg21 arg22 X0 X1 X2 X3 X4 X5 c) : sProp 𝕄)
      ⊢ iprop(part (c : Thread nD τ) arg0 Finset.univ fullShare X0 ∗ part (c : Thread nD τ) arg3 Finset.univ fullShare X3 ∗ part (c : Thread nD τ) arg6 Finset.univ fullShare (outR X0 X1 X2 X3) ∗ part (c : Thread nD τ) arg7 Finset.univ fullShare (outC X0 X1 X2 X3 X4 X5) ∗ part (c : Thread nD τ) arg9 Finset.univ fullShare (DP X0) ∗ part (c : Thread nD τ) arg10 Finset.univ fullShare (DX X3) ∗ part (c : Thread nD τ) arg11 Finset.univ fullShare (DR X0 X1 X2 X3) ∗ part (c : Thread nD τ) arg12 Finset.univ fullShare (DC X0 X1 X2 X3 X4 X5) ∗ (bigSep Finset.univ fun t : Fin T => semVal ((c : Thread nD τ), .dma (cellP arg19 t)) 0) ∗ (bigSep Finset.univ fun t : Fin T => semVal ((c : Thread nD τ), .dma (cellX arg19 t)) 0) ∗ (bigSep Finset.univ fun t : Fin T => semVal ((c : Thread nD τ), .dma (cellR arg21 t)) 0) ∗ (bigSep Finset.univ fun t : Fin T => semVal ((c : Thread nD τ), .dma (cellC arg22 t)) 0)) := by
  exact unmerge (part_join rows3_disj rows3_cover) (unmerge (part_join rows_disj rows_cover)
    (unmerge (part_join rows_disj rows_cover) (unmerge (part_join rows_disj rows_cover)
    (unmerge (part_join slotP_disj slotP_cover) (unmerge (part_join slot_disj slot_cover)
    (unmerge (part_join slot_disj slot_cover) (unmerge (part_join slot_disj slot_cover) (unmerge .rfl (unmerge .rfl (unmerge .rfl .rfl))))))))))

theorem trip_relay (t : Fin T) :
    relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) t.val
      ⊢ wp frame (wpE (defs₀ (F := F)) Variants.none c none) Set.univ (trip arg0 harg0 arg3 harg3 arg6 harg6 arg7 harg7 arg8 arg9 harg9 arg10 harg10 arg11 harg11 arg12 harg12 arg13 arg14 arg16 arg17 arg18 arg19 arg21 arg22 laneV rowV t) (fun _ => relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) (t.val + 1)) :=
  by
  have h := trip_run arg0 harg0 arg3 harg3 arg6 harg6 arg7 harg7 arg8 arg9 harg9 arg10 harg10 arg11 harg11 arg12 harg12 arg13 arg14 arg16 arg17 arg18 arg19 arg21 arg22 X0 X1 X2 X3 X4 X5 c t
  refine relay_run frame (wpE (defs₀ (F := F)) Variants.none c none) Set.univ ?_
  refine BIClass.entails_trans h ?_
  exact wp_mono frame (wpE (defs₀ (F := F)) Variants.none c none) Set.univ fun _ => .rfl

/-! ## The small copies -/

theorem startSmall_run {sp sp' : Space} {s : Shape} {e : EltTy} (hs : 0 < s.numel) {src : Memref sig .tc sp s e} {dst : Memref sig .tc sp' s e}
    {sm : DmaSem sig} {X : Vec F s e} {α : Type} {Q : α → sProp 𝕄} {hsrc : src.view.WordExact} {hdst : dst.view.WordExact}
    {hsem : DmaTarget.Typed (nD := nD) (τ := τ) (p := .tc) sp (.dma sm) (.here dst)} {k : PUnit → Prog (TpuEff nD τ sig (Elt F) Λ₀ .tc) α} :
    iprop(part (c : Thread nD τ) src Finset.univ fullShare X ∗ (∃ d, part (c : Thread nD τ) dst Finset.univ fullShare d) ∗ semVal ((c : Thread nD τ), .dma sm) 0)
      ⊢ iprop((Flight EC (c : Thread nD τ) (.dma sm) () dst.view.dmaCredit iprop(part (c : Thread nD τ) dst Finset.univ fullShare X ∗ part (c : Thread nD τ) src Finset.univ fullShare X) -∗ wp frame (wpE (defs₀ (F := F)) Variants.none c none) Set.univ (k ⟨⟩) Q)
        -∗ wp frame (wpE (defs₀ (F := F)) Variants.none c none) Set.univ (.op (.enqueueDma src (.here dst) (.dma sm) hsrc hdst hsem) k) Q) := by
  iintro ⟨H0, ⟨%d, H9⟩, Hs⟩ Hk
  ihave H0 := owns_of_part $$ H0
  ihave H9 := owns_of_part $$ H9
  iapply (wp_startCopy Variants.none (c : Thread nD τ) none EC () hs) $$ [H0 H9 Hs]
  · isplitl [H0]; · iexact H0
    isplitl [H9]; · iexact H9
    iexact Hs
  iintro HF
  iapply Hk
  refine Flight_mono EC (c : Thread nD τ) ?_
  exact BIClass.sep_mono part_of_owns part_of_owns

theorem S4x2x128_pos : 0 < S4x2x128.numel := by decide
theorem S1x12288_pos : 0 < S1x12288.numel := by decide

/-! ## The body -/

/-- The kernel's buffers, at whatever they hold. -/
def buffers : sProp 𝕄 :=
  iprop((∃ d, part (c : Thread nD τ) arg9 Finset.univ fullShare d) ∗ (∃ d, part (c : Thread nD τ) arg10 Finset.univ fullShare d) ∗ (∃ d, part (c : Thread nD τ) arg11 Finset.univ fullShare d) ∗ (∃ d, part (c : Thread nD τ) arg12 Finset.univ fullShare d) ∗ (∃ d, part (c : Thread nD τ) arg13 Finset.univ fullShare d) ∗ (∃ d, part (c : Thread nD τ) arg14 Finset.univ fullShare d) ∗ (∃ d, part (c : Thread nD τ) arg15 Finset.univ fullShare d) ∗ (∃ d, part (c : Thread nD τ) arg16 Finset.univ fullShare d) ∗ (∃ d, part (c : Thread nD τ) arg17 Finset.univ fullShare d) ∗ (∃ d, part (c : Thread nD τ) arg18 Finset.univ fullShare d))

/-- The kernel's semaphore cells, at zero. -/
def cells : sProp 𝕄 :=
  iprop((bigSep Finset.univ fun t : Fin T => semVal ((c : Thread nD τ), .dma (cellP arg19 t)) 0) ∗ (bigSep Finset.univ fun t : Fin T => semVal ((c : Thread nD τ), .dma (cellX arg19 t)) 0) ∗ (bigSep Finset.univ fun t : Fin T => semVal ((c : Thread nD τ), .dma (cellR arg21 t)) 0) ∗ (bigSep Finset.univ fun t : Fin T => semVal ((c : Thread nD τ), .dma (cellC arg22 t)) 0) ∗ semVal ((c : Thread nD τ), .dma (cellS arg20 0)) 0 ∗ semVal ((c : Thread nD τ), .dma (cellS arg20 1)) 0 ∗ semVal ((c : Thread nD τ), .dma (cellS arg20 2)) 0 ∗ semVal ((c : Thread nD τ), .dma (cellS arg20 3)) 0)

/-- The six arguments. -/
def given : sProp 𝕄 :=
  iprop(part (c : Thread nD τ) arg0 Finset.univ fullShare X0 ∗ part (c : Thread nD τ) arg1 Finset.univ fullShare X1 ∗ part (c : Thread nD τ) arg2 Finset.univ fullShare X2 ∗ part (c : Thread nD τ) arg3 Finset.univ fullShare X3 ∗ part (c : Thread nD τ) arg4 Finset.univ fullShare X4 ∗ part (c : Thread nD τ) arg5 Finset.univ fullShare X5)

set_option maxHeartbeats 1000000 in
theorem body_run :
    iprop(given arg0 arg1 arg2 arg3 arg4 arg5 X0 X1 X2 X3 X4 X5 c ∗ (∃ d, part (c : Thread nD τ) arg6 Finset.univ fullShare d) ∗ (∃ d, part (c : Thread nD τ) arg7 Finset.univ fullShare d) ∗ (∃ d, part (c : Thread nD τ) arg8 Finset.univ fullShare d)
        ∗ buffers arg9 arg10 arg11 arg12 arg13 arg14 arg15 arg16 arg17 arg18 c ∗ cells arg19 arg20 arg21 arg22 c ∗ (∃ W, owes (c : Thread nD τ) 0 W))
      ⊢ wp frame (wpE (defs₀ (F := F)) Variants.none c none) Set.univ (body arg0 harg0 arg1 harg1 arg2 harg2 arg3 harg3 arg4 harg4 arg5 harg5 arg6 harg6 arg7 harg7 arg8 arg9 harg9 arg10 harg10 arg11 harg11 arg12 harg12 arg13 arg14 harg14 arg15 harg15 arg16 harg16 arg17 harg17 arg18 harg18 arg19 arg20 arg21 arg22)
          (fun _ => iprop(given arg0 arg1 arg2 arg3 arg4 arg5 X0 X1 X2 X3 X4 X5 c ∗ part (c : Thread nD τ) arg6 Finset.univ fullShare (outR X0 X1 X2 X3) ∗ part (c : Thread nD τ) arg7 Finset.univ fullShare (outC X0 X1 X2 X3 X4 X5)
            ∗ part (c : Thread nD τ) arg8 Finset.univ fullShare (DS X0 X1 X2 X3 X4 X5 T) ∗ buffers arg9 arg10 arg11 arg12 arg13 arg14 arg15 arg16 arg17 arg18 c ∗ cells arg19 arg20 arg21 arg22 c ∗ (∃ W, owes (c : Thread nD τ) 0 W))) := by
  unfold body given buffers cells
  simp only [Prog.bind_lift, Prog.pure_eq_ret]
  iintro ⟨⟨H0, H1, H2, H3, H4, H5⟩, H6, H7, ⟨%d8, H8⟩, ⟨H9, H10, H11, H12, H13, ⟨%d14, H14⟩, H15, H16, H17, H18⟩, ⟨HP, HX, HR, HC, Hs0, Hs1, Hs2, Hs3⟩, HW⟩
  iapply (startSmall_run c S4x2x128_pos) $$ [H1 H15 Hs0]
  · isplitl [H1]; · iexact H1
    isplitl [H15]; · iexact H15
    iexact Hs0
  iintro Hf0
  iapply (startSmall_run c S1x12288_pos) $$ [H2 H16 Hs1]
  · isplitl [H2]; · iexact H2
    isplitl [H16]; · iexact H16
    iexact Hs1
  iintro Hf1
  iapply (startSmall_run c S1x12288_pos) $$ [H4 H17 Hs2]
  · isplitl [H4]; · iexact H4
    isplitl [H17]; · iexact H17
    iexact Hs2
  iintro Hf2
  iapply (startSmall_run c S1x12288_pos) $$ [H5 H18 Hs3]
  · isplitl [H5]; · iexact H5
    isplitl [H18]; · iexact H18
    iexact Hs3
  iintro Hf3
  ihave HA := (waiting_of arg0 arg3 arg9 arg10 arg19 X0 X3 c) $$ [H0 H3 H9 H10 HP HX]
  · isplitl [H0]; · iexact H0
    isplitl [H3]; · iexact H3
    isplitl [H9]; · iexact H9
    isplitl [H10]; · iexact H10
    isplitl [HP]; · iexact HP
    iexact HX
  iapply (wp_walk_bind frame (wpE (defs₀ (F := F)) Variants.none c none) Set.univ (fun n _ => relay (waiting arg0 arg3 arg9 arg10 arg19 X0 X3 c) (flying arg0 arg3 arg9 arg10 arg19 X0 X3 c) (fun _ => iprop((∃ W, owes (c : Thread nD τ) 0 W))) n)
    (fun t _ => relay_run frame (wpE (defs₀ (F := F)) Variants.none c none) Set.univ (startIn_run arg0 harg0 arg3 harg3 arg9 harg9 arg10 harg10 arg19 X0 X3 c t))) $$ [HA HW]
  · iapply relay_of
    isplitl [HA]; · iexact HA
    iexact HW
  iintro %_ HI
  ihave HI := of_relay $$ HI
  icases HI with ⟨HA, ⟨%W, HW⟩⟩
  iapply (wp_waitLocal EC Variants.none (c : Thread nD τ) none () rfl) $$ [Hf0 HW]
  · isplitl [Hf0]; · iexact Hf0
    iexact HW
  iintro ⟨⟨H15, H1⟩, Hs0, HW⟩
  iapply (wp_walk_bind frame (wpE (defs₀ (F := F)) Variants.none c none) Set.univ (fun n _ => lhsI arg14 arg15 X1 c d14 n)
    (fun t a => buildLhs_run arg14 harg14 arg15 X1 c d14 t a)) $$ [H14 H15]
  · unfold lhsI
    rw [over_zero]
    isplitl [H15]; · iexact H15
    iexact H14
  iintro %_ HI
  unfold lhsI
  rw [over_all slab3 _ _ _ (fun i => lt_of_lt_of_eq (i 0).isLt trips_eq.symm)]
  icases HI with ⟨H15, H14⟩
  iapply (wp_loadPart Variants.none (c : Thread nD τ) none (Finset.subset_univ _)) $$ H8
  iintro H8
  iapply (wp_storePart Variants.none (c : Thread nD τ) none (Y := DS X0 X1 X2 X3 X4 X5 0) (Finset.subset_univ _) (fun _ => rfl)
    (fun i _ hi => absurd (mem_rYs i) hi)) $$ H8
  iintro H8
  iapply (wp_waitLocal EC Variants.none (c : Thread nD τ) none () rfl) $$ [Hf1 HW]
  · isplitl [Hf1]; · iexact Hf1
    iexact HW
  iintro ⟨⟨H16, H2⟩, Hs1, HW⟩
  iapply (wp_waitLocal EC Variants.none (c : Thread nD τ) none () rfl) $$ [Hf2 HW]
  · isplitl [Hf2]; · iexact Hf2
    iexact HW
  iintro ⟨⟨H17, H4⟩, Hs2, HW⟩
  iapply (wp_waitLocal EC Variants.none (c : Thread nD τ) none () rfl) $$ [Hf3 HW]
  · isplitl [Hf3]; · iexact Hf3
    iexact HW
  iintro ⟨⟨H18, H5⟩, Hs3, HW⟩
  ihave HA := (ready_of arg0 arg3 arg6 arg7 arg9 arg10 arg11 arg12 arg19 arg21 arg22 X0 X3 c) $$ [HA H11 H12 H6 H7 HR HC]
  · isplitl [HA]; · iexact HA
    isplitl [H11]; · iexact H11
    isplitl [H12]; · iexact H12
    isplitl [H6]; · iexact H6
    isplitl [H7]; · iexact H7
    isplitl [HR]; · iexact HR
    iexact HC
  rw [Prog.bind_assoc]
  iapply (Scf.wp_for_bind frame (wpE (defs₀ (F := F)) Variants.none c none) Set.univ k0_t1_loop.lb k0_t1_loop.ub k0_t1_loop.st k0_t1_ok ()
    (fun t _ => trip arg0 harg0 arg3 harg3 arg6 harg6 arg7 harg7 arg8 arg9 harg9 arg10 harg10 arg11 harg11 arg12 harg12 arg13 arg14 arg16 arg17 arg18 arg19 arg21 arg22 laneV rowV t)
    (fun n _ => relay (ready arg0 arg3 arg6 arg7 arg9 arg10 arg11 arg12 arg19 arg21 arg22 X0 X3 c) (done arg0 arg3 arg6 arg7 arg9 arg10 arg11 arg12 arg19 arg21 arg22 X0 X1 X2 X3 X4 X5 c) (common arg8 arg13 arg14 arg16 arg17 arg18 X0 X1 X2 X3 X4 X5 c) n)
    (fun t _ => BIClass.entails_trans (trip_relay arg0 harg0 arg3 harg3 arg6 harg6 arg7 harg7 arg8 arg9 harg9 arg10 harg10 arg11 harg11 arg12 harg12 arg13 arg14 arg16 arg17 arg18 arg19 arg21 arg22 X0 X1 X2 X3 X4 X5 c t) (wp_mono frame (wpE (defs₀ (F := F)) Variants.none c none) Set.univ fun _ => .rfl))) $$ [HA H8 H13 H14 H16 H17 H18 HW]
  · iapply relay_of
    isplitl [HA]; · iexact HA
    unfold common
    isplitl [H14]; · iexact H14
    isplitl [H16]; · iexact H16
    isplitl [H17]; · iexact H17
    isplitl [H18]; · iexact H18
    isplitl [H13]; · iexact H13
    isplitl [H8]; · iexact H8
    iexists _; iexact HW
  iintro %_ HI
  ihave HI := of_relay $$ HI
  unfold common
  icases HI with ⟨HA, H14, H16, H17, H18, H13, H8, HW⟩
  rw [Prog.bind_ret]
  iapply (wp_wand_r frame (wpE (defs₀ (F := F)) Variants.none c none) Set.univ (Q := fun _ => relay (done arg0 arg3 arg6 arg7 arg9 arg10 arg11 arg12 arg19 arg21 arg22 X0 X1 X2 X3 X4 X5 c) (back arg0 arg3 arg6 arg7 arg9 arg10 arg11 arg12 arg19 arg21 arg22 X0 X1 X2 X3 X4 X5 c) (fun _ => iprop((∃ W, owes (c : Thread nD τ) 0 W))) T))
  isplitl [HA HW]
  · iapply (wp_walk frame (wpE (defs₀ (F := F)) Variants.none c none) Set.univ _ (fun n _ => relay (done arg0 arg3 arg6 arg7 arg9 arg10 arg11 arg12 arg19 arg21 arg22 X0 X1 X2 X3 X4 X5 c) (back arg0 arg3 arg6 arg7 arg9 arg10 arg11 arg12 arg19 arg21 arg22 X0 X1 X2 X3 X4 X5 c) (fun _ => iprop((∃ W, owes (c : Thread nD τ) 0 W))) n)
      (fun t _ => relay_run frame (wpE (defs₀ (F := F)) Variants.none c none) Set.univ (awaitOut_run arg0 arg3 arg6 harg6 arg7 harg7 arg9 arg10 arg11 harg11 arg12 harg12 arg19 arg21 arg22 X0 X1 X2 X3 X4 X5 c t)))
    iapply relay_of
    isplitl [HA]; · iexact HA
    iexact HW
  iintro %_ HI
  ihave HI := of_relay $$ HI
  icases HI with ⟨HA, HW⟩
  ihave HA := (of_back arg0 arg3 arg6 arg7 arg9 arg10 arg11 arg12 arg19 arg21 arg22 X0 X1 X2 X3 X4 X5 c) $$ HA
  icases HA with ⟨H0, H3, H6, H7, H9, H10, H11, H12, HP, HX, HR, HC⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [H9 H10 H11 H12 H13 H14 H15 H16 H17 H18]
  · isplitl [H9]; · iexists _; iexact H9
    isplitl [H10]; · iexists _; iexact H10
    isplitl [H11]; · iexists _; iexact H11
    isplitl [H12]; · iexists _; iexact H12
    isplitl [H13]; · iexact H13
    isplitl [H14]; · iexists _; iexact H14
    isplitl [H15]; · iexists _; iexact H15
    isplitl [H16]; · iexists _; iexact H16
    isplitl [H17]; · iexists _; iexact H17
    iexists _; iexact H18
  isplitl [HP HX HR HC Hs0 Hs1 Hs2 Hs3]
  · isplitl [HP]; · iexact HP
    isplitl [HX]; · iexact HX
    isplitl [HR]; · iexact HR
    isplitl [HC]; · iexact HC
    isplitl [Hs0]; · iexact Hs0
    isplitl [Hs1]; · iexact Hs1
    isplitl [Hs2]; · iexact Hs2
    iexact Hs3
  iexact HW

end

end Cert.KernelIdeal.Hand

end
-- ==== Proof.Ideal.Launch.lean ====
/-
  The launch: the one grid point runs the body on the arrays that the host lines made, and the host lines after it
  reshape two of the results. What the three results hold, with the arguments unchanged and every semaphore at zero.
-/
module

public import proofs.«01_k».proof.Proof.Ideal.BodyRun
public import proofs.«01_k».proof.Proof.Gen.KernelIdeal.Frame
public import Idealize.ShloMosaic.Lib.Pipeline.FrameSuffixV

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The body's own semaphore cells -/

/-- The cells: of each slab the two copies in and the two copies out; of each small argument its copy in. -/
def osem0 : ((Fin T ⊕ Fin T) ⊕ (Fin T ⊕ Fin T)) ⊕ Fin 4 → SemLoc sig
  | .inl (.inl (.inl t)) => .dma (cellP cc0_scratch10 t)
  | .inl (.inl (.inr t)) => .dma (cellX cc0_scratch10 t)
  | .inl (.inr (.inl t)) => .dma (cellR cc0_scratch12 t)
  | .inl (.inr (.inr t)) => .dma (cellC cc0_scratch13 t)
  | .inr i => .dma (cellS cc0_scratch11 i)
theorem ownSemFacts0 : Pipeline.OwnSemFacts spec0 osem0 := by decide +kernel

theorem cells_eq (c : Dev nD) :
    (Pipeline.ownSems0 (Ix := Unit) (Name := ℕ) (U := Pipeline.UD sig nD τ) (Lvl := ℕ) (Val := Elt F) (τ := τ) osem0 c : sProp 𝕄)
      ⊣⊢ cells cc0_scratch10 cc0_scratch11 cc0_scratch12 cc0_scratch13 c := by
  have h : (Pipeline.ownSems0 (Ix := Unit) (Name := ℕ) (U := Pipeline.UD sig nD τ) (Lvl := ℕ) (Val := Elt F) (τ := τ) osem0 c : sProp 𝕄)
      = iprop((((bigSep Finset.univ fun t : Fin T => semVal ((c : Thread nD τ), .dma (cellP cc0_scratch10 t)) 0)
          ∗ (bigSep Finset.univ fun t : Fin T => semVal ((c : Thread nD τ), .dma (cellX cc0_scratch10 t)) 0))
          ∗ ((bigSep Finset.univ fun t : Fin T => semVal ((c : Thread nD τ), .dma (cellR cc0_scratch12 t)) 0)
          ∗ (bigSep Finset.univ fun t : Fin T => semVal ((c : Thread nD τ), .dma (cellC cc0_scratch13 t)) 0)))
          ∗ (bigSep Finset.univ fun i : Fin 4 => semVal ((c : Thread nD τ), .dma (cellS cc0_scratch11 i)) 0)) := by
    unfold Pipeline.ownSems0
    rw [bigSep_univ_sum, bigSep_univ_sum, bigSep_univ_sum, bigSep_univ_sum]
    rfl
  have hS : (bigSep Finset.univ (fun i : Fin 4 => semVal ((c : Thread nD τ), .dma (cellS cc0_scratch11 i)) 0) : sProp 𝕄)
      = iprop(semVal ((c : Thread nD τ), .dma (cellS cc0_scratch11 0)) 0 ∗ semVal ((c : Thread nD τ), .dma (cellS cc0_scratch11 1)) 0
        ∗ semVal ((c : Thread nD τ), .dma (cellS cc0_scratch11 2)) 0 ∗ semVal ((c : Thread nD τ), .dma (cellS cc0_scratch11 3)) 0) := by
    rw [bigSep_univ_eq_bigSepL ([0, 1, 2, 3] : List (Fin 4)) (by decide) (by decide)]; rfl
  rw [h, hS]
  unfold cells
  constructor
  · iintro ⟨⟨⟨HP, HX⟩, ⟨HR, HC⟩⟩, H0, H1, H2, H3⟩
    isplitl [HP]; · iexact HP
    isplitl [HX]; · iexact HX
    isplitl [HR]; · iexact HR
    isplitl [HC]; · iexact HC
    isplitl [H0]; · iexact H0
    isplitl [H1]; · iexact H1
    isplitl [H2]; · iexact H2
    iexact H3
  · iintro ⟨HP, HX, HR, HC, H0, H1, H2, H3⟩
    isplitl [HP HX HR HC]
    · isplitl [HP HX]
      · isplitl [HP]; · iexact HP
        iexact HX
      isplitl [HR]; · iexact HR
      iexact HC
    isplitl [H0]; · iexact H0
    isplitl [H1]; · iexact H1
    isplitl [H2]; · iexact H2
    iexact H3

/-! ## The arrays left in HBM -/

/-- The arrays that the body reads, and the two that it writes. -/
def H0 : Finset (Ref sig .tc) := {main_v0, main_arg1, main_v1, main_v2, main_v3, main_v4}
def R0 : Finset (Ref sig .tc) := {main_v5_0, main_v5_1}
theorem H0_sub : H0 ⊆ Pipeline.restRefs sig spec0 := by decide
theorem R0_sub : R0 ⊆ Pipeline.restRefs sig spec0 \ H0 := by decide

/-- The three results, of the arrays that the region is entered with. -/
def resR (c : Dev nD) : Vec F S256x12288 .bf16 := outR (V m c main_v0) (V m c main_arg1) (V m c main_v1) (V m c main_v2)
def resC (c : Dev nD) : Vec F S256x12288 .fp8e4m3 := outC (V m c main_v0) (V m c main_arg1) (V m c main_v1) (V m c main_v2) (V m c main_v3) (V m c main_v4)
def resS (c : Dev nD) : Vec F S2x128 .f32 := DS (V m c main_v0) (V m c main_arg1) (V m c main_v1) (V m c main_v2) (V m c main_v3) (V m c main_v4) T

/-- The arrays when the region is left: the two written ones at the results, the others as they were. -/
def GR (c : Dev nD) (b : Ref sig .tc) : Buf (Elt F) ((c : Thread nD τ).loc b) :=
  if h : b = main_v5_0 then cast (congrArg (fun b : Ref sig .tc => Buf (Elt F) ((c : Thread nD τ).loc b)) h.symm) (resR m c)
  else if h : b = main_v5_1 then cast (congrArg (fun b : Ref sig .tc => Buf (Elt F) ((c : Thread nD τ).loc b)) h.symm) (resC m c)
  else V m c b
theorem GR_R (c : Dev nD) : GR m c main_v5_0 = resR m c := by unfold GR; rw [dif_pos rfl]; rfl
theorem GR_C (c : Dev nD) : GR m c main_v5_1 = resC m c := by
  unfold GR; rw [dif_neg (by decide), dif_pos rfl]; rfl

theorem hbm_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg1) ↦{fullShare} V m c main_arg1) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_v4) ↦{fullShare} V m c main_v4)) := by
  rw [BI.bigSep_eq_bigSepL_of_eq [main_v0, main_arg1, main_v1, main_v2, main_v3, main_v4] (by decide) (by decide)]; rfl
theorem out_eq (c : Dev nD) (G : (c : Dev nD) → (b : Ref sig .tc) → Buf (Elt F) ((c : Thread nD τ).loc b)) :
    (bigSep R0 (fun b => ((c : Thread nD τ).loc b) ↦{fullShare} G c b) : sProp 𝕄)
      = iprop((((c : Thread nD τ).loc main_v5_0) ↦{fullShare} G c main_v5_0) ∗ (((c : Thread nD τ).loc main_v5_1) ↦{fullShare} G c main_v5_1)) := by
  rw [BI.bigSep_eq_bigSepL_of_eq [main_v5_0, main_v5_1] (by decide) (by decide)]; rfl

/-- A whole buffer at contents `X`, and all its part at `X`. -/
theorem part_of_pt (c : Dev nD) (b : Ref sig .tc) (f : Buf (Elt F) ((c : Thread nD τ).loc b)) :
    ((((c : Thread nD τ).loc b) ↦{fullShare} f) : sProp 𝕄) ⊢ part (c : Thread nD τ) (Memref.whole b) Finset.univ fullShare f :=
  (Entails.of_eq (owns_whole (c : Thread nD τ) b fullShare f).symm).trans part_of_owns
theorem pt_of_part (c : Dev nD) (b : Ref sig .tc) (f : Buf (Elt F) ((c : Thread nD τ).loc b)) :
    (part (c : Thread nD τ) (Memref.whole b) Finset.univ fullShare f : sProp 𝕄) ⊢ (((c : Thread nD τ).loc b) ↦{fullShare} f) :=
  owns_of_part.trans (Entails.of_eq (owns_whole (c : Thread nD τ) b fullShare f))
theorem some_part_of_pt (c : Dev nD) (b : Ref sig .tc) :
    (iprop(∃ f : Buf (Elt F) ((c : Thread nD τ).loc b), ((c : Thread nD τ).loc b) ↦{fullShare} f) : sProp 𝕄)
      ⊢ iprop(∃ d, part (c : Thread nD τ) (Memref.whole b) Finset.univ fullShare d) := by
  iintro ⟨%f, H⟩; iexists f
  iapply (part_of_pt c b f); iexact H
theorem some_pt_of_part (c : Dev nD) (b : Ref sig .tc) :
    (iprop(∃ d, part (c : Thread nD τ) (Memref.whole b) Finset.univ fullShare d) : sProp 𝕄)
      ⊢ iprop(∃ f : Buf (Elt F) ((c : Thread nD τ).loc b), ((c : Thread nD τ).loc b) ↦{fullShare} f) := by
  iintro ⟨%f, H⟩; iexists f
  iapply (pt_of_part c b f); iexact H

/-! ## The proof data and the body at its point -/

abbrev ms0 (t : Fin cfg0.N) : Memref sig .tc .vmem S2x128 .f32 := win0_0.stage (cfg0.slots t 0)

/-- What the region holds besides the window: before the point as it was entered, after it with the results written. -/
def Phi (c : Dev nD) (k : Fin (cfg0.N + 1)) : sProp 𝕄 :=
  if k = 0 then Pipeline.ΦDRV osem0 spec0 H0 R0 (V m) (V m) c else Pipeline.ΦDRV osem0 spec0 H0 R0 (V m) (GR m) c

def dats (_ : Fin 1) (c : Dev nD) : Dat τ (Elt F) Unit ℕ (Pipeline.UD sig nD τ) ℕ cfg0 c where
  A w := V m c (Pipeline.arrRef spec0 w)
  after w t := match w with
    | ⟨0, _⟩ => resS m c
  Φ k := Phi m c k
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = resS m c := by dsimp only [dats]
theorem Phi_first (c : Dev nD) (t : Fin cfg0.N) : (dats m 0 c).Φ t.castSucc = Pipeline.ΦDRV osem0 spec0 H0 R0 (V m) (V m) c := by
  show Phi m c t.castSucc = _
  unfold Phi; rw [if_pos]; revert t; decide
theorem Phi_last (c : Dev nD) (t : Fin cfg0.N) : (dats m 0 c).Φ t.succ = Pipeline.ΦDRV osem0 spec0 H0 R0 (V m) (GR m) c := by
  show Phi m c t.succ = _
  unfold Phi; rw [if_neg]; revert t; decide

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t))

theorem given_of_pt (c : Dev nD) :
    (bigSep H0 (fun b => ((c : Thread nD τ).loc b) ↦{fullShare} V m c b) : sProp 𝕄)
      ⊢ given (Memref.whole main_v0) (Memref.whole main_arg1) (Memref.whole main_v1) (Memref.whole main_v2) (Memref.whole main_v3) (Memref.whole main_v4) (V m c main_v0) (V m c main_arg1) (V m c main_v1) (V m c main_v2) (V m c main_v3) (V m c main_v4) c := by
  rw [hbm_eq]; unfold given
  iintro ⟨H0, H1, H2, H3, H4, H5⟩
  isplitl [H0]; · iapply (part_of_pt c main_v0 _) $$ H0
  isplitl [H1]; · iapply (part_of_pt c main_arg1 _) $$ H1
  isplitl [H2]; · iapply (part_of_pt c main_v1 _) $$ H2
  isplitl [H3]; · iapply (part_of_pt c main_v2 _) $$ H3
  isplitl [H4]; · iapply (part_of_pt c main_v3 _) $$ H4
  iapply (part_of_pt c main_v4 _) $$ H5
theorem pt_of_given (c : Dev nD) :
    (given (Memref.whole main_v0) (Memref.whole main_arg1) (Memref.whole main_v1) (Memref.whole main_v2) (Memref.whole main_v3) (Memref.whole main_v4) (V m c main_v0) (V m c main_arg1) (V m c main_v1) (V m c main_v2) (V m c main_v3) (V m c main_v4) c : sProp 𝕄)
      ⊢ bigSep H0 (fun b => ((c : Thread nD τ).loc b) ↦{fullShare} V m c b) := by
  rw [hbm_eq]; unfold given
  iintro ⟨H0, H1, H2, H3, H4, H5⟩
  isplitl [H0]; · iapply (pt_of_part c main_v0 _) $$ H0
  isplitl [H1]; · iapply (pt_of_part c main_arg1 _) $$ H1
  isplitl [H2]; · iapply (pt_of_part c main_v1 _) $$ H2
  isplitl [H3]; · iapply (pt_of_part c main_v2 _) $$ H3
  isplitl [H4]; · iapply (pt_of_part c main_v3 _) $$ H4
  iapply (pt_of_part c main_v4 _) $$ H5
theorem buffers_of_pt (c : Dev nD) :
    (Pipeline.scopedRest (Ix := Unit) (Name := ℕ) (U := Pipeline.UD sig nD τ) (Lvl := ℕ) (Val := Elt F) spec0 c : sProp 𝕄)
      ⊢ buffers (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) c := by
  rw [scopedRest0_eq]; unfold buffers
  iintro ⟨H0, H1, H2, H3, H4, H5, H6, H7, H8, H9⟩
  isplitl [H0]; · iapply (some_part_of_pt c cc0_scratch0) $$ H0
  isplitl [H1]; · iapply (some_part_of_pt c cc0_scratch1) $$ H1
  isplitl [H2]; · iapply (some_part_of_pt c cc0_scratch2) $$ H2
  isplitl [H3]; · iapply (some_part_of_pt c cc0_scratch3) $$ H3
  isplitl [H4]; · iapply (some_part_of_pt c cc0_scratch4) $$ H4
  isplitl [H5]; · iapply (some_part_of_pt c cc0_scratch5) $$ H5
  isplitl [H6]; · iapply (some_part_of_pt c cc0_scratch6) $$ H6
  isplitl [H7]; · iapply (some_part_of_pt c cc0_scratch7) $$ H7
  isplitl [H8]; · iapply (some_part_of_pt c cc0_scratch8) $$ H8
  iapply (some_part_of_pt c cc0_scratch9) $$ H9
theorem pt_of_buffers (c : Dev nD) :
    (buffers (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) c : sProp 𝕄)
      ⊢ Pipeline.scopedRest (Ix := Unit) (Name := ℕ) (U := Pipeline.UD sig nD τ) (Lvl := ℕ) (Val := Elt F) spec0 c := by
  rw [scopedRest0_eq]; unfold buffers
  iintro ⟨H0, H1, H2, H3, H4, H5, H6, H7, H8, H9⟩
  isplitl [H0]; · iapply (some_pt_of_part c cc0_scratch0) $$ H0
  isplitl [H1]; · iapply (some_pt_of_part c cc0_scratch1) $$ H1
  isplitl [H2]; · iapply (some_pt_of_part c cc0_scratch2) $$ H2
  isplitl [H3]; · iapply (some_pt_of_part c cc0_scratch3) $$ H3
  isplitl [H4]; · iapply (some_pt_of_part c cc0_scratch4) $$ H4
  isplitl [H5]; · iapply (some_pt_of_part c cc0_scratch5) $$ H5
  isplitl [H6]; · iapply (some_pt_of_part c cc0_scratch6) $$ H6
  isplitl [H7]; · iapply (some_pt_of_part c cc0_scratch7) $$ H7
  isplitl [H8]; · iapply (some_pt_of_part c cc0_scratch8) $$ H8
  iapply (some_pt_of_part c cc0_scratch9) $$ H9

theorem pt_of_partR (c : Dev nD) :
    (part (c : Thread nD τ) (Memref.whole main_v5_0) Finset.univ fullShare (outR (V m c main_v0) (V m c main_arg1) (V m c main_v1) (V m c main_v2)) : sProp 𝕄)
      ⊢ (((c : Thread nD τ).loc main_v5_0) ↦{fullShare} resR m c) := pt_of_part c main_v5_0 _
theorem pt_of_partC (c : Dev nD) :
    (part (c : Thread nD τ) (Memref.whole main_v5_1) Finset.univ fullShare (outC (V m c main_v0) (V m c main_arg1) (V m c main_v1) (V m c main_v2) (V m c main_v3) (V m c main_v4)) : sProp 𝕄)
      ⊢ (((c : Thread nD τ).loc main_v5_1) ↦{fullShare} resC m c) := pt_of_part c main_v5_1 _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_eq, Phi_first, Phi_last, after0_0]
  unfold Dat.owesAt Pipeline.owesWithin Pipeline.ΦDRV
  rw [show (dats m 0 c).owed t.castSucc = 0 from rfl, show (dats m 0 c).owed t.succ = 0 from rfl, out_eq, out_eq, GR_R, GR_C]
  iintro ⟨⟨Hb, Hs, Hh, Ho0, Ho1⟩, ⟨%W, -, HW⟩, ⟨%d0, H0⟩⟩
  iapply (wp_wand_r frame (wpE (defs₀ (F := F)) Variants.none c none) Set.univ)
  isplitl [Hb Hs Hh Ho0 Ho1 HW H0]
  · iapply (body_run (Memref.whole main_v0) (Memref.isWhole_whole _) (Memref.whole main_arg1) (Memref.isWhole_whole _) (Memref.whole main_v1) (Memref.isWhole_whole _) (Memref.whole main_v2) (Memref.isWhole_whole _) (Memref.whole main_v3) (Memref.isWhole_whole _) (Memref.whole main_v4) (Memref.isWhole_whole _) (Memref.whole main_v5_0) (Memref.isWhole_whole _) (Memref.whole main_v5_1) (Memref.isWhole_whole _) (ms0 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 (V m c main_v0) (V m c main_arg1) (V m c main_v1) (V m c main_v2) (V m c main_v3) (V m c main_v4) c)
    isplitl [Hh]; · iapply (given_of_pt m c) $$ Hh
    isplitl [Ho0]; · iexists _; iapply (part_of_pt c main_v5_0 _) $$ Ho0
    isplitl [Ho1]; · iexists _; iapply (part_of_pt c main_v5_1 _) $$ Ho1
    isplitl [H0]; · iexists _; iapply part_of_owns $$ H0
    isplitl [Hb]; · iapply (buffers_of_pt c) $$ Hb
    isplitl [Hs]; · iapply (cells_eq c).1 $$ Hs
    iexists W; iexact HW
  iintro %_ ⟨Hh, Ho0, Ho1, H0, Hb, Hs, ⟨%W', HW'⟩⟩
  isplitl [Hb Hs Hh Ho0 Ho1]
  · isplitl [Hb]; · iapply (pt_of_buffers c) $$ Hb
    isplitl [Hs]; · iapply (cells_eq c).2 $$ Hs
    isplitl [Hh]; · iapply (pt_of_given m c) $$ Hh
    isplitl [Ho0]; · iapply (pt_of_partR m c) $$ Ho0
    iapply (pt_of_partC m c) $$ Ho1
  isplitl [HW']
  · iexists W'; isplitr; · ipureintro; exact fun _ _ => Or.inl trivial
    iexact HW'
  iapply owns_of_part $$ H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The array of window 0 after the write-back. -/
theorem arr_final (c : Dev nD) : (dats m 0 c).arrAt 0 cfg0.N = resS m c := by
  refine (dats m 0 c).arrAt_eq_of_after_last 0 t0_0 (by decide +kernel) _ (fun j => ?_)
  rw [after0_0]; rfl

/-- The buffers after the last host line. -/
abbrev Wend (c : Dev nD) : Valuation τ sig (Elt F) :=
  StableHlo.after (List.flatten [hostOps1]) (Pipeline.withArrays spec0 c (Pipeline.withR (V0 m c) R0 c (GR m c)) fun w => (dats m 0 c).arrAt w cfg0.N)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Wend m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := GR m)
    (hmain := hmainD m Variants.none) (hA := A_eq m)
    (hin := fun c => Entails.of_eq (Phi_first m c t0_0).symm) (hout := fun c => Entails.of_eq (Phi_last m c t0_0))
    (hQ' := fun _ h => h)

theorem Wend_arg (c : Dev nD) (b : Ref sig .tc) (h6 : b ≠ main_v6) (h7 : b ≠ main_v7) (ha : ∀ w, Pipeline.arrRef spec0 w ≠ b) (hR : b ∉ R0) :
    Wend m c (Proc.devRef .tc b) = V m c b := by
  unfold Wend
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h6, StableHlo.devRef_ne_of_ne h7⟩)),
    Pipeline.withArrays_of_ne _ c _ _ b ha, Pipeline.withR_of_not_mem _ _ _ _ b hR]
theorem Wend_R (c : Dev nD) : Wend m c (Proc.devRef .tc main_v6) = shapeCast S2x128x12288 (resR m c) shapeCasts_S256x12288_S2x128x12288 := by
  unfold Wend hostOps1
  rw [List.flatten_cons, List.flatten_nil, List.append_nil, StableHlo.after_cons, StableHlo.after_cons, StableHlo.after_nil]
  refine (StableHlo.reshape_result_ne _ _ _ _ _ _ _ (by decide)).trans ?_
  refine (StableHlo.reshape_result _ _ _ _ _ _ _).trans ?_
  refine congrArg (fun X => shapeCast S2x128x12288 X shapeCasts_S256x12288_S2x128x12288) ?_
  exact (Pipeline.withArrays_of_ne _ c _ _ main_v5_0 (by exact (by decide : ∀ w, Pipeline.arrRef spec0 w ≠ main_v5_0))).trans ((Pipeline.withR_of_mem _ _ _ _ main_v5_0 (by decide)).trans (GR_R m c))
theorem Wend_C (c : Dev nD) : Wend m c (Proc.devRef .tc main_v7) = shapeCast S2x128x12288 (resC m c) shapeCasts_S256x12288_S2x128x12288 := by
  unfold Wend hostOps1
  rw [List.flatten_cons, List.flatten_nil, List.append_nil, StableHlo.after_cons, StableHlo.after_cons, StableHlo.after_nil]
  refine (StableHlo.reshape_result _ _ _ _ _ _ _).trans ?_
  refine congrArg (fun X => shapeCast S2x128x12288 X shapeCasts_S256x12288_S2x128x12288) ?_
  refine (StableHlo.reshape_result_ne _ _ _ _ _ _ _ (by decide)).trans ?_
  exact (Pipeline.withArrays_of_ne _ c _ _ main_v5_1 (by exact (by decide : ∀ w, Pipeline.arrRef spec0 w ≠ main_v5_1))).trans ((Pipeline.withR_of_mem _ _ _ _ main_v5_1 (by decide)).trans (GR_C m c))

/-- What the run leaves: the arguments as they were, the three results, every semaphore at zero. -/
theorem run : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v6) = shapeCast S2x128x12288 (resR m c) shapeCasts_S256x12288_S2x128x12288
      ∧ r.2.mem ((c.tc : Thread nD τ).loc main_v7) = shapeCast S2x128x12288 (resC m c) shapeCasts_S256x12288_S2x128x12288
      ∧ r.2.mem ((c.tc : Thread nD τ).loc main_v5_2) = resS m c)
      ∧ r.2.sem = fun _ => 0) := by
  refine (θ_run defs _ _).mono (fun r ⟨h, hz⟩ => ⟨fun c => ?_, hz⟩) (run_main m ρ)
  have ha := fun b hb h6 h7 hw hR => ((h c).2 b hb).trans (Wend_arg m c b h6 h7 hw hR)
  refine ⟨⟨?_, ?_, ?_, ?_, ?_, ?_⟩, ?_, ?_, ?_⟩
  · exact (ha main_arg0 (Pipeline.mem_restRefs_of main_arg0 (by decide) (by decide)) (by decide) (by decide) (by decide) (by decide)).trans (V_main_arg0 m c)
  · exact (ha main_arg1 (Pipeline.mem_restRefs_of main_arg1 (by decide) (by decide)) (by decide) (by decide) (by decide) (by decide)).trans (V_main_arg1 m c)
  · exact (ha main_arg2 (Pipeline.mem_restRefs_of main_arg2 (by decide) (by decide)) (by decide) (by decide) (by decide) (by decide)).trans (V_main_arg2 m c)
  · exact (ha main_arg3 (Pipeline.mem_restRefs_of main_arg3 (by decide) (by decide)) (by decide) (by decide) (by decide) (by decide)).trans (V_main_arg3 m c)
  · exact (ha main_arg4 (Pipeline.mem_restRefs_of main_arg4 (by decide) (by decide)) (by decide) (by decide) (by decide) (by decide)).trans (V_main_arg4 m c)
  · exact (ha main_arg5 (Pipeline.mem_restRefs_of main_arg5 (by decide) (by decide)) (by decide) (by decide) (by decide) (by decide)).trans (V_main_arg5 m c)
  · exact ((h c).2 main_v6 (Pipeline.mem_restRefs_of main_v6 (by decide) (by decide))).trans (Wend_R m c)
  · exact ((h c).2 main_v7 (Pipeline.mem_restRefs_of main_v7 (by decide) (by decide))).trans (Wend_C m c)
  · exact ((h c).1 0).trans (arr_final m c)

/-- The frame alone. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hz⟩ => ⟨fun c => (h c).1, hz⟩) (run m ρ)

/-! ## The arrays that the region is entered with -/

theorem V_main_v0 (c : Dev nD) : V m c main_v0 = shapeCast S4x256x12288 (m ((c : Thread nD τ).loc main_arg0)) shapeCasts_S4x2x128x12288_S4x256x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  rfl

theorem V_main_v1 (c : Dev nD) : V m c main_v1 = shapeCast S1x12288 (m ((c : Thread nD τ).loc main_arg2)) shapeCasts_S12288_S1x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  rfl

theorem V_main_v2 (c : Dev nD) : V m c main_v2 = shapeCast S256x12288 (m ((c : Thread nD τ).loc main_arg3)) shapeCasts_S2x128x12288_S256x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result_ne _ _ _ _ _ _ _ (by decide)).trans ?_
  refine (StableHlo.reshape_result _ _ _ _ _ _ _).trans ?_
  refine congrArg (fun X => shapeCast S256x12288 X shapeCasts_S2x128x12288_S256x12288) ?_
  refine (StableHlo.reshape_result_ne _ _ _ _ _ _ _ (by decide)).trans ?_
  refine (StableHlo.reshape_result_ne _ _ _ _ _ _ _ (by decide)).trans ?_
  rfl

theorem V_main_v3 (c : Dev nD) : V m c main_v3 = shapeCast S1x12288 (m ((c : Thread nD τ).loc main_arg4)) shapeCasts_S12288_S1x12288 := by
  unfold V V0 hostOps0
  simp only [List.flatten_cons, List.flatten_nil, List.append_nil, StableHlo.after_cons, StableHlo.after_nil]
  refine (StableHlo.reshape_result_ne _ _ _ _ _ _ _ (by decide)).trans ?_
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  rfl

theorem V_main_v4 (c : Dev nD) : V m c main_v4 = shapeCast S1x12288 (m ((c : Thread nD τ).loc main_arg5)) shapeCasts_S12288_S1x12288 := by
  unfold V V0 hostOps0
  simp only [List.flatten_cons, List.flatten_nil, List.append_nil, StableHlo.after_cons, StableHlo.after_nil]
  refine (StableHlo.reshape_result _ _ _ _ _ _ _).trans ?_
  refine congrArg (fun X => shapeCast S1x12288 X shapeCasts_S12288_S1x12288) ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  refine (StableHlo.reshape_result_ne _ _ _ _ _ _ _ (by decide)).trans ?_
  rfl

end Cert.KernelIdeal.Hand

end
-- ==== Proof.Power.lean ====
/-
  Powers of two by their exponent field. A word `b <<< 23` read as a float is `2 ^ (b - 127)`; a search over the eight
  bits of `b` finds the largest such power below a value, and from it the scale and its reciprocal, which are the
  powers of two that the logarithm of the value names.
-/
module

public import Idealize.ShloMosaic.PureOps.Ideal
public import Idealize.ShloMosaic.PureOps.Ideal.Laws
public import Idealize.ShloMosaic.Lib.IdealHost
public import Mathlib.Analysis.SpecialFunctions.Pow.Real

@[expose] public section

noncomputable section

namespace Cert.Hand.Power

open Idealize.ShloMosaic

/-- The value of the float whose exponent field is `b`, its other bits zero. -/
def pow (b : ℕ) : EReal := Ideal.ofBits .f32 (BitVec.ofNat 32 b <<< 23)

theorem pow_zero : pow 0 = 0 := by simp [pow, Ideal.ofBits, Ideal.ieee]

theorem fields (b : ℕ) (h : b < 256) :
    (BitVec.ofNat 32 b <<< 23).extractLsb' 31 1 = 0#1 ∧ ((BitVec.ofNat 32 b <<< 23).extractLsb' 23 8).toNat = b
      ∧ ((BitVec.ofNat 32 b <<< 23).extractLsb' 0 23).toNat = 0 := by
  have key : ∀ c : Fin 256, (BitVec.ofNat 32 c.val <<< 23).extractLsb' 31 1 = 0#1
      ∧ ((BitVec.ofNat 32 c.val <<< 23).extractLsb' 23 8).toNat = c.val
      ∧ ((BitVec.ofNat 32 c.val <<< 23).extractLsb' 0 23).toNat = 0 := by decide +kernel
  exact key ⟨b, h⟩

theorem pow_of (b : ℕ) (h0 : 0 < b) (h : b < 255) : pow b = (((2 : ℝ) ^ ((b : ℤ) - 127) : ℝ) : EReal) := by
  obtain ⟨h1, h2, h3⟩ := fields b (by omega)
  unfold pow Ideal.ofBits Ideal.ieee
  simp only [h1, h2, h3, Nat.reduceAdd]
  rw [if_neg (by norm_num; omega), if_neg (by omega)]
  refine congrArg (fun r : ℝ => (r : EReal)) ?_
  have e : ((b : ℤ) - (2 ^ (8 - 1) - 1) - (23 : ℕ)) = ((b : ℤ) - 127) - 23 := by norm_num
  rw [e, zpow_sub₀ (by norm_num : (2 : ℝ) ≠ 0) _ 23]
  have e' : ((2 : ℝ) ^ (23 : ℤ)) = 8388608 := by norm_num
  have e'' : (((2 ^ 23 + 0 : ℕ) : ℕ) : ℝ) = 8388608 := by norm_num
  rw [e', e'']
  rw [if_neg (by decide), one_mul]
  field_simp

theorem pow_top : pow 255 = ⊤ := by
  obtain ⟨g1, g2, g3⟩ := fields 255 (by omega)
  unfold pow Ideal.ofBits Ideal.ieee
  simp only [g1, g2, g3]
  rw [if_pos (by norm_num), if_pos trivial, if_neg (by decide)]

/-! Patterns that the two programs hold. -/

theorem bits_len : Ideal.ofBits .f32 0x46400000#32 = ((12288 : ℝ) : EReal) := by
  simp [Ideal.ofBits, Ideal.ieee, -EReal.coe_mul]; norm_num
theorem bits_eps : Ideal.ofBits .f32 0x358637BD#32 = ((8796093 / 2 ^ 43 : ℝ) : EReal) := by
  simp [Ideal.ofBits, Ideal.ieee, -EReal.coe_mul]; norm_num
theorem bits_448 : Ideal.ofBits .f32 0x3B124925#32 = ((9586981 / 2 ^ 32 : ℝ) : EReal) := by
  simp [Ideal.ofBits, Ideal.ieee, -EReal.coe_mul]; norm_num
theorem bits_max : Ideal.ofBits .f32 0x7F7FFFFF#32 = ((16777215 * 2 ^ 104 : ℝ) : EReal) := by
  simp [Ideal.ofBits, Ideal.ieee, -EReal.coe_mul]
theorem bits_bot : Ideal.ofBits .f32 0xFF800000#32 = ⊥ := by
  simp [Ideal.ofBits, Ideal.ieee]
theorem bits_one : Ideal.ofBits .f32 0x3F800000#32 = 1 := by
  simp [Ideal.ofBits, Ideal.ieee, -EReal.coe_mul]; norm_num

/-- One step of the search. -/
def step (v : EReal) (k n : BitVec 32) : BitVec 32 :=
  Scalar.select (Ideal.cmp .oge v (Ideal.ofBits .f32 (IntOp.shli .vector (n + k) 23#32))) (n + k) n

/-- The search. -/
def field (v : EReal) : BitVec 32 :=
  step v 1#32 (step v 2#32 (step v 4#32 (step v 8#32 (step v 16#32 (step v 32#32 (step v 64#32 (step v 128#32 0#32)))))))

/-- `n` has its bits from `k` up settled. -/
def Found (v : EReal) (k n : ℕ) : Prop := n + k ≤ 256 ∧ pow n ≤ v ∧ (n + k = 256 ∨ v < pow (n + k))

theorem step_found (v : EReal) (k n : ℕ) (hk : 0 < k) (h : Found v (2 * k) n) :
    ∃ m, step v (BitVec.ofNat 32 k) (BitVec.ofNat 32 n) = BitVec.ofNat 32 m ∧ Found v k m := by
  obtain ⟨h1, h2, h3⟩ := h
  have hs : IntOp.shli .vector (BitVec.ofNat 32 n + BitVec.ofNat 32 k) 23#32 = BitVec.ofNat 32 (n + k) <<< 23 := by
    rw [← BitVec.ofNat_add]; rfl
  unfold step
  rw [hs]
  change ∃ m, Scalar.select (Ideal.cmp .oge v (pow (n + k))) _ _ = _ ∧ _
  by_cases hc : pow (n + k) ≤ v
  · refine ⟨n + k, ?_, by omega, hc, ?_⟩
    · simp [Ideal.cmp, hc, Scalar.select, BitVec.ofNat_add]
    · rw [show n + k + k = n + 2 * k by omega]; exact h3
  · refine ⟨n, ?_, by omega, h2, .inr (not_le.mp hc)⟩
    simp [Ideal.cmp, hc, Scalar.select]

/-- The search finds the largest exponent field whose power is at most the value. -/
theorem field_found (v : EReal) (h0 : 0 ≤ v) :
    ∃ b, field v = BitVec.ofNat 32 b ∧ b < 256 ∧ pow b ≤ v ∧ (b = 255 ∨ v < pow (b + 1)) := by
  obtain ⟨n1, e1, f1⟩ := step_found v 128 0 (by norm_num) ⟨by norm_num, by rw [pow_zero]; exact h0, .inl rfl⟩
  obtain ⟨n2, e2, f2⟩ := step_found v 64 n1 (by norm_num) f1
  obtain ⟨n3, e3, f3⟩ := step_found v 32 n2 (by norm_num) f2
  obtain ⟨n4, e4, f4⟩ := step_found v 16 n3 (by norm_num) f3
  obtain ⟨n5, e5, f5⟩ := step_found v 8 n4 (by norm_num) f4
  obtain ⟨n6, e6, f6⟩ := step_found v 4 n5 (by norm_num) f5
  obtain ⟨n7, e7, f7⟩ := step_found v 2 n6 (by norm_num) f6
  obtain ⟨b, e8, f8⟩ := step_found v 1 n7 (by norm_num) f7
  refine ⟨b, ?_, by have := f8.1; omega, f8.2.1, ?_⟩
  · unfold field
    rw [show (0#32 : BitVec 32) = BitVec.ofNat 32 0 from rfl, e1, e2, e3, e4, e5, e6, e7, e8]
  · rcases f8.2.2 with h | h
    · exact .inl (by omega)
    · exact .inr h

/-- The exponent the kernel takes. -/
def expo (v : EReal) : BitVec 32 :=
  Scalar.select (IntOp.ori (IntOp.cmpi .eq (field v) 0#32) (IntOp.cmpi .eq (field v) 255#32)) 0#32 (field v - 126#32)

/-- The scale and its reciprocal, by the kernel's words. -/
def scale (v : EReal) : EReal := Ideal.ofBits .f32 (IntOp.shli .vector (127#32 + expo v) 23#32)
def inv (v : EReal) : EReal := Ideal.ofBits .f32 (IntOp.shli .vector (127#32 - expo v) 23#32)

/-- The exponent by the logarithm: zero below the smallest normal number, else one more than the whole part of the
    binary logarithm. -/
def logExp (v : EReal) : EReal :=
  Scalar.select (Ideal.cmp .olt v (Ideal.ofBits .f32 0x00800000#32)) 0
    (Ideal.liftRound Int.floor (Ideal.div (Ideal.log v) ((Real.log 2 : ℝ) : EReal)) + 1)

theorem tiny_eq : Ideal.ofBits .f32 0x00800000#32 = pow 1 := rfl

/-- Below `2 ^ 126` the kernel's scale and reciprocal are the powers of two of the logarithm's exponent and of its
    negative. -/
theorem scale_eq (v : EReal) (h0 : 0 ≤ v) (h1 : v < pow 253) :
    scale v = Ideal.exp2 (logExp v) ∧ inv v = Ideal.exp2 (0 - logExp v) := by
  obtain ⟨b, e, hb, hlo, hhi⟩ := field_found v h0
  have hb252 : b ≤ 252 := by
    by_contra hcon
    have h253 : 253 ≤ b := by omega
    have hm : pow 253 ≤ pow b := by
      by_cases h255 : b = 255
      · subst h255
        rw [pow_top]; exact le_top
      · rw [pow_of 253 (by omega) (by omega), pow_of b (by omega) (by omega), EReal.coe_le_coe_iff]
        exact zpow_le_zpow_right₀ (by norm_num) (by omega)
    exact absurd (lt_of_lt_of_le h1 (hm.trans hlo)) (lt_irrefl _)
  have hhi' : v < pow (b + 1) := hhi.resolve_left (by omega)
  rcases Nat.eq_zero_or_pos b with hz | hpos
  · -- below the smallest normal number
    subst hz
    have hx : expo v = 0#32 := by unfold expo; rw [e]; rfl
    have hl : logExp v = 0 := by
      unfold logExp
      rw [tiny_eq]
      simp [Ideal.cmp, hhi', Scalar.select]
    unfold scale inv
    rw [hx, hl]
    have h127 : pow 127 = 1 := by rw [pow_of 127 (by omega) (by omega)]; norm_num
    constructor
    · refine (show _ = pow 127 from rfl).trans (h127.trans ?_)
      rw [show (0 : EReal) = ((0 : ℝ) : EReal) from rfl, Ideal.exp2_coe]
      exact (congrArg (fun r : ℝ => (r : EReal)) (Real.rpow_zero 2)).symm
    · refine (show _ = pow 127 from rfl).trans (h127.trans ?_)
      rw [sub_zero, show (0 : EReal) = ((0 : ℝ) : EReal) from rfl, Ideal.exp2_coe]
      exact (congrArg (fun r : ℝ => (r : EReal)) (Real.rpow_zero 2)).symm
  · have hvtop : v ≠ ⊤ := ne_top_of_lt h1
    have hvbot : v ≠ ⊥ := fun h => by rw [h] at h0; simp at h0
    lift v to ℝ using ⟨hvtop, hvbot⟩
    rw [pow_of b hpos (by omega), EReal.coe_le_coe_iff] at hlo
    rw [pow_of (b + 1) (by omega) (by omega), EReal.coe_lt_coe_iff] at hhi'
    have hv0 : 0 < v := lt_of_lt_of_le (zpow_pos (by norm_num) _) hlo
    have hwords : ∀ c : Fin 253, 0 < c.val →
        (IntOp.ori (IntOp.cmpi .eq (BitVec.ofNat 32 c.val) 0#32) (IntOp.cmpi .eq (BitVec.ofNat 32 c.val) 255#32) = 0#1)
        ∧ IntOp.shli .vector (127#32 + (BitVec.ofNat 32 c.val - 126#32)) 23#32 = BitVec.ofNat 32 (c.val + 1) <<< 23
        ∧ IntOp.shli .vector (127#32 - (BitVec.ofNat 32 c.val - 126#32)) 23#32 = BitVec.ofNat 32 (253 - c.val) <<< 23 := by
      decide +kernel
    obtain ⟨w1, w2, w3⟩ := hwords ⟨b, by omega⟩ hpos
    simp only at w1 w2 w3
    have hx : expo (v : EReal) = BitVec.ofNat 32 b - 126#32 := by
      unfold expo; rw [e, w1]; rfl
    have hfl : ⌊Real.log v * (1 / Real.log 2)⌋ = (b : ℤ) - 127 := by
      have hlog2 : 0 < Real.log 2 := Real.log_pos (by norm_num)
      rw [mul_one_div, Int.floor_eq_iff]
      constructor
      · rw [le_div_iff₀ hlog2, ← Real.log_zpow]
        exact Real.log_le_log (zpow_pos (by norm_num) _) hlo
      · rw [div_lt_iff₀ hlog2, show (((b : ℤ) - 127 : ℤ) : ℝ) + 1 = ((((b + 1 : ℕ) : ℤ) - 127 : ℤ) : ℝ) by push_cast; ring,
          ← Real.log_zpow]
        exact Real.log_lt_log hv0 hhi'
    have hl : logExp (v : EReal) = (((b : ℤ) - 126 : ℤ) : ℝ) := by
      unfold logExp
      have hnot : ¬ ((v : EReal) < pow 1) := by
        rw [pow_of 1 (by omega) (by omega), not_lt, EReal.coe_le_coe_iff]
        exact (zpow_le_zpow_right₀ (by norm_num) (by omega)).trans hlo
      rw [tiny_eq]
      have hsel : Ideal.cmp .olt (v : EReal) (pow 1) = 0#1 := by simp [Ideal.cmp, hnot]
      have hlogv : Ideal.log (v : EReal) = ((Real.log v : ℝ) : EReal) := by
        change (if v ≤ 0 then ⊥ else ((Real.log v : ℝ) : EReal)) = _
        rw [if_neg (not_le.mpr hv0)]
      rw [hsel, hlogv, Ideal.div_coe (Real.log_pos (by norm_num)).ne', ← EReal.coe_mul, Ideal.liftRound_coe, hfl]
      change ((((b : ℤ) - 127 : ℤ) : ℝ) : EReal) + ((1 : ℝ) : EReal) = _
      rw [← EReal.coe_add]
      congr 1
      push_cast; ring
    unfold scale inv
    rw [hx, hl, w2, w3]
    constructor
    · refine (show _ = pow (b + 1) from rfl).trans ?_
      rw [pow_of (b + 1) (by omega) (by omega), Ideal.exp2_coe]
      congr 1
      refine Eq.trans ?_ (Real.rpow_intCast 2 ((b : ℤ) - 126)).symm
      congr 1; push_cast; ring
    · refine (show _ = pow (253 - b) from rfl).trans ?_
      rw [pow_of (253 - b) (by omega) (by omega), show (0 : EReal) = ((0 : ℝ) : EReal) from rfl, ← EReal.coe_sub, Ideal.exp2_coe]
      congr 1
      rw [show (0 : ℝ) - (((b : ℤ) - 126 : ℤ) : ℝ) = ((-((b : ℤ) - 126) : ℤ) : ℝ) by push_cast; ring]
      refine Eq.trans ?_ (Real.rpow_intCast 2 (-((b : ℤ) - 126))).symm
      congr 1; push_cast [Nat.cast_sub (by omega : b ≤ 253)]; ring

end Cert.Hand.Power

end
-- ==== Proof.Row.lean ====
/-
  One row's arithmetic over the extended reals: its mean, its normalised values, the largest of their absolute values,
  and a bound on them that holds whatever the row is, by the size of the affine parameters alone.
-/
module

public import proofs.«01_k».proof.Proof.Power

@[expose] public section

noncomputable section

namespace Cert.Hand.Row

open Idealize.ShloMosaic Cert.Hand.Power
open scoped BigOperators

/-- The reciprocal of the row length. -/
def inv : EReal := ((1 / 12288 : ℝ) : EReal)

section
variable (h g b : Fin 12288 → EReal)

def mean : EReal := (∑ j, h j) * inv
def dev (j : Fin 12288) : EReal := h j - mean h
def var : EReal := (∑ j, dev h j * dev h j) * inv
def rs : EReal := Ideal.rsqrt (var h + Ideal.ofBits .f32 0x358637BD#32)
def y (j : Fin 12288) : EReal := dev h j * rs h * g j + b j
def amax : EReal := Finset.univ.fold max ⊥ (fun j => max (y h g b j) (-(y h g b j)))
/-- The largest absolute value times the reciprocal of 448. -/
def v : EReal := amax h g b * Ideal.ofBits .f32 0x3B124925#32
end

theorem sq_nonneg (x : EReal) : 0 ≤ x * x := by
  induction x with
  | bot => simp
  | top => simp
  | coe x => rw [← EReal.coe_mul]; exact EReal.coe_nonneg.mpr (mul_self_nonneg x)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A deviation times the reciprocal root is real and at most 111 in absolute value: an infinite deviation makes the
    variance infinite and the root's reciprocal zero. -/
theorem dev_rs (h : Fin 12288 → EReal) (j : Fin 12288) : ∃ q : ℝ, dev h j * rs h = (q : EReal) ∧ |q| ≤ 111 := by
  by_cases hfin : ∀ j, ∃ d : ℝ, dev h j = (d : EReal)
  · choose d hd using hfin
    have hsum : ∑ j, dev h j * dev h j = ((∑ j, d j * d j : ℝ) : EReal) := by
      rw [coe_sum]
      exact Finset.sum_congr rfl fun j _ => by rw [hd, ← EReal.coe_mul]
    have hS : 0 ≤ ∑ j, d j * d j := Finset.sum_nonneg fun j _ => mul_self_nonneg _
    have hdj : d j * d j ≤ ∑ j, d j * d j :=
      Finset.single_le_sum (f := fun j => d j * d j) (fun j _ => mul_self_nonneg _) (Finset.mem_univ j)
    generalize (∑ j, d j * d j) = S at hsum hS hdj
    obtain ⟨w, hw⟩ : ∃ w : ℝ, w = S * (1 / 12288) + 8796093 / 2 ^ 43 := ⟨_, rfl⟩
    have hwpos : 0 < w := by rw [hw]; exact add_pos_of_nonneg_of_pos (mul_nonneg hS (by norm_num)) (by norm_num)
    have hrs : rs h = (((Real.sqrt w)⁻¹ : ℝ) : EReal) := by
      unfold rs var inv
      rw [hsum, bits_eps, ← EReal.coe_mul, ← EReal.coe_add, ← hw, Ideal.rsqrt_coe, if_neg (not_lt.mpr hwpos.le), if_neg hwpos.ne']
    refine ⟨d j * (Real.sqrt w)⁻¹, by rw [hd, hrs, ← EReal.coe_mul], ?_⟩
    have hr : 0 < Real.sqrt w := Real.sqrt_pos.mpr hwpos
    rw [abs_mul, abs_inv, abs_of_pos hr, ← div_eq_mul_inv, div_le_iff₀ hr]
    refine abs_le_of_sq_le_sq ?_ (by positivity)
    rw [mul_pow, Real.sq_sqrt hwpos.le, sq]
    rw [hw]; nlinarith
  · push Not at hfin
    obtain ⟨i, hi⟩ := hfin
    have hsq : dev h i * dev h i = ⊤ := by
      rcases hc : dev h i with _ | _ | r
      · exact EReal.bot_mul_bot
      · exact EReal.top_mul_top
      · exact absurd hc (hi r)
    have hsum : ∑ j, dev h j * dev h j = ⊤ := by
      refine top_le_iff.mp ?_
      rw [← hsq]
      exact Finset.single_le_sum (f := fun j => dev h j * dev h j) (fun j _ => sq_nonneg _) (Finset.mem_univ i)
    have hrs : rs h = 0 := by
      unfold rs var inv
      rw [hsum, bits_eps, EReal.top_mul_coe_of_pos (by norm_num), EReal.top_add_coe]
      rfl
    exact ⟨0, by rw [hrs, mul_zero]; rfl, by norm_num⟩

/-- The size that an affine parameter may have. -/
def Small (x : EReal) : Prop := max x (-x) ≤ Ideal.ofBits .f32 0x7F7FFFFF#32

theorem small_real {x : EReal} (h : Small x) : ∃ r : ℝ, x = (r : EReal) ∧ |r| ≤ 16777215 * 2 ^ 104 := by
  unfold Small at h
  rw [bits_max] at h
  have h1 := (le_max_left _ _).trans h
  have h2 := (le_max_right _ _).trans h
  have ht : x ≠ ⊤ := fun hx => by rw [hx] at h1; exact absurd (top_le_iff.mp h1) (EReal.coe_ne_top _)
  have hb : x ≠ ⊥ := fun hx => by rw [hx, EReal.neg_bot] at h2; exact absurd (top_le_iff.mp h2) (EReal.coe_ne_top _)
  lift x to ℝ using ⟨ht, hb⟩
  rw [EReal.coe_le_coe_iff] at h1
  rw [← EReal.coe_neg, EReal.coe_le_coe_iff] at h2
  exact ⟨x, rfl, abs_le.mpr ⟨by linarith, h1⟩⟩

theorem y_abs (h g b : Fin 12288 → EReal) (hg : ∀ j, Small (g j)) (hb : ∀ j, Small (b j)) (j : Fin 12288) :
    max (y h g b j) (-(y h g b j)) ≤ ((112 * (16777215 * 2 ^ 104) : ℝ) : EReal) := by
  obtain ⟨q, hq, hq'⟩ := dev_rs h j
  obtain ⟨c, hc, hc'⟩ := small_real (hg j)
  obtain ⟨e, he, he'⟩ := small_real (hb j)
  unfold y
  rw [hq, hc, he, ← EReal.coe_mul, ← EReal.coe_add, ← EReal.coe_neg, max_le_iff, EReal.coe_le_coe_iff, EReal.coe_le_coe_iff]
  have hqc : |q * c| ≤ 111 * (16777215 * 2 ^ 104) := by
    rw [abs_mul]; exact mul_le_mul hq' hc' (abs_nonneg _) (by norm_num)
  have := abs_le.mp hqc
  have := abs_le.mp he'
  constructor <;> linarith

theorem amax_le_iff (h g b : Fin 12288 → EReal) (c : EReal) : amax h g b ≤ c ↔ ∀ j, max (y h g b j) (-(y h g b j)) ≤ c := by
  unfold amax
  rw [Finset.fold_max_le]
  simp

theorem abs_nonneg (x : EReal) : 0 ≤ max x (-x) := by
  rcases le_total 0 x with h | h
  · exact le_max_of_le_left h
  · exact le_max_of_le_right (EReal.neg_nonneg.mpr h)

theorem amax_nonneg (h g b : Fin 12288 → EReal) : 0 ≤ amax h g b :=
  (abs_nonneg (y h g b 0)).trans ((amax_le_iff h g b _).mp le_rfl 0)

theorem v_nonneg (h g b : Fin 12288 → EReal) : 0 ≤ v h g b := by
  unfold v
  rw [bits_448]
  exact mul_nonneg (amax_nonneg h g b) (EReal.coe_nonneg.mpr (by norm_num))

/-- The scaled maximum is below `2 ^ 126`, so its scale and the reciprocal are normal numbers. -/
theorem v_lt (h g b : Fin 12288 → EReal) (hg : ∀ j, Small (g j)) (hb : ∀ j, Small (b j)) : v h g b < pow 253 := by
  have ha := (amax_le_iff h g b _).mpr (y_abs h g b hg hb)
  unfold v
  rw [bits_448, pow_of 253 (by omega) (by omega)]
  refine lt_of_le_of_lt (mul_le_mul_of_nonneg_right ha (EReal.coe_nonneg.mpr (by norm_num))) ?_
  rw [← EReal.coe_mul, EReal.coe_lt_coe_iff]
  norm_num

end Cert.Hand.Row

end
-- ==== Proof.Ideal.Read.lean ====
/-
  The kernel's steps over the extended reals, each read at one row and one column.
-/
module

public import proofs.«01_k».proof.Proof.Ideal.Values
public import proofs.«01_k».proof.Proof.Row
public import Idealize.ShloMosaic.Lib.Pointwise

@[expose] public section

noncomputable section

namespace Cert.KernelIdeal.Hand

open Cert.KernelIdeal Cert.KernelIdeal.Gen Cert.Hand
open Idealize.ShloMosaic
open scoped BigOperators

theorem invD_eq : (invD : Ideal .f32) = Row.inv :=
  IdealRules.named_const.ideal_named_scalar _ _ _ _ rfl

theorem zeros_at (r : Fin 32) (l : Fin 128) : (zeros : FVec Ideal S32x128 .f32) (ix2 r l) = 0 := by
  pointwise [zeros]

theorem resid_at (lhs : Vec Ideal S1x32x128 .bf16) (p : Vec Ideal S1x4x32x512 .fp8e4m3) (b : Vec Ideal S1x512 .f32) (x : Vec Ideal S1x32x512 .bf16)
    (r : Fin 32) (c : Fin 512) :
    resid lhs p b x (ix2 r c) = (∑ m : Fin 128, lhs (ix3 0 r m) * p (ix4 0 ⟨m.val / 32, by omega⟩ ⟨m.val % 32, by omega⟩ c)) + b (ix2 0 c) + x (ix3 0 r c) := by
  pointwise [resid]

theorem fold4_add_at (acc : FVec Ideal S32x128 .f32) (v : FVec Ideal S32x512 .f32) (r : Fin 32) (l : Fin 128) :
    fold4 addf acc v (ix2 r l) = acc (ix2 r l) + v (ix2 r ⟨l.val, by omega⟩) + v (ix2 r ⟨128 + l.val, by omega⟩) + v (ix2 r ⟨256 + l.val, by omega⟩)
      + v (ix2 r ⟨384 + l.val, by omega⟩) := by
  pointwise [fold4]

theorem fold4_max_at (acc : FVec Ideal S32x128 .f32) (v : FVec Ideal S32x512 .f32) (r : Fin 32) (l : Fin 128) :
    fold4 maximumf acc v (ix2 r l) = max (max (max (max (acc (ix2 r l)) (v (ix2 r ⟨l.val, by omega⟩))) (v (ix2 r ⟨128 + l.val, by omega⟩))) (v (ix2 r ⟨256 + l.val, by omega⟩)))
      (v (ix2 r ⟨384 + l.val, by omega⟩)) := by
  pointwise [fold4]

theorem meanOf_at (acc : FVec Ideal S32x128 .f32) (r : Fin 32) : meanOf acc (ix2 r 0) = (∑ l : Fin 128, acc (ix2 r l)) * Row.inv := by
  rw [← invD_eq]
  pointwise [meanOf]

theorem devOf_at (mu : FVec Ideal S32x1 .f32) (x : Vec Ideal S1x32x512 .bf16) (r : Fin 32) (c : Fin 512) :
    devOf mu x (ix2 r c) = x (ix3 0 r c) - mu (ix2 r 0) := by
  pointwise [devOf]

theorem sqOf_at (mu : FVec Ideal S32x1 .f32) (x : Vec Ideal S1x32x512 .bf16) (r : Fin 32) (c : Fin 512) :
    sqOf mu x (ix2 r c) = (x (ix3 0 r c) - mu (ix2 r 0)) * (x (ix3 0 r c) - mu (ix2 r 0)) := by
  pointwise [sqOf, devOf]

theorem rsOf_at (acc : FVec Ideal S32x128 .f32) (r : Fin 32) :
    rsOf acc (ix2 r 0) = Ideal.rsqrt ((∑ l : Fin 128, acc (ix2 r l)) * Row.inv + Ideal.ofBits .f32 0x358637BD#32) := by
  rw [← invD_eq]
  pointwise [rsOf, meanOf]

theorem normOf_at (mu rs : FVec Ideal S32x1 .f32) (x : Vec Ideal S1x32x512 .bf16) (g b : Vec Ideal S1x512 .f32) (r : Fin 32) (c : Fin 512) :
    normOf mu rs x g b (ix2 r c) = (x (ix3 0 r c) - mu (ix2 r 0)) * rs (ix2 r 0) * g (ix2 0 c) + b (ix2 0 c) := by
  pointwise [normOf, devOf]

theorem amaxOf_at (acc : FVec Ideal S32x128 .f32) (r : Fin 32) (l : Fin 128) :
    amaxOf acc (ix2 r l) = Finset.univ.fold max (Ideal.ofBits .f32 0xFF800000#32) (fun l : Fin 128 => acc (ix2 r l)) * Ideal.ofBits .f32 0x3B124925#32 := by
  pointwise [amaxOf]

theorem takeBit_at (v : FVec Ideal S32x128 .f32) (k : BitVec 32) (n : IVec S32x128 32) (j : S32x128.Idx) :
    takeBit v k n j = Power.step (v j) k (n j) := rfl

theorem expField_at (v : FVec Ideal S32x128 .f32) (j : S32x128.Idx) : expField v j = Power.field (v j) := by
  unfold expField Power.field
  simp only [takeBit_at]
  rfl

theorem expOf_at (v : FVec Ideal S32x128 .f32) (j : S32x128.Idx) : expOf v j = Power.expo (v j) := by
  change Scalar.select (IntOp.ori (IntOp.cmpi .eq (expField v j) 0#32) (IntOp.cmpi .eq (expField v j) 255#32)) 0#32 (IntOp.subi (expField v j) 126#32) = _
  rw [expField_at]
  rfl

theorem scaleOf_at (v : FVec Ideal S32x128 .f32) (j : S32x128.Idx) : scaleOf v j = Power.scale (v j) := by
  change Ideal.ofBits .f32 (IntOp.shli .vector (IntOp.addi 127#32 (expOf v j)) 23#32) = _
  rw [expOf_at]
  rfl

theorem invOf_at (v : FVec Ideal S32x128 .f32) (j : S32x128.Idx) : invOf v j = Power.inv (v j) := by
  change Ideal.ofBits .f32 (IntOp.shli .vector (IntOp.subi 127#32 (expOf v j)) 23#32) = _
  rw [expOf_at]
  rfl

theorem codeOf_at (inv y : FVec Ideal S32x128 .f32) (j : S32x128.Idx) :
    codeOf inv y j = min (Ideal.ofBits .f32 0x43E00000#32) (max (Ideal.ofBits .f32 0xC3E00000#32) (y j * inv j)) := rfl

theorem rotate_at (k : Fin 3) (v : FVec Ideal S1x128 .f32) (m : Fin 128) :
    dynamicRotate 1 (BitVec.ofNat 32 (32 * (k.val + 1))) none v rotates_S1x128_d1 (ix2 0 m)
      = v (ix2 0 ⟨(m.val + 128 - 32 * (k.val + 1)) % 128, Nat.mod_lt _ (by decide)⟩) := by
  match k with
  | 0 => pointwise
  | 1 => pointwise
  | 2 => pointwise

theorem rolled_at (n p : Fin 4) (v : FVec Ideal S1x128 .f32) (r : Fin 32) :
    rolled n p v (ix2 0 ⟨32 * p.val + r.val, by omega⟩) = v (ix2 0 ⟨32 * n.val + r.val, by omega⟩) := by
  have hp := p.isLt; have hn := n.isLt; have hr := r.isLt
  unfold rolled
  rcases hd : (p.val + 4 - n.val) % 4 with _ | k
  · have e : p = n := Fin.ext (by omega)
    subst e; rfl
  · refine (rotate_at ⟨k, by omega⟩ v _).trans ?_
    congr 2
    exact Fin.ext (by show (32 * p.val + r.val + 128 - 32 * (k + 1)) % 128 = 32 * n.val + r.val; omega)

theorem diag_at : ∀ (r : Fin 32) (m : Fin 128), k0_pay309 (ix2 r m) = if m.val % 32 = r.val then 1#1 else 0#1 := by
  decide +kernel
theorem shard_at : ∀ (r : Fin 32) (m : Fin 128), k0_pay310 (ix2 r m) = BitVec.ofNat 32 (m.val / 32) := by
  decide +kernel

theorem onDiag_at (n p : Fin 4) (v : Vec Ideal S1x1x128 .f32) (acc : FVec Ideal S32x128 .f32) (r : Fin 32) (m : Fin 128) :
    onDiag n p v acc (ix2 r m)
      = if m.val = 32 * p.val + r.val then v (ix3 0 0 ⟨32 * n.val + r.val, by omega⟩) else acc (ix2 r m) := by
  have hp := p.isLt; have hr := r.isLt; have hm := m.isLt
  have h : onDiag n p v acc (ix2 r m) = Scalar.select (IntOp.andi (k0_pay309 (ix2 r m)) (IntOp.cmpi .eq (k0_pay310 (ix2 r m)) (BitVec.ofNat 32 p.val)))
      (rolled n p (shapeCast S1x128 v shapeCasts_S1x1x128_S1x128) (ix2 0 m)) (acc (ix2 r m)) := by
    pointwise [onDiag]
  rw [h, diag_at, shard_at]
  by_cases hc : m.val = 32 * p.val + r.val
  · rw [if_pos hc, if_pos (by omega)]
    have e1 : m.val / 32 = p.val := by omega
    have e2 : m = ⟨32 * p.val + r.val, by omega⟩ := Fin.ext hc
    rw [e1]
    have e3 : IntOp.andi 1#1 (IntOp.cmpi .eq (BitVec.ofNat 32 p.val) (BitVec.ofNat 32 p.val)) = 1#1 := by simp [IntOp.andi, IntOp.cmpi]
    rw [e3]
    refine (show Scalar.select 1#1 _ _ = _ from if_pos rfl).trans ?_
    rw [e2, rolled_at]
    pointwise
  · rw [if_neg hc]
    have e3 : IntOp.andi (if m.val % 32 = r.val then 1#1 else 0#1) (IntOp.cmpi .eq (BitVec.ofNat 32 (m.val / 32)) (BitVec.ofNat 32 p.val)) = 0#1 := by
      by_cases h1 : m.val % 32 = r.val
      · have h2 : BitVec.ofNat 32 (m.val / 32) ≠ BitVec.ofNat 32 p.val := fun he => by
          have := congrArg BitVec.toNat he
          simp only [BitVec.toNat_ofNat] at this
          omega
        rw [if_pos h1]
        simp only [IntOp.andi, IntOp.cmpi]
        rw [beq_eq_false_iff_ne.mpr h2]
        rfl
      · rw [if_neg h1]; simp [IntOp.andi]
    rw [e3]
    exact if_neg (by decide)

/-- The left operand holds shard `p`'s scale at lane `32 p + r` of row `r`, zero elsewhere. -/
theorem lhsOf_at (n : Fin 4) (v : Fin 4 → Vec Ideal S1x1x128 .f32) (r : Fin 32) (m : Fin 128) :
    lhsOf n (v 0) (v 1) (v 2) (v 3) (ix2 r m)
      = if m.val % 32 = r.val then v ⟨m.val / 32, by omega⟩ (ix3 0 0 ⟨32 * n.val + r.val, by omega⟩) else 0 := by
  have hm := m.isLt; have hr := r.isLt
  change onDiag n 3 (v 3) (onDiag n 2 (v 2) (onDiag n 1 (v 1) (onDiag n 0 (v 0) zeros))) (ix2 r m) = _
  rw [onDiag_at, onDiag_at, onDiag_at, onDiag_at, zeros_at]
  change (if m.val = 32 * 3 + r.val then _ else if m.val = 32 * 2 + r.val then _ else if m.val = 32 * 1 + r.val then _ else if m.val = 32 * 0 + r.val then _ else _) = _
  by_cases h : m.val % 32 = r.val
  · rw [if_pos h]
    have hq : m.val / 32 = 0 ∨ m.val / 32 = 1 ∨ m.val / 32 = 2 ∨ m.val / 32 = 3 := by omega
    rcases hq with hq | hq | hq | hq
    · rw [if_neg (by omega), if_neg (by omega), if_neg (by omega), if_pos (by omega)]
      exact congrFun (congrArg v (Fin.ext hq.symm)) _
    · rw [if_neg (by omega), if_neg (by omega), if_pos (by omega)]
      exact congrFun (congrArg v (Fin.ext hq.symm)) _
    · rw [if_neg (by omega), if_pos (by omega)]
      exact congrFun (congrArg v (Fin.ext hq.symm)) _
    · rw [if_pos (by omega)]
      exact congrFun (congrArg v (Fin.ext hq.symm)) _
  · rw [if_neg h, if_neg (by omega), if_neg (by omega), if_neg (by omega), if_neg (by omega)]

end Cert.KernelIdeal.Hand

end
-- ==== Proof.Lanes.lean ====
/-
  The columns of a row as lanes, chunks and tiles: 128 lanes, 24 chunks of 512 columns, four tiles of 128 in each.
-/
module

public import Mathlib.Data.EReal.Operations
public import Mathlib.Algebra.BigOperators.Fin

@[expose] public section

namespace Cert.Hand.Lanes

open scoped BigOperators

/-- Lane `l` of tile `q` of chunk `k`. -/
def col (k : Fin 24) (q : Fin 4) (l : Fin 128) : Fin 12288 := ⟨512 * k.val + (128 * q.val + l.val), by omega⟩

def colEquiv : Fin 128 × Fin 24 × Fin 4 ≃ Fin 12288 where
  toFun x := col x.2.1 x.2.2 x.1
  invFun j := (⟨j.val % 128, by omega⟩, ⟨j.val / 512, by omega⟩, ⟨j.val % 512 / 128, by omega⟩)
  left_inv x := by
    obtain ⟨l, k, q⟩ := x
    refine Prod.ext (Fin.ext ?_) (Prod.ext (Fin.ext ?_) (Fin.ext ?_)) <;> simp only [col] <;> omega
  right_inv j := Fin.ext (by simp only [col]; omega)

/-- A sum over the columns, lane by lane. -/
theorem sum_cols (f : Fin 12288 → EReal) : ∑ l : Fin 128, ∑ k : Fin 24, ∑ q : Fin 4, f (col k q l) = ∑ j, f j := by
  rw [← Equiv.sum_comp colEquiv f, Fintype.sum_prod_type]
  exact Finset.sum_congr rfl fun l _ => (Fintype.sum_prod_type fun x : Fin 24 × Fin 4 => f (col x.1 x.2 l)).symm

theorem forall_cols (P : Fin 12288 → Prop) : (∀ l k q, P (col k q l)) ↔ ∀ j, P j :=
  ⟨fun h j => by have := h (colEquiv.symm j).1 (colEquiv.symm j).2.1 (colEquiv.symm j).2.2
                 rwa [show col _ _ _ = j from colEquiv.apply_symm_apply j] at this,
   fun h l k q => h _⟩

/-- A sum over 128 lanes whose terms off the diagonal of each group of 32 are zero. -/
theorem sum_diag (r : Fin 32) (A : Fin 4 → EReal) (P : Fin 4 → Fin 32 → EReal) :
    ∑ m : Fin 128, (if m.val % 32 = r.val then A ⟨m.val / 32, by omega⟩ else 0) * P ⟨m.val / 32, by omega⟩ ⟨m.val % 32, by omega⟩
      = P 0 r * A 0 + P 1 r * A 1 + P 2 r * A 2 + P 3 r * A 3 := by
  let e : Fin 4 × Fin 32 ≃ Fin 128 :=
    { toFun := fun x => ⟨32 * x.1.val + x.2.val, by omega⟩
      invFun := fun m => (⟨m.val / 32, by omega⟩, ⟨m.val % 32, by omega⟩)
      left_inv := fun x => by
        obtain ⟨p, u⟩ := x
        refine Prod.ext (Fin.ext ?_) (Fin.ext ?_) <;> simp only <;> omega
      right_inv := fun m => Fin.ext (by simp only; omega) }
  rw [← Equiv.sum_comp e, Fintype.sum_prod_type]
  have hp : ∀ p : Fin 4, ∑ u : Fin 32, (if (e (p, u)).val % 32 = r.val then A ⟨(e (p, u)).val / 32, by omega⟩ else 0)
      * P ⟨(e (p, u)).val / 32, by omega⟩ ⟨(e (p, u)).val % 32, by omega⟩ = P p r * A p := by
    intro p
    have he : ∀ u : Fin 32, (⟨(e (p, u)).val / 32, by omega⟩ : Fin 4) = p ∧ (⟨(e (p, u)).val % 32, by omega⟩ : Fin 32) = u := fun u =>
      ⟨Fin.ext (by show (32 * p.val + u.val) / 32 = p.val; omega), Fin.ext (by show (32 * p.val + u.val) % 32 = u.val; omega)⟩
    rw [Finset.sum_eq_single r]
    · rw [(he r).1, (he r).2, if_pos (by show (32 * p.val + r.val) % 32 = r.val; omega)]
      exact EReal.mul_comm _ _
    · intro u _ hu
      rw [if_neg (fun hc => hu (Fin.ext ?_)), zero_mul]
      have : (e (p, u)).val = 32 * p.val + u.val := rfl
      omega
    · intro h; exact absurd (Finset.mem_univ r) h
  rw [Finset.sum_congr rfl fun p _ => hp p, Fin.sum_univ_four]

end Cert.Hand.Lanes
-- ==== Proof.Ideal.Rows.lean ====
/-
  What the kernel computes over the extended reals, row by row: the residual row, and from it the mean, the normalised
  row, the scaled maximum, the codes and the scale.
-/
module

public import proofs.«01_k».proof.Proof.Ideal.Read
public import proofs.«01_k».proof.Proof.Lanes
public import Idealize.ShloMosaic.Lib.Pointwise.IndexBridge

@[expose] public section

noncomputable section

namespace Cert.KernelIdeal.Hand

open Cert.KernelIdeal Cert.KernelIdeal.Gen Cert.Hand
open Idealize.ShloMosaic
open scoped BigOperators

/-- The columns of a chunk. -/
abbrev inCol (k : Fin 24) (c : Fin 512) : Fin 12288 := ⟨512 * k.val + c.val, by omega⟩
abbrev lane (q : Fin 4) (l : Fin 128) : Fin 512 := ⟨128 * q.val + l.val, by omega⟩

/-- The lane sums after `n` chunks. -/
theorem sum_upto (v : Fin 24 → FVec Ideal S32x512 .f32) (r : Fin 32) (l : Fin 128) (n : ℕ) :
    upto (n := 24) (fun k acc => fold4 addf acc (v k)) n zeros (ix2 r l)
      = ∑ i ∈ Finset.range n, if h : i < 24 then ∑ q : Fin 4, v ⟨i, h⟩ (ix2 r (lane q l)) else 0 := by
  induction n with
  | zero => rw [Finset.sum_range_zero]; exact zeros_at r l
  | succ n ih =>
    rw [Finset.sum_range_succ, ← ih]
    by_cases h : n < 24
    · have e : upto (n := 24) (fun k acc => fold4 addf acc (v k)) (n + 1) zeros
          = fold4 addf (upto (n := 24) (fun k acc => fold4 addf acc (v k)) n zeros) (v ⟨n, h⟩) := dif_pos h
      rw [e, fold4_add_at, dif_pos h, Fin.sum_univ_four]
      rw [show (⟨l.val, by omega⟩ : Fin 512) = lane 0 l from Fin.ext (Nat.zero_add _).symm]
      simp only [add_assoc]
      rfl
    · have e : upto (n := 24) (fun k acc => fold4 addf acc (v k)) (n + 1) zeros
          = upto (n := 24) (fun k acc => fold4 addf acc (v k)) n zeros := dif_neg h
      rw [e, dif_neg h, add_zero]

theorem sum_all (v : Fin 24 → FVec Ideal S32x512 .f32) (r : Fin 32) (f : Fin 12288 → EReal) (hv : ∀ k c, v k (ix2 r c) = f (inCol k c)) :
    ∑ l : Fin 128, upto (n := 24) (fun k acc => fold4 addf acc (v k)) 24 zeros (ix2 r l) = ∑ j, f j := by
  rw [← Lanes.sum_cols f]
  refine Finset.sum_congr rfl fun l _ => ?_
  rw [sum_upto, Finset.sum_range]
  refine Finset.sum_congr rfl fun k _ => ?_
  rw [dif_pos k.isLt]
  exact Finset.sum_congr rfl fun q _ => hv k _

/-- The lane maxima after `n` chunks. -/
theorem max_upto (v : Fin 24 → FVec Ideal S32x512 .f32) (r : Fin 32) (l : Fin 128) (c : EReal) (n : ℕ) :
    upto (n := 24) (fun k acc => fold4 maximumf acc (v k)) n zeros (ix2 r l) ≤ c
      ↔ 0 ≤ c ∧ ∀ k : Fin 24, k.val < n → ∀ q, v k (ix2 r (lane q l)) ≤ c := by
  induction n with
  | zero =>
    rw [show upto (n := 24) (fun k acc => fold4 maximumf acc (v k)) 0 zeros (ix2 r l) = 0 from zeros_at r l]
    exact ⟨fun h => ⟨h, fun k hk => absurd hk (Nat.not_lt_zero _)⟩, fun h => h.1⟩
  | succ n ih =>
    by_cases h : n < 24
    · have e : upto (n := 24) (fun k acc => fold4 maximumf acc (v k)) (n + 1) zeros
          = fold4 maximumf (upto (n := 24) (fun k acc => fold4 maximumf acc (v k)) n zeros) (v ⟨n, h⟩) := dif_pos h
      rw [e, fold4_max_at, max_le_iff, max_le_iff, max_le_iff, max_le_iff, ih]
      have e0 : (⟨l.val, by omega⟩ : Fin 512) = lane 0 l := Fin.ext (Nat.zero_add _).symm
      rw [e0]
      constructor
      · rintro ⟨⟨⟨⟨⟨h0, hk⟩, q0⟩, q1⟩, q2⟩, q3⟩
        refine ⟨h0, fun k hkn q => ?_⟩
        rcases Nat.lt_succ_iff_lt_or_eq.mp hkn with hlt | heq
        · exact hk k hlt q
        · have : k = ⟨n, h⟩ := Fin.ext heq
          subst this
          match q with
          | 0 => exact q0
          | 1 => exact q1
          | 2 => exact q2
          | 3 => exact q3
      · rintro ⟨h0, hk⟩
        have hn := hk ⟨n, h⟩ (Nat.lt_succ_self n)
        exact ⟨⟨⟨⟨⟨h0, fun k hkn => hk k (Nat.lt_succ_of_lt hkn)⟩, hn 0⟩, hn 1⟩, hn 2⟩, hn 3⟩
    · have e : upto (n := 24) (fun k acc => fold4 maximumf acc (v k)) (n + 1) zeros
          = upto (n := 24) (fun k acc => fold4 maximumf acc (v k)) n zeros := dif_neg h
      rw [e, ih]
      exact and_congr_right fun _ => ⟨fun hk k _ => hk k (by omega), fun hk k hkn => hk k (by omega)⟩

/-! ## The rows -/

section
variable (X0 : Vec Ideal S4x256x12288 .fp8e4m3) (X1 : Vec Ideal S4x2x128 .f32) (X2 : Vec Ideal S1x12288 .f32) (X3 : Vec Ideal S256x12288 .bf16)
  (X4 X5 : Vec Ideal S1x12288 .f32)

/-- The batch row and the token of one of the 256 rows. -/
abbrev batchOf (i : Fin 256) : Fin 2 := ⟨i.val / 128, by omega⟩
abbrev tokenOf (i : Fin 256) : Fin 128 := ⟨i.val % 128, by omega⟩

/-- The residual row. -/
def hrow (i : Fin 256) (j : Fin 12288) : EReal :=
  X0 (ix3 0 i j) * X1 (ix3 0 (batchOf i) (tokenOf i)) + X0 (ix3 1 i j) * X1 (ix3 1 (batchOf i) (tokenOf i))
    + X0 (ix3 2 i j) * X1 (ix3 2 (batchOf i) (tokenOf i)) + X0 (ix3 3 i j) * X1 (ix3 3 (batchOf i) (tokenOf i))
    + X2 (ix2 0 j) + X3 (ix2 i j)
def grow (j : Fin 12288) : EReal := X4 (ix2 0 j)
def brow (j : Fin 12288) : EReal := X5 (ix2 0 j)

/-- Row `r` of slab `t`. -/
abbrev rowAt (t : Fin T) (r : Fin 32) : Fin 256 := rowOf ⟨t.val, slab_lt t⟩ r

theorem rS_at (b : Fin 2) (p : Fin 4) (x : Fin 128) : (rS b p).emb (ix3 0 0 x) = ix3 p b x := by
  funext a
  refine Fin.ext ?_
  rw [ValueKit.rect_emb_unit_val]
  match a with
  | 0 => exact Nat.add_zero _
  | 1 => exact Nat.add_zero _
  | 2 => exact Nat.zero_add _

theorem DL_at (t : Fin T) (r : Fin 32) (m : Fin 128) :
    DL X1 ((rLhs t).emb (ix3 0 r m))
      = if m.val % 32 = r.val then X1 (ix3 (⟨m.val / 32, by omega⟩ : Fin 4) (batchOf (rowAt t r)) (tokenOf (rowAt t r))) else 0 := by
  rw [DL_emb]
  refine Eq.trans (b := lhsAt X1 t (ix2 r m)) (by pointwise) ?_
  refine (lhsOf_at (slabN t) (fun p j => X1 ((rS (slabB t) p).emb j)) r m).trans ?_
  have ht := slab_lt t
  refine if_congr Iff.rfl ?_ rfl
  change X1 ((rS (slabB t) _).emb _) = _
  rw [rS_at]
  congr 2
  · exact Fin.ext (by show t.val / 4 = (32 * t.val + r.val) / 128; omega)
  · exact Fin.ext (by show 32 * (t.val % 4) + r.val = (32 * t.val + r.val) % 128; omega)

theorem DP_at (t : Fin T) (k : Fin 24) (p : Fin 4) (u : Fin 32) (c : Fin 512) :
    DP X0 ((rP t k).emb (ix4 0 p u c)) = X0 (ix3 p (rowAt t u) (inCol k c)) := by
  rw [emb_rP, ix3_eq_valueIdx]
  rfl
theorem DX_at (t : Fin T) (k : Fin 24) (u : Fin 32) (c : Fin 512) :
    DX X3 ((rR t k).emb (ix3 0 u c)) = X3 (ix2 (rowAt t u) (inCol k c)) := by
  rw [emb_rR, ix2_eq_valueIdx]
  rfl
theorem rB_at (k : Fin 24) (c : Fin 512) : (rB k).emb (ix2 0 c) = ix2 0 (inCol k c) := by
  rw [emb_rB, ix2_eq_valueIdx]
  rfl

theorem residAt_at (t : Fin T) (k : Fin 24) (r : Fin 32) (c : Fin 512) :
    residAt X0 X1 X2 X3 t k (ix2 r c) = hrow X0 X1 X2 X3 (rowAt t r) (inCol k c) := by
  unfold residAt
  rw [resid_at]
  have hs := Lanes.sum_diag r (fun p => X1 (ix3 p (batchOf (rowAt t r)) (tokenOf (rowAt t r)))) (fun p u => X0 (ix3 p (rowAt t u) (inCol k c)))
  have hl : (∑ m : Fin 128, DL X1 ((rLhs t).emb (ix3 0 r m)) * DP X0 ((rP t k).emb (ix4 0 ⟨m.val / 32, by omega⟩ ⟨m.val % 32, by omega⟩ c)))
      = ∑ m : Fin 128, (if m.val % 32 = r.val then X1 (ix3 (⟨m.val / 32, by omega⟩ : Fin 4) (batchOf (rowAt t r)) (tokenOf (rowAt t r))) else 0)
        * X0 (ix3 ⟨m.val / 32, by omega⟩ (rowAt t ⟨m.val % 32, by omega⟩) (inCol k c)) :=
    Finset.sum_congr rfl fun m _ => by rw [DL_at, DP_at]
  rw [hl, DX_at, rB_at]
  refine congrArg (fun s => s + X2 (ix2 0 (inCol k c)) + X3 (ix2 (rowAt t r) (inCol k c))) (Eq.trans ?_ hs)
  rfl

theorem DR_at (t : Fin T) (k : Fin 24) (r : Fin 32) (c : Fin 512) :
    DR X0 X1 X2 X3 ((rR t k).emb (ix3 0 r c)) = hrow X0 X1 X2 X3 (rowAt t r) (inCol k c) := by
  rw [DR_emb, ← residAt_at]
  pointwise

theorem muAt_at (t : Fin T) (r : Fin 32) : muAt X0 X1 X2 X3 t (ix2 r 0) = Row.mean (hrow X0 X1 X2 X3 (rowAt t r)) := by
  unfold muAt
  rw [meanOf_at]
  unfold Row.mean
  refine congrArg (fun s : EReal => s * Row.inv) ?_
  exact sum_all (fun k => extf .f32 (residAt X0 X1 X2 X3 t k) bitsLt_bf16_f32) r _ fun k c => residAt_at X0 X1 X2 X3 t k r c

theorem rsAt_at (t : Fin T) (r : Fin 32) : rsAt X0 X1 X2 X3 t (ix2 r 0) = Row.rs (hrow X0 X1 X2 X3 (rowAt t r)) := by
  unfold rsAt
  rw [rsOf_at]
  unfold Row.rs Row.var
  refine congrArg (fun s => Ideal.rsqrt (s * Row.inv + _)) ?_
  refine sum_all (fun k => sqOf (muAt X0 X1 X2 X3 t) (fun j => DR X0 X1 X2 X3 ((rR t k).emb j))) r _ fun k c => ?_
  rw [sqOf_at, DR_at, muAt_at]
  rfl

theorem normAt_at (t : Fin T) (k : Fin 24) (r : Fin 32) (c : Fin 512) :
    normAt X0 X1 X2 X3 X4 X5 t k (ix2 r c) = Row.y (hrow X0 X1 X2 X3 (rowAt t r)) (grow X4) (brow X5) (inCol k c) := by
  unfold normAt
  rw [normOf_at, DR_at, muAt_at, rsAt_at, rB_at]
  rfl

theorem amAt_at (t : Fin T) (r : Fin 32) (l : Fin 128) :
    amAt X0 X1 X2 X3 X4 X5 t (ix2 r l) = Row.v (hrow X0 X1 X2 X3 (rowAt t r)) (grow X4) (brow X5) := by
  unfold amAt
  rw [amaxOf_at]
  unfold Row.v
  refine congrArg (fun s : EReal => s * Ideal.ofBits .f32 0x3B124925#32) ?_
  refine eq_of_forall_ge_iff fun c => ?_
  rw [Row.amax_le_iff, Finset.fold_max_le, Power.bits_bot]
  have hv : ∀ (k : Fin 24) (q : Fin 4) (l : Fin 128), absf (normAt X0 X1 X2 X3 X4 X5 t k) (ix2 r (lane q l))
      = max (Row.y (hrow X0 X1 X2 X3 (rowAt t r)) (grow X4) (brow X5) (Lanes.col k q l)) (-(Row.y (hrow X0 X1 X2 X3 (rowAt t r)) (grow X4) (brow X5) (Lanes.col k q l))) := by
    intro k q l
    change max (normAt X0 X1 X2 X3 X4 X5 t k _) (-(normAt X0 X1 X2 X3 X4 X5 t k _)) = _
    rw [normAt_at]
    rfl
  rw [← Lanes.forall_cols fun j => max (Row.y (hrow X0 X1 X2 X3 (rowAt t r)) (grow X4) (brow X5) j) (-(Row.y (hrow X0 X1 X2 X3 (rowAt t r)) (grow X4) (brow X5) j)) ≤ c]
  constructor
  · rintro ⟨_, h⟩ l k q
    have := ((max_upto (fun k => absf (normAt X0 X1 X2 X3 X4 X5 t k)) r l c 24).mp (h l (Finset.mem_univ l))).2 k k.isLt q
    rwa [hv] at this
  · intro h
    refine ⟨bot_le, fun l _ => (max_upto (fun k => absf (normAt X0 X1 X2 X3 X4 X5 t k)) r l c 24).mpr ⟨?_, fun k _ q => ?_⟩⟩
    · exact (Row.abs_nonneg _).trans (h 0 0 0)
    · rw [hv]; exact h l k q

/-- The code of a value at a scale's reciprocal. -/
def code (y inv : EReal) : EReal := min (Ideal.ofBits .f32 0x43E00000#32) (max (Ideal.ofBits .f32 0xC3E00000#32) (y * inv))

theorem outR_at (i : Fin 256) (j : Fin 12288) : outR X0 X1 X2 X3 (ix2 i j) = hrow X0 X1 X2 X3 i j := by
  have h := residAt_at X0 X1 X2 X3 (slabOf (inSlab i)) (chunkOf j) (inRow i) (inChunk j)
  rw [ix2_eq_valueIdx] at h
  have e1 : rowAt (slabOf (inSlab i)) (inRow i) = i := rowOf_inSlab i
  have e2 : inCol (chunkOf j) (inChunk j) = j := Fin.ext (Nat.div_add_mod _ _)
  rw [e1, e2] at h
  exact h

theorem outC_at (i : Fin 256) (j : Fin 12288) :
    outC X0 X1 X2 X3 X4 X5 (ix2 i j) = code (Row.y (hrow X0 X1 X2 X3 i) (grow X4) (brow X5) j) (Power.inv (Row.v (hrow X0 X1 X2 X3 i) (grow X4) (brow X5))) := by
  have e1 : rowAt (slabOf (inSlab i)) (inRow i) = i := rowOf_inSlab i
  have e2 : inCol (chunkOf j) (inChunk j) = j := Fin.ext (Nat.div_add_mod _ _)
  have e3 : (rL (tileOf j)).emb (ix2 (inRow i) (inTile j)) = ValueIdx.ix2 (inRow i) j := by
    rw [emb_rL]
    refine congrArg (ValueIdx.ix2 (inRow i)) (Fin.ext (Nat.div_add_mod _ _))
  have hy : DY X0 X1 X2 X3 X4 X5 (slabOf (inSlab i)) ((rL (tileOf j)).emb (ix2 (inRow i) (inTile j))) = Row.y (hrow X0 X1 X2 X3 i) (grow X4) (brow X5) j := by
    rw [e3]
    have h := normAt_at X0 X1 X2 X3 X4 X5 (slabOf (inSlab i)) (chunkOf j) (inRow i) (inChunk j)
    rw [ix2_eq_valueIdx, e1, e2] at h
    exact h
  have hc := codeOf_at (invOf (amAt X0 X1 X2 X3 X4 X5 (slabOf (inSlab i)))) (fun l => DY X0 X1 X2 X3 X4 X5 (slabOf (inSlab i)) ((rL (tileOf j)).emb l)) (ix2 (inRow i) (inTile j))
  rw [hy, invOf_at, amAt_at, e1, ix2_eq_valueIdx (inRow i)] at hc
  exact hc

end

end Cert.KernelIdeal.Hand

end
-- ==== Proof.Ideal.Scales.lean ====
/-
  The scale result: each slab adds its 32 scales at the lanes of its tokens, in the batch row it lies in.
-/
module

public import proofs.«01_k».proof.Proof.Ideal.Rows

@[expose] public section

noncomputable section

namespace Cert.KernelIdeal.Hand

open Cert.KernelIdeal Cert.KernelIdeal.Gen Cert.Hand
open Idealize.ShloMosaic
open scoped BigOperators

theorem batchW_eq : ∀ t : Fin T, batchW (wd t) = BitVec.ofNat 32 (t.val / 4) := by decide +kernel
theorem tokenW_eq : ∀ t : Fin T, tokenW (wd t) = BitVec.ofNat 32 (32 * (t.val % 4)) := by decide +kernel

/-- A word comparison of two small numbers. -/
theorem select_word (a b : ℕ) (ha : a < 2 ^ 32) (hb : b < 2 ^ 32) (x y : EReal) :
    Scalar.select (IntOp.cmpi .eq (BitVec.ofNat 32 a) (BitVec.ofNat 32 b)) x y = if a = b then x else y := by
  by_cases h : a = b
  · subst h
    rw [if_pos rfl]
    simp [Scalar.select, IntOp.cmpi]
  · have h2 : BitVec.ofNat 32 a ≠ BitVec.ofNat 32 b := fun he => by
      have := congrArg BitVec.toNat he
      simp only [BitVec.toNat_ofNat] at this
      omega
    rw [if_neg h]
    refine if_neg fun hc => h2 ?_
    have hc' : BitVec.ofBool (BitVec.ofNat 32 a == BitVec.ofNat 32 b) = 1#1 := hc
    cases hq : (BitVec.ofNat 32 a == BitVec.ofNat 32 b) with
    | true => exact eq_of_beq hq
    | false => rw [hq] at hc'; exact absurd hc' (by decide)

theorem placed_at (t : Fin T) (s : FVec Ideal S32x128 .f32) (m : Fin 128) :
    placed laneV rowV t s (ix2 0 m) = if m.val / 32 = t.val % 4 then s (ix2 ⟨m.val % 32, by omega⟩ m) else 0 := by
  have hm := m.isLt
  have h : placed laneV rowV t s (ix2 0 m) = ∑ r : Fin 32, Scalar.select (IntOp.cmpi .eq (BitVec.ofNat 32 m.val)
      (IntOp.addi (BitVec.ofNat 32 r.val) (tokenW (wd t)))) (s (ix2 r m)) 0 := by
    pointwise [placed, laneV, rowV]
  have hr : ∀ r : Fin 32, Scalar.select (IntOp.cmpi .eq (BitVec.ofNat 32 m.val) (IntOp.addi (BitVec.ofNat 32 r.val) (tokenW (wd t)))) (s (ix2 r m)) 0
      = if m.val = r.val + 32 * (t.val % 4) then s (ix2 r m) else 0 := fun r => by
    rw [tokenW_eq, show IntOp.addi (BitVec.ofNat 32 r.val) (BitVec.ofNat 32 (32 * (t.val % 4))) = BitVec.ofNat 32 (r.val + 32 * (t.val % 4)) from
      (BitVec.ofNat_add _ _).symm]
    exact select_word _ _ (by omega) (by omega) _ _
  rw [h, Finset.sum_congr rfl fun r _ => hr r]
  by_cases hc : m.val / 32 = t.val % 4
  · rw [if_pos hc, Finset.sum_eq_single (⟨m.val % 32, by omega⟩ : Fin 32)]
    · rw [if_pos (by show m.val = m.val % 32 + 32 * (t.val % 4); omega)]
    · intro r _ hne
      exact if_neg fun he => hne (Fin.ext (by show r.val = m.val % 32; omega))
    · intro h; exact absurd (Finset.mem_univ _) h
  · rw [if_neg hc]
    exact Finset.sum_eq_zero fun r _ => if_neg fun he => hc (by omega)

theorem pay333_at (w : BitVec 32) (p : FVec Ideal S1x128 .f32) (o : Vec Ideal S2x128 .f32) (b : Fin 2) (m : Fin 128) :
    k0_pay333 w p (iota .tc S2x128 32 [0] iota_S2x128_d0_w32) o (ix2 b m)
      = o (ix2 b m) + Scalar.select (IntOp.cmpi .eq (BitVec.ofNat 32 b.val) w) (p (ix2 0 m)) 0 := by
  pointwise [k0_pay333]

section
variable (X0 : Vec Ideal S4x256x12288 .fp8e4m3) (X1 : Vec Ideal S4x2x128 .f32) (X2 : Vec Ideal S1x12288 .f32) (X3 : Vec Ideal S256x12288 .bf16)
  (X4 X5 : Vec Ideal S1x12288 .f32)

/-- The scale of one of the 256 rows. -/
def rowScale (i : Fin 256) : EReal := Power.scale (Row.v (hrow X0 X1 X2 X3 i) (grow X4) (brow X5))

theorem scaleStep_at (t : Fin T) (o : Vec Ideal S2x128 .f32) (b : Fin 2) (m : Fin 128) :
    scaleStep X0 X1 X2 X3 X4 X5 t o (ix2 b m)
      = o (ix2 b m) + if t.val = 4 * b.val + m.val / 32 then rowScale X0 X1 X2 X3 X4 X5 ⟨128 * b.val + m.val, by omega⟩ else 0 := by
  have ht := slab_lt t
  have hb := b.isLt
  have hm := m.isLt
  unfold scaleStep
  rw [pay333_at, batchW_eq, select_word _ _ (by omega) (by omega), placed_at, scaleOf_at, amAt_at]
  congr 1
  by_cases h : t.val = 4 * b.val + m.val / 32
  · rw [if_pos h, if_pos (by omega), if_pos (by omega)]
    unfold rowScale
    rw [show rowAt t ⟨m.val % 32, by omega⟩ = ⟨128 * b.val + m.val, by omega⟩ from
      Fin.ext (by show 32 * t.val + m.val % 32 = 128 * b.val + m.val; omega)]
  · rw [if_neg h]
    by_cases h1 : b.val = t.val / 4
    · rw [if_pos h1, if_neg (by omega)]
    · rw [if_neg h1]

theorem DS_upto (b : Fin 2) (m : Fin 128) (n : ℕ) (hn : n ≤ 8) :
    DS X0 X1 X2 X3 X4 X5 n (ix2 b m)
      = if 4 * b.val + m.val / 32 < n then rowScale X0 X1 X2 X3 X4 X5 ⟨128 * b.val + m.val, by omega⟩ else 0 := by
  induction n with
  | zero =>
    rw [if_neg (Nat.not_lt_zero _)]
    refine Eq.trans (b := k0_pay332 (F := Ideal) (ix2 b m)) rfl ?_
    pointwise [k0_pay332]
  | succ n ih =>
    have hT : n < T := by rw [show T = 8 from trips_eq]; omega
    have e : DS X0 X1 X2 X3 X4 X5 (n + 1) = scaleStep X0 X1 X2 X3 X4 X5 ⟨n, hT⟩ (DS X0 X1 X2 X3 X4 X5 n) := upto_succ _ ⟨n, hT⟩ _
    rw [e, scaleStep_at, ih (by omega)]
    show _ + (if n = _ then _ else _) = _
    rcases lt_trichotomy (4 * b.val + m.val / 32) n with h | h | h
    · rw [if_pos h, if_neg (by omega), if_pos (by omega), add_zero]
    · rw [if_neg (by omega), if_pos h.symm, if_pos (by omega), zero_add]
    · rw [if_neg (by omega), if_neg (by omega), if_neg (by omega), add_zero]

/-- After all slabs each row has its scale. -/
theorem DS_at (b : Fin 2) (m : Fin 128) :
    DS X0 X1 X2 X3 X4 X5 T (ix2 b m) = rowScale X0 X1 X2 X3 X4 X5 ⟨128 * b.val + m.val, by omega⟩ := by
  rw [show T = 8 from trips_eq, DS_upto _ _ _ _ _ _ b m 8 le_rfl, if_pos (by omega)]

end

end Cert.KernelIdeal.Hand

end
-- ==== Proof.Reference.lean ====
/-
  What the reference computes over the extended reals, at one token and one column: the residual row, and from it the
  normalised row, the exponent of its scale, the scale and the codes.
-/
module

public import proofs.«01_k».proof.Proof.Gen.ReferenceIdeal.Frame
public import proofs.«01_k».proof.Proof.Row
public import Idealize.ShloMosaic.Lib.Pointwise
public import Idealize.ShloMosaic.Lib.Pipeline.ValueKit

@[expose] public section

noncomputable section

namespace Cert.ReferenceIdeal.Hand

open Cert.ReferenceIdeal Cert.ReferenceIdeal.Gen Cert.Hand
open Idealize.ShloMosaic
open scoped BigOperators

/-! ## The steps -/

section
variable (v25 v28 : FVec Ideal S2x128x12288 .f32) (v31 : FVec Ideal S2x128x1 .f32) (v35 : Vec Ideal S12288 .f32) (v39 : Vec Ideal S2x128x12288 .bf16)
  (v60 v64 : Vec Ideal S12288 .f32)

/-- The residual row of the fourth shard's product and the rest. -/
def res (b : Fin 2) (s : Fin 128) (j : Fin 12288) : EReal :=
  v25 (ix3 b s j) + v28 (ix3 b s j) * v31 (ix3 b s 0) + v35 (ix1 j) + v39 (ix3 b s j)

theorem pay7_at (b : Fin 2) (s : Fin 128) (j : Fin 12288) : k0_pay7 v25 v28 v31 v35 v39 (ix3 b s j) = res v25 v28 v31 v35 v39 b s j := by
  unfold res
  pointwise [k0_pay7]

theorem div_len (x : EReal) : Ideal.div x (Ideal.ofBits .f32 0x46400000#32) = x * Row.inv := by
  rw [Power.bits_len, Ideal.div_coe (by norm_num)]
  rfl

theorem pay8_at (b : Fin 2) (s : Fin 128) (j : Fin 12288) :
    k0_pay8 v25 v28 v31 v35 v39 v60 v64 (ix3 b s j)
      = Row.y (res v25 v28 v31 v35 v39 b s) (fun j => v60 (ix1 j)) (fun j => v64 (ix1 j)) j := by
  have h : ∀ P : FVec Ideal S2x128x12288 .bf16, P = k0_pay7 v25 v28 v31 v35 v39 →
      k0_pay8 v25 v28 v31 v35 v39 v60 v64 (ix3 b s j)
        = (P (ix3 b s j) - Ideal.div (∑ k : Fin 12288, P (ix3 b s k)) (Ideal.ofBits .f32 0x46400000#32))
          * Ideal.rsqrt (Ideal.div (∑ l : Fin 12288, (P (ix3 b s l) - Ideal.div (∑ k : Fin 12288, P (ix3 b s k)) (Ideal.ofBits .f32 0x46400000#32))
              * (P (ix3 b s l) - Ideal.div (∑ k : Fin 12288, P (ix3 b s k)) (Ideal.ofBits .f32 0x46400000#32))) (Ideal.ofBits .f32 0x46400000#32)
            + Ideal.ofBits .f32 0x358637BD#32) * v60 (ix1 j) + v64 (ix1 j) := by
    intro P hP
    unfold k0_pay8
    rw [← hP]
    pointwise
  rw [h _ rfl]
  simp only [pay7_at, div_len]
  rfl

theorem max_at (P : FVec Ideal S2x128x12288 .f32) (b : Fin 2) (s : Fin 128) :
    multiReduction .maximumf [2] S2x128 P 0xFF800000#32 reduces_S2x128x12288_S2x128 (.inl rfl) rfl (ix2 b s)
      = Finset.univ.fold max (Ideal.ofBits .f32 0xFF800000#32) (fun j : Fin 12288 => P (ix3 b s j)) := by
  pointwise

theorem abs_at (P : FVec Ideal S2x128x12288 .f32) (i : S2x128x12288.Idx) : absf P i = max (P i) (-(P i)) := rfl

theorem pay9_at (b : Fin 2) (s : Fin 128) :
    k0_pay9 v25 v28 v31 v35 v39 v60 v64 (ix2 b s)
      = Row.v (res v25 v28 v31 v35 v39 b s) (fun j => v60 (ix1 j)) (fun j => v64 (ix1 j)) := by
  have h : ∀ M : FVec Ideal S2x128 .f32, M = multiReduction .maximumf [2] S2x128 (absf (k0_pay8 v25 v28 v31 v35 v39 v60 v64)) 0xFF800000#32 reduces_S2x128x12288_S2x128 (.inl rfl) rfl →
      k0_pay9 v25 v28 v31 v35 v39 v60 v64 (ix2 b s) = M (ix2 b s) * Ideal.ofBits .f32 0x3B124925#32 := by
    intro M hM
    unfold k0_pay9
    rw [← hM]
    pointwise
  refine (h _ rfl).trans (congrArg (fun x : EReal => x * Ideal.ofBits .f32 0x3B124925#32) ?_)
  refine (max_at _ b s).trans ?_
  rw [Power.bits_bot]
  unfold Row.amax
  refine congrArg (fun f : Fin 12288 → EReal => Finset.univ.fold max ⊥ f) (funext fun j => ?_)
  rw [abs_at, pay8_at]

theorem pay10_at (b : Fin 2) (s : Fin 128) :
    k0_pay10 v25 v28 v31 v35 v39 v60 v64 (ix2 b s)
      = Ideal.cmp .olt (Row.v (res v25 v28 v31 v35 v39 b s) (fun j => v60 (ix1 j)) (fun j => v64 (ix1 j))) (Ideal.ofBits .f32 0x00800000#32) := by
  have h : ∀ P : FVec Ideal S2x128 .f32, P = k0_pay9 v25 v28 v31 v35 v39 v60 v64 →
      k0_pay10 v25 v28 v31 v35 v39 v60 v64 (ix2 b s) = Ideal.cmp .olt (P (ix2 b s)) (Ideal.ofBits .f32 0x00800000#32) := by
    intro P hP
    unfold k0_pay10
    rw [← hP]
    pointwise
  exact (h _ rfl).trans (congrArg (fun x : EReal => Ideal.cmp .olt x (Ideal.ofBits .f32 0x00800000#32)) (pay9_at v25 v28 v31 v35 v39 v60 v64 b s))

theorem log2_eq : (Named.named κ "log_2" 0x3F317218#32 : Ideal .f32) = ((Real.log 2 : ℝ) : EReal) :=
  IdealRules.named_const.ideal_named_scalar _ _ _ _ rfl

theorem pay11_at (b : Fin 2) (s : Fin 128) :
    k0_pay11 v25 v28 v31 v35 v39 v60 v64 (ix2 b s)
      = Ideal.div (Ideal.log (Row.v (res v25 v28 v31 v35 v39 b s) (fun j => v60 (ix1 j)) (fun j => v64 (ix1 j)))) ((Real.log 2 : ℝ) : EReal) := by
  have h : ∀ P : FVec Ideal S2x128 .f32, P = k0_pay9 v25 v28 v31 v35 v39 v60 v64 →
      k0_pay11 v25 v28 v31 v35 v39 v60 v64 (ix2 b s) = Ideal.div (Ideal.log (P (ix2 b s))) (Named.named κ "log_2" 0x3F317218#32 : Ideal .f32) := by
    intro P hP
    unfold k0_pay11
    rw [← hP]
    rfl
  refine (h _ rfl).trans ?_
  rw [log2_eq]
  exact congrArg (fun x : EReal => Ideal.div (Ideal.log x) ((Real.log 2 : ℝ) : EReal)) (pay9_at v25 v28 v31 v35 v39 v60 v64 b s)

end

/-! ## The exponent, the scale and the codes -/

section
variable (v67 : FVec Ideal S2x128x12288 .f32) (v73 : IVec S2x128 1) (v76 : FVec Ideal S2x128 .f32)

theorem pay1_at (b : Fin 2) (s : Fin 128) (v : EReal) (h73 : v73 (ix2 b s) = Ideal.cmp .olt v (Ideal.ofBits .f32 0x00800000#32))
    (h76 : v76 (ix2 b s) = Ideal.div (Ideal.log v) ((Real.log 2 : ℝ) : EReal)) : k0_pay1 v73 v76 (ix2 b s) = Power.logExp v := by
  have h : k0_pay1 v73 v76 (ix2 b s) = Scalar.select (v73 (ix2 b s)) 0 (Ideal.liftRound Int.floor (v76 (ix2 b s)) + Ideal.ofBits .f32 0x3F800000#32) := by
    pointwise [k0_pay1]
  rw [h, h73, h76, Power.bits_one]
  rfl

theorem pay2_at (b : Fin 2) (s : Fin 128) : k0_pay2 v73 v76 (ix2 b s) = Ideal.exp2 (k0_pay1 v73 v76 (ix2 b s)) := rfl

theorem pay3_at (b : Fin 2) (s : Fin 128) (j : Fin 12288) :
    k0_pay3 v67 v73 v76 (ix3 b s j) = min (Ideal.ofBits .f32 0x43E00000#32) (max (Ideal.ofBits .f32 0xC3E00000#32)
      (v67 (ix3 b s j) * Ideal.exp2 (0 - k0_pay1 v73 v76 (ix2 b s)))) := by
  have h : ∀ E : FVec Ideal S2x128 .f32, E = k0_pay1 v73 v76 →
      k0_pay3 v67 v73 v76 (ix3 b s j) = min (Ideal.ofBits .f32 0x43E00000#32) (max (Ideal.ofBits .f32 0xC3E00000#32)
        (v67 (ix3 b s j) * Ideal.exp2 (0 - E (ix2 b s)))) := by
    intro E hE
    unfold k0_pay3
    rw [← hE]
    pointwise
    rfl
  exact h _ rfl

end

/-! ## The three results -/

section
variable (x0 : Vec Ideal S4x2x128x12288 .fp8e4m3) (x1 : Vec Ideal S4x2x128 .f32) (x2 : Vec Ideal S12288 .f32) (x3 : Vec Ideal S2x128x12288 .bf16)
  (x4 x5 : Vec Ideal S12288 .f32)

/-- The residual row. -/
def href (b : Fin 2) (s : Fin 128) (j : Fin 12288) : EReal :=
  x0 (ix4 0 b s j) * x1 (ix3 0 b s) + x0 (ix4 1 b s j) * x1 (ix3 1 b s) + x0 (ix4 2 b s j) * x1 (ix3 2 b s) + x0 (ix4 3 b s j) * x1 (ix3 3 b s)
    + x2 (ix1 j) + x3 (ix3 b s j)

theorem pay12_at (b : Fin 2) (s : Fin 128) (j : Fin 12288) : k0_pay12 x0 x1 x2 x3 x4 x5 (ix3 b s j)
    = x0 (ix4 0 b s j) * x1 (ix3 0 b s) + x0 (ix4 1 b s j) * x1 (ix3 1 b s) + x0 (ix4 2 b s j) * x1 (ix3 2 b s) := by
  pointwise [k0_pay12, k0_pay4]

theorem pay13_at (b : Fin 2) (s : Fin 128) (j : Fin 12288) : k0_pay13 x0 x1 x2 x3 x4 x5 (ix3 b s j) = x0 (ix4 3 b s j) := by
  pointwise [k0_pay13, k0_pay5]

theorem pay14_at (b : Fin 2) (s : Fin 128) : k0_pay14 x0 x1 x2 x3 x4 x5 (ix3 b s 0) = x1 (ix3 3 b s) := by
  pointwise [k0_pay14, k0_pay6]

theorem ld12288 (x : Vec Ideal S12288 .f32) : View.ld x r0_8 = x := by
  funext j
  obtain ⟨i, rfl⟩ : ∃ i, j = ix1 i := ⟨j 0, eq_ix1 j⟩
  pointwise

theorem ldWhole (x : Vec Ideal S2x128x12288 .bf16) (b : Fin 2) (s : Fin 128) (j : Fin 12288) : View.ld x r0_9 (ix3 b s j) = x (ix3 b s j) := by
  pointwise

theorem res_eq : res (k0_pay12 x0 x1 x2 x3 x4 x5) (k0_pay13 x0 x1 x2 x3 x4 x5) (k0_pay14 x0 x1 x2 x3 x4 x5) (View.ld x2 r0_8) (View.ld x3 r0_9)
    = href x0 x1 x2 x3 := by
  funext b s j
  unfold res href
  rw [pay12_at, pay13_at, pay14_at, ld12288, ldWhole]

/-- A row's scaled maximum. -/
def vref (b : Fin 2) (s : Fin 128) : EReal := Row.v (href x0 x1 x2 x3 b s) (fun j => x4 (ix1 j)) (fun j => x5 (ix1 j))

theorem pay15_at (b : Fin 2) (s : Fin 128) :
    k0_pay15 x0 x1 x2 x3 x4 x5 (ix2 b s) = Ideal.cmp .olt (vref x0 x1 x2 x3 x4 x5 b s) (Ideal.ofBits .f32 0x00800000#32) := by
  unfold k0_pay15 vref
  rw [pay10_at, res_eq, ld12288, ld12288]

theorem pay16_at (b : Fin 2) (s : Fin 128) :
    k0_pay16 x0 x1 x2 x3 x4 x5 (ix2 b s) = Ideal.div (Ideal.log (vref x0 x1 x2 x3 x4 x5 b s)) ((Real.log 2 : ℝ) : EReal) := by
  unfold k0_pay16 vref
  rw [pay11_at, res_eq, ld12288, ld12288]

theorem exponent_at (b : Fin 2) (s : Fin 128) :
    k0_pay1 (k0_pay15 x0 x1 x2 x3 x4 x5) (k0_pay16 x0 x1 x2 x3 x4 x5) (ix2 b s) = Power.logExp (vref x0 x1 x2 x3 x4 x5 b s) :=
  pay1_at _ _ _ _ _ (pay15_at x0 x1 x2 x3 x4 x5 b s) (pay16_at x0 x1 x2 x3 x4 x5 b s)

theorem out6_at (b : Fin 2) (s : Fin 128) (j : Fin 12288) : out0_6 x0 x1 x2 x3 x4 x5 (ix3 b s j) = href x0 x1 x2 x3 b s j := by
  rw [← res_eq x0 x1 x2 x3 x4 x5, ← pay7_at]
  unfold out0_6
  rw [View.canon_cons_unit_lit _ _ _ (by decide)]

theorem out7_at (b : Fin 2) (s : Fin 128) (j : Fin 12288) : out0_7 x0 x1 x2 x3 x4 x5 (ix3 b s j)
    = min (Ideal.ofBits .f32 0x43E00000#32) (max (Ideal.ofBits .f32 0xC3E00000#32)
      (Row.y (href x0 x1 x2 x3 b s) (fun j => x4 (ix1 j)) (fun j => x5 (ix1 j)) j * Ideal.exp2 (0 - Power.logExp (vref x0 x1 x2 x3 x4 x5 b s)))) := by
  unfold out0_7
  rw [View.canon_cons_unit_lit _ _ _ (by decide), pay3_at, exponent_at, pay8_at, res_eq, ld12288, ld12288]

theorem out8_at (b : Fin 2) (s : Fin 128) : out0_8 x0 x1 x2 x3 x4 x5 (ix2 b s) = Ideal.exp2 (Power.logExp (vref x0 x1 x2 x3 x4 x5 b s)) := by
  unfold out0_8
  rw [View.canon_cons_unit_lit _ _ _ (by decide), pay2_at, exponent_at]

end

end Cert.ReferenceIdeal.Hand

end
-- ==== Proof.Equal.lean ====
/-
  The kernel's three results and the reference's are equal, index by index.
-/
module

public import proofs.«01_k».proof.Proof.Ideal.Scales
public import proofs.«01_k».proof.Proof.Reference
public import proofs.«01_k».proof.Proof.Ideal.Launch

@[expose] public section

noncomputable section

namespace Cert.Hand

open Cert.KernelIdeal Cert.KernelIdeal.Gen Cert.KernelIdeal.Hand
open Idealize.ShloMosaic

/-- Row `128 b + s` of the 256 rows. -/
abbrev flat (b : Fin 2) (s : Fin 128) : Fin 256 := ⟨128 * b.val + s.val, by omega⟩

theorem batchOf_flat (b : Fin 2) (s : Fin 128) : batchOf (flat b s) = b := Fin.ext (by show (128 * b.val + s.val) / 128 = b.val; omega)
theorem tokenOf_flat (b : Fin 2) (s : Fin 128) : tokenOf (flat b s) = s := Fin.ext (by show (128 * b.val + s.val) % 128 = s.val; omega)

section
variable {α : Type}

theorem shards_at (x : S4x2x128x12288.Idx → α) (p : Fin 4) (b : Fin 2) (s : Fin 128) (j : Fin 12288) :
    shapeCast S4x256x12288 x shapeCasts_S4x2x128x12288_S4x256x12288 (ix3 p (flat b s) j) = x (ix4 p b s j) := by
  refine Eq.trans (b := x (ix4 p (batchOf (flat b s)) (tokenOf (flat b s)) j)) (by pointwise) ?_
  rw [batchOf_flat, tokenOf_flat]

theorem row_at (x : S12288.Idx → α) (j : Fin 12288) : shapeCast S1x12288 x shapeCasts_S12288_S1x12288 (ix2 0 j) = x (ix1 j) := by
  pointwise

theorem rows_at (x : S2x128x12288.Idx → α) (b : Fin 2) (s : Fin 128) (j : Fin 12288) :
    shapeCast S256x12288 x shapeCasts_S2x128x12288_S256x12288 (ix2 (flat b s) j) = x (ix3 b s j) := by
  refine Eq.trans (b := x (ix3 (batchOf (flat b s)) (tokenOf (flat b s)) j)) (by pointwise) ?_
  rw [batchOf_flat, tokenOf_flat]

theorem unrows_at (x : S256x12288.Idx → α) (b : Fin 2) (s : Fin 128) (j : Fin 12288) :
    shapeCast S2x128x12288 x shapeCasts_S256x12288_S2x128x12288 (ix3 b s j) = x (ix2 (flat b s) j) := by
  refine Eq.trans (b := x (ix2 ⟨b.val * 128 + s.val, by omega⟩ j)) (by pointwise) ?_
  exact congrArg (fun i => x (ix2 i j)) (Fin.ext (by show b.val * 128 + s.val = 128 * b.val + s.val; omega))
end

section
variable (x0 : Vec Ideal S4x2x128x12288 .fp8e4m3) (x1 : Vec Ideal S4x2x128 .f32) (x2 : Vec Ideal S12288 .f32) (x3 : Vec Ideal S2x128x12288 .bf16)
  (x4 x5 : Vec Ideal S12288 .f32)

/-! The kernel's arrays, each a reshape of an argument. -/

abbrev k0 : Vec Ideal S4x256x12288 .fp8e4m3 := shapeCast S4x256x12288 x0 shapeCasts_S4x2x128x12288_S4x256x12288
abbrev k1 (x : Vec Ideal S12288 .f32) : Vec Ideal S1x12288 .f32 := shapeCast S1x12288 x shapeCasts_S12288_S1x12288
abbrev k3 : Vec Ideal S256x12288 .bf16 := shapeCast S256x12288 x3 shapeCasts_S2x128x12288_S256x12288

theorem hrow_eq (b : Fin 2) (s : Fin 128) : hrow (k0 x0) x1 (k1 x2) (k3 x3) (flat b s) = ReferenceIdeal.Hand.href x0 x1 x2 x3 b s := by
  funext j
  unfold hrow ReferenceIdeal.Hand.href k0 k1 k3
  rw [shards_at, shards_at, shards_at, shards_at, batchOf_flat, tokenOf_flat, row_at, rows_at]

theorem gain_eq (x : Vec Ideal S12288 .f32) : grow (k1 x) = fun j => x (ix1 j) := funext fun j => row_at x j
theorem shift_eq (x : Vec Ideal S12288 .f32) : brow (k1 x) = fun j => x (ix1 j) := funext fun j => row_at x j

/-- A row's scale, built from its exponent field, is the power of two that the reference raises to, and so is its inverse. -/
theorem scale_eq (h4 : ∀ i, Row.Small (x4 i)) (h5 : ∀ i, Row.Small (x5 i)) (b : Fin 2) (s : Fin 128) :
    Power.scale (ReferenceIdeal.Hand.vref x0 x1 x2 x3 x4 x5 b s) = Ideal.exp2 (Power.logExp (ReferenceIdeal.Hand.vref x0 x1 x2 x3 x4 x5 b s))
    ∧ Power.inv (ReferenceIdeal.Hand.vref x0 x1 x2 x3 x4 x5 b s) = Ideal.exp2 (0 - Power.logExp (ReferenceIdeal.Hand.vref x0 x1 x2 x3 x4 x5 b s)) :=
  Power.scale_eq _ (Row.v_nonneg _ _ _) (Row.v_lt _ _ _ (fun j => h4 _) (fun j => h5 _))

theorem residual_eq : shapeCast S2x128x12288 (outR (k0 x0) x1 (k1 x2) (k3 x3)) shapeCasts_S256x12288_S2x128x12288
    = ReferenceIdeal.Gen.out0_6 x0 x1 x2 x3 x4 x5 := by
  funext i
  obtain ⟨b, s, j, rfl⟩ : ∃ b s j, i = ix3 b s j := ⟨i 0, i 1, i 2, eq_ix3 i⟩
  rw [unrows_at, outR_at, hrow_eq]
  exact (ReferenceIdeal.Hand.out6_at x0 x1 x2 x3 x4 x5 b s j).symm

theorem codes_eq (h4 : ∀ i, Row.Small (x4 i)) (h5 : ∀ i, Row.Small (x5 i)) :
    shapeCast S2x128x12288 (outC (k0 x0) x1 (k1 x2) (k3 x3) (k1 x4) (k1 x5)) shapeCasts_S256x12288_S2x128x12288
      = ReferenceIdeal.Gen.out0_7 x0 x1 x2 x3 x4 x5 := by
  funext i
  obtain ⟨b, s, j, rfl⟩ : ∃ b s j, i = ix3 b s j := ⟨i 0, i 1, i 2, eq_ix3 i⟩
  rw [unrows_at, outC_at, hrow_eq, gain_eq, shift_eq]
  refine Eq.trans ?_ (ReferenceIdeal.Hand.out7_at x0 x1 x2 x3 x4 x5 b s j).symm
  rw [← (scale_eq x0 x1 x2 x3 x4 x5 h4 h5 b s).2]
  unfold code ReferenceIdeal.Hand.vref
  with_reducible rfl

theorem scales_eq (h4 : ∀ i, Row.Small (x4 i)) (h5 : ∀ i, Row.Small (x5 i)) :
    DS (k0 x0) x1 (k1 x2) (k3 x3) (k1 x4) (k1 x5) T = ReferenceIdeal.Gen.out0_8 x0 x1 x2 x3 x4 x5 := by
  funext i
  obtain ⟨b, s, rfl⟩ : ∃ b s, i = ix2 b s := ⟨i 0, i 1, eq_ix2 i⟩
  rw [DS_at]
  refine Eq.trans ?_ (ReferenceIdeal.Hand.out8_at x0 x1 x2 x3 x4 x5 b s).symm
  rw [← (scale_eq x0 x1 x2 x3 x4 x5 h4 h5 b s).1]
  unfold rowScale ReferenceIdeal.Hand.vref
  rw [hrow_eq, gain_eq, shift_eq]

end

end Cert.Hand

end
-- ==== Proof.ReferenceRun.lean ====
/-
  The reference's run over the extended reals: its three results are what its body leaves from its six arguments.
-/
module

public import proofs.«01_k».proof.Proof.Gen.ReferenceIdeal.Frame
public import Idealize.ShloMosaic.Lib.Pipeline.ValueKit
public import Idealize.ShloMosaic.Lib.Pipeline.ValueKit.Point

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem index_0 : ∀ t : Fin grid0.N, win0_0.index t = ![0, 0, 0, 0] := by decide +kernel
theorem index_1 : ∀ t : Fin grid0.N, win0_1.index t = ![0, 0, 0] := by decide +kernel
theorem index_2 : ∀ t : Fin grid0.N, win0_2.index t = ![0] := by decide +kernel
theorem index_3 : ∀ t : Fin grid0.N, win0_3.index t = ![0, 0, 0] := by decide +kernel
theorem index_4 : ∀ t : Fin grid0.N, win0_4.index t = ![0] := by decide +kernel
theorem index_5 : ∀ t : Fin grid0.N, win0_5.index t = ![0] := by decide +kernel

/-! Each input window's block is its whole array. -/

theorem iblk_0 (c : Dev nD) (t : Fin cfg0.N) : iblk m c 0 t = m ((c : Thread nD τ).loc main_arg0) := by
  funext y; blk_ext! [iblk, V, index_0 t]
theorem iblk_1 (c : Dev nD) (t : Fin cfg0.N) : iblk m c 1 t = m ((c : Thread nD τ).loc main_arg1) := by
  funext y; blk_ext! [iblk, V, index_1 t]
theorem iblk_2 (c : Dev nD) (t : Fin cfg0.N) : iblk m c 2 t = m ((c : Thread nD τ).loc main_arg2) := by
  funext y; blk_ext! [iblk, V, index_2 t]
theorem iblk_3 (c : Dev nD) (t : Fin cfg0.N) : iblk m c 3 t = m ((c : Thread nD τ).loc main_arg3) := by
  funext y; blk_ext! [iblk, V, index_3 t]
theorem iblk_4 (c : Dev nD) (t : Fin cfg0.N) : iblk m c 4 t = m ((c : Thread nD τ).loc main_arg4) := by
  funext y; blk_ext! [iblk, V, index_4 t]
theorem iblk_5 (c : Dev nD) (t : Fin cfg0.N) : iblk m c 5 t = m ((c : Thread nD τ).loc main_arg5) := by
  funext y; blk_ext! [iblk, V, index_5 t]

abbrev A0 (c : Dev nD) : Vec Ideal S4x2x128x12288 .fp8e4m3 := m ((c : Thread nD τ).loc main_arg0)
abbrev A1 (c : Dev nD) : Vec Ideal S4x2x128 .f32 := m ((c : Thread nD τ).loc main_arg1)
abbrev A2 (c : Dev nD) : Vec Ideal S12288 .f32 := m ((c : Thread nD τ).loc main_arg2)
abbrev A3 (c : Dev nD) : Vec Ideal S2x128x12288 .bf16 := m ((c : Thread nD τ).loc main_arg3)
abbrev A4 (c : Dev nD) : Vec Ideal S12288 .f32 := m ((c : Thread nD τ).loc main_arg4)
abbrev A5 (c : Dev nD) : Vec Ideal S12288 .f32 := m ((c : Thread nD τ).loc main_arg5)

theorem final_6 (c : Dev nD) : (dats m 0 c).arrAt 6 cfg0.N = out0_6 (A0 m c) (A1 m c) (A2 m c) (A3 m c) (A4 m c) (A5 m c) := by
  refine (dats m 0 c).arrAt_eq_of_after_last 6 t0_0 (by decide +kernel) _ (fun j => ?_)
  blk_simp
  rw [after0_6, iblk_0, iblk_1, iblk_2, iblk_3, iblk_4, iblk_5]
theorem final_7 (c : Dev nD) : (dats m 0 c).arrAt 7 cfg0.N = out0_7 (A0 m c) (A1 m c) (A2 m c) (A3 m c) (A4 m c) (A5 m c) := by
  refine (dats m 0 c).arrAt_eq_of_after_last 7 t0_0 (by decide +kernel) _ (fun j => ?_)
  blk_simp
  rw [after0_7, iblk_0, iblk_1, iblk_2, iblk_3, iblk_4, iblk_5]
theorem final_8 (c : Dev nD) : (dats m 0 c).arrAt 8 cfg0.N = out0_8 (A0 m c) (A1 m c) (A2 m c) (A3 m c) (A4 m c) (A5 m c) := by
  refine (dats m 0 c).arrAt_eq_of_after_last 8 t0_0 (by decide +kernel) _ (fun j => ?_)
  rw [after0_8, iblk_0, iblk_1, iblk_2, iblk_3, iblk_4, iblk_5]; rfl

theorem run : θ_run defs (onTc (τ := τ) (main (F := Ideal))) ⟨m, fun _ => 0, ρ⟩ (fun r => ∀ c : Dev nD,
      (r.2.mem ((c.tc : Thread nD τ).loc main_v0_0) = out0_6 (A0 m c) (A1 m c) (A2 m c) (A3 m c) (A4 m c) (A5 m c)
      ∧ r.2.mem ((c.tc : Thread nD τ).loc main_v0_1) = out0_7 (A0 m c) (A1 m c) (A2 m c) (A3 m c) (A4 m c) (A5 m c)
      ∧ r.2.mem ((c.tc : Thread nD τ).loc main_v0_2) = out0_8 (A0 m c) (A1 m c) (A2 m c) (A3 m c) (A4 m c) (A5 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨⟨((h.1 c).1 6).trans (final_6 m c), ((h.1 c).1 7).trans (final_7 m c), ((h.1 c).1 8).trans (final_8 m c)⟩, h.2 c⟩)
    (θ_run_and (run_main m ρ) (unchanged m ρ))

end Cert.ReferenceIdeal.Hand

end
-- ==== Proof.Algebra.lean ====
/-
  The kernel and the reference, from memories that agree on the arguments, end with equal results.
-/
module

public import proofs.«01_k».proof.Proof.Equal
public import proofs.«01_k».proof.Proof.ReferenceRun

@[expose] public section

noncomputable section

namespace Cert.Hand

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

abbrev a0 (c : Dev nD) : Vec Ideal S4x2x128x12288 .fp8e4m3 := m ((c : Thread nD τ).loc main_arg0)
abbrev a1 (c : Dev nD) : Vec Ideal S4x2x128 .f32 := m ((c : Thread nD τ).loc main_arg1)
abbrev a2 (c : Dev nD) : Vec Ideal S12288 .f32 := m ((c : Thread nD τ).loc main_arg2)
abbrev a3 (c : Dev nD) : Vec Ideal S2x128x12288 .bf16 := m ((c : Thread nD τ).loc main_arg3)
abbrev a4 (c : Dev nD) : Vec Ideal S12288 .f32 := m ((c : Thread nD τ).loc main_arg4)
abbrev a5 (c : Dev nD) : Vec Ideal S12288 .f32 := m ((c : Thread nD τ).loc main_arg5)

theorem resR_eq (c : Dev nD) : shapeCast S2x128x12288 (resR m c) shapeCasts_S256x12288_S2x128x12288
    = ReferenceIdeal.Gen.out0_6 (a0 m c) (a1 m c) (a2 m c) (a3 m c) (a4 m c) (a5 m c) := by
  rw [← residual_eq]
  unfold resR
  rw [V_main_v0, V_main_v1, V_main_v2, V_main_arg1]

theorem resC_eq (c : Dev nD) (h4 : ∀ i, Row.Small (a4 m c i)) (h5 : ∀ i, Row.Small (a5 m c i)) :
    shapeCast S2x128x12288 (resC m c) shapeCasts_S256x12288_S2x128x12288
      = ReferenceIdeal.Gen.out0_7 (a0 m c) (a1 m c) (a2 m c) (a3 m c) (a4 m c) (a5 m c) := by
  rw [← codes_eq _ _ _ _ _ _ h4 h5]
  unfold resC
  rw [V_main_v0, V_main_v1, V_main_v2, V_main_v3, V_main_v4, V_main_arg1]

theorem resS_eq (c : Dev nD) (h4 : ∀ i, Row.Small (a4 m c i)) (h5 : ∀ i, Row.Small (a5 m c i)) :
    resS m c = ReferenceIdeal.Gen.out0_8 (a0 m c) (a1 m c) (a2 m c) (a3 m c) (a4 m c) (a5 m c) := by
  rw [← scales_eq _ _ _ _ _ _ h4 h5]
  unfold resS
  rw [V_main_v0, V_main_v1, V_main_v2, V_main_v3, V_main_v4, V_main_arg1]

end Cert.Hand

end
-- ==== Proof.Precondition.lean ====
/-
  The precondition read back: every entry of the gain and of the shift is a finite single-precision number.
-/
module

public import proofs.«01_k».proof.Pre_finite_affine
public import proofs.«01_k».proof.Proof.Row
public import Idealize.ShloMosaic.Lib.ReduceAll

@[expose] public section

noncomputable section

namespace Cert.Pre_finite_affine.Hand

open Cert.Pre_finite_affine Cert.Hand
open Idealize.ShloMosaic

theorem facts : Cert.Pre_finite_affine.Facts where
  bcast_S_S12288 := by decide
  reducesTo_S12288_S_d0 := by decide
  h_S_ := by decide

instance : Subsingleton S_.Idx := ⟨fun a b => funext fun k => k.elim0⟩

theorem small_of {x : EReal} (h : Ideal.cmp .ole (max x (-x)) (Ideal.ofBits .f32 0x7F7FFFFF#32) = 1#1) : Row.Small x := by
  unfold Row.Small
  generalize Ideal.ofBits .f32 0x7F7FFFFF#32 = c at h ⊢
  by_contra hn
  unfold Ideal.cmp at h
  simp only [decide_eq_false hn] at h
  exact absurd h (by decide)

variable [Facts]

theorem small (a0 : FVec Ideal S4x2x128x12288 .fp8e4m3) (a1 : FVec Ideal S4x2x128 .f32) (a2 : FVec Ideal S12288 .f32) (a3 : FVec Ideal S2x128x12288 .bf16)
    (a4 a5 : FVec Ideal S12288 .f32) (h : fn (F := Ideal) a0 a1 a2 a3 a4 a5 = fun _ => 1#1) (i : S12288.Idx) : Row.Small (a4 i) ∧ Row.Small (a5 i) := by
  have hj := congrFun h (fun k => k.elim0)
  dsimp only [fn] at hj
  obtain ⟨h4, h5⟩ := IntOp.andi_eq_one.1 hj
  exact ⟨small_of (Host.reduce_andi_all _ _ _ _ _ h4 i), small_of (Host.reduce_andi_all _ _ _ _ _ h5 i)⟩

end Cert.Pre_finite_affine.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Launch
public import proofs.«01_k».proof.Proof.Ideal.Launch
public import proofs.«01_k».proof.Proof.Algebra
public import proofs.«01_k».proof.Proof.Precondition
public import Idealize.ShloMosaic.Adequacy
public import Idealize.ShloMosaic.Init

@[expose] public section

noncomputable section

namespace Cert.Proof

open Idealize.ShloMosaic Idealize.SL.Sem

/-- The kernel and the reference agree wherever the gain and the shift are finite. -/
theorem algebraic : Cert.algebraic_KernelIdeal_ReferenceIdeal_pre_finite_affine
    (hKernelIdeal := Cert.KernelIdeal.Gen.facts) (hReferenceIdeal := Cert.ReferenceIdeal.Gen.facts) (hPre_finite_affine := Cert.Pre_finite_affine.Hand.facts) := by
  intro m g m' g' hpre hagree
  have hs := fun c i => @Cert.Pre_finite_affine.Hand.small Cert.Pre_finite_affine.Hand.facts _ _ _ _ _ _ (hpre c) i
  refine ⟨fun c => Cert.ReferenceIdeal.Gen.out0_6 (Cert.Hand.a0 m c) (Cert.Hand.a1 m c) (Cert.Hand.a2 m c) (Cert.Hand.a3 m c) (Cert.Hand.a4 m c) (Cert.Hand.a5 m c),
    fun c => Cert.ReferenceIdeal.Gen.out0_7 (Cert.Hand.a0 m c) (Cert.Hand.a1 m c) (Cert.Hand.a2 m c) (Cert.Hand.a3 m c) (Cert.Hand.a4 m c) (Cert.Hand.a5 m c),
    fun c => Cert.ReferenceIdeal.Gen.out0_8 (Cert.Hand.a0 m c) (Cert.Hand.a1 m c) (Cert.Hand.a2 m c) (Cert.Hand.a3 m c) (Cert.Hand.a4 m c) (Cert.Hand.a5 m c), ?_, ?_⟩
  · refine (θ_run _ _ _).mono (fun r h c => ?_) (Cert.KernelIdeal.Hand.run m g)
    obtain ⟨ha, h6, h7, h8⟩ := h.1 c
    exact ⟨h6.trans (Cert.Hand.resR_eq m c),
      h7.trans (Cert.Hand.resC_eq m c (fun i => (hs c i).1) (fun i => (hs c i).2)),
      h8.trans (Cert.Hand.resS_eq m c (fun i => (hs c i).1) (fun i => (hs c i).2)), ha⟩
  · refine (θ_run _ _ _).mono (fun r h c => ?_) (Cert.ReferenceIdeal.Hand.run m' g')
    obtain ⟨⟨h6, h7, h8⟩, ha⟩ := h c
    obtain ⟨e0, e1, e2, e3, e4, e5⟩ := hagree c
    unfold Cert.ReferenceIdeal.Hand.A0 Cert.ReferenceIdeal.Hand.A1 Cert.ReferenceIdeal.Hand.A2 Cert.ReferenceIdeal.Hand.A3 Cert.ReferenceIdeal.Hand.A4
      Cert.ReferenceIdeal.Hand.A5 at h6 h7 h8
    rw [e0, e1, e2, e3, e4, e5] at h6 h7 h8
    exact ⟨h6, h7, h8, ha⟩

theorem claim : Cert.Claim := ⟨Cert.Kernel.Gen.facts, Cert.KernelIdeal.Gen.facts, Cert.ReferenceIdeal.Gen.facts, Cert.Pre_finite_affine.Hand.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  IdealRules.named_const.statement Cert.KernelIdeal.κ "inv_d" .f32 0x38AAAAAB#32 ((1 / 12288 : ℝ) : EReal) rfl,
  algebraic⟩

end Cert.Proof

end
